-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_image [hPre_in_image : Cert.Pre_in_image.Facts] (m : (ℓ : Loc Cert.KernelIdeal.nD Cert.KernelIdeal.τ Cert.KernelIdeal.sig) → Buf (Elt Ideal) ℓ) : Prop :=
  ∀ c : Dev Cert.KernelIdeal.nD,
    (Cert.Pre_in_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_image [hPre_in_image : Cert.Pre_in_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_image [hKernelIdeal : Cert.KernelIdeal.Facts] [hPre_in_image : Cert.Pre_in_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_image m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_image [hReferenceIdeal : Cert.ReferenceIdeal.Facts] [hPre_in_image : Cert.Pre_in_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_image [hKernelIdeal : Cert.KernelIdeal.Facts] [hReferenceIdeal : Cert.ReferenceIdeal.Facts] [hPre_in_image : Cert.Pre_in_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_image m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_image : Cert.Pre_in_image.Facts),
    quiescent_Kernel (hKernel := hKernel)
    ∧ quiescent_KernelIdeal (hKernelIdeal := hKernelIdeal)
    ∧ quiescent_KernelIdeal_pre_in_image (hKernelIdeal := hKernelIdeal) (hPre_in_image := hPre_in_image)
    ∧ quiescent_ReferenceIdeal (hReferenceIdeal := hReferenceIdeal)
    ∧ quiescent_ReferenceIdeal_pre_in_image (hReferenceIdeal := hReferenceIdeal) (hPre_in_image := hPre_in_image)
    ∧ preserves_Kernel_KernelIdeal
    ∧ algebraic_KernelIdeal_ReferenceIdeal_pre_in_image (hKernelIdeal := hKernelIdeal) (hReferenceIdeal := hReferenceIdeal) (hPre_in_image := hPre_in_image)
-- ==== Pre_in_image.lean ====
abbrev S4x96x384x384 : Shape := ⟨4, ![4, 96, 384, 384]⟩
abbrev S4x10000x2 : Shape := ⟨3, ![4, 10000, 2]⟩
abbrev S_ : Shape := ⟨0, ![]⟩

class Facts : Prop where
  bcast_S_S4x10000x2 : S_.BroadcastsInDim S4x10000x2 (![] : Fin 0 → Fin S4x10000x2.rank)
  reducesTo_S4x10000x2_S_d0_1_2 : S4x10000x2.ReducesTo [0, 1, 2] S_
  h_S_ : 0 < S_.numel

variable [Facts]

def fn {F : FTy → Type} [FloatOps F] (main_arg0 : FVec F S4x96x384x384 .f32) (main_arg1 : FVec F S4x10000x2 .f32) : IVec S_ 1 :=
  let main_cst : FVec F S_ .f32 := constant S_ .f32 0x00000000#32
  let main_v0 : FVec F S4x10000x2 .f32 := broadcastInDim S4x10000x2 ![] bcast_S_S4x10000x2 main_cst
  let main_v1 : IVec S4x10000x2 1 := cmpf .oge main_arg1 main_v0
  let main_cst_0 : FVec F S_ .f32 := constant S_ .f32 0x43BF8000#32
  let main_v2 : FVec F S4x10000x2 .f32 := broadcastInDim S4x10000x2 ![] bcast_S_S4x10000x2 main_cst_0
  let main_v3 : IVec S4x10000x2 1 := cmpf .ole main_arg1 main_v2
  let main_v4 : IVec S4x10000x2 1 := andi main_v1 main_v3
  let main_c : IVec S_ 1 := constantI S_ 1 1#1
  let main_v5 : IVec S_ 1 := (fun x v => Host.reduce IntOp.andi x v reducesTo_S4x10000x2_S_d0_1_2 h_S_) main_v4 main_c
  main_v5
-- ==== Kernel.lean ====
abbrev S4x96x384x384 : Shape := ⟨4, ![4, 96, 384, 384]⟩
abbrev S4x10000x2 : Shape := ⟨3, ![4, 10000, 2]⟩
abbrev S589824x128 : Shape := ⟨2, ![589824, 128]⟩
abbrev S1x96x16x384 : Shape := ⟨4, ![1, 96, 16, 384]⟩
abbrev S6144x128 : Shape := ⟨2, ![6144, 128]⟩
abbrev S96x16x384 : Shape := ⟨3, ![96, 16, 384]⟩
abbrev S96x6144 : Shape := ⟨2, ![96, 6144]⟩
abbrev S6144x96 : Shape := ⟨2, ![6144, 96]⟩
abbrev S6144x32 : Shape := ⟨2, ![6144, 32]⟩
abbrev S4x10000x1 : Shape := ⟨3, ![4, 10000, 1]⟩
abbrev S4x10000 : Shape := ⟨2, ![4, 10000]⟩
abbrev S40000 : Shape := ⟨1, ![40000]⟩
abbrev S_ : Shape := ⟨0, ![]⟩
abbrev S40960 : Shape := ⟨1, ![40960]⟩
abbrev S40960x96 : Shape := ⟨2, ![40960, 96]⟩
abbrev S1280 : Shape := ⟨1, ![1280]⟩
abbrev S4x64 : Shape := ⟨2, ![4, 64]⟩
abbrev S64x128 : Shape := ⟨2, ![64, 128]⟩
abbrev S64x96 : Shape := ⟨2, ![64, 96]⟩
abbrev S16 : Shape := ⟨1, ![16]⟩
abbrev S1x16 : Shape := ⟨2, ![1, 16]⟩
abbrev S32x128 : Shape := ⟨2, ![32, 128]⟩
abbrev S1x32 : Shape := ⟨2, ![1, 32]⟩
abbrev S32 : Shape := ⟨1, ![32]⟩
abbrev S1 : Shape := ⟨1, ![1]⟩
abbrev S40000x96 : Shape := ⟨2, ![40000, 96]⟩
abbrev S4x10000x96 : Shape := ⟨3, ![4, 10000, 96]⟩

abbrev nBuf : Table → Nat
  | .hbm => 43
  | .local .tc .vmem => 4
  | .local .scVector .vmem => 16
  | _ => 0

abbrev bufTy : (tb : Table) → Fin (nBuf tb) → BufTy
  | .hbm, ⟨0, _⟩ => ⟨S4x96x384x384, .f32⟩
  | .hbm, ⟨1, _⟩ => ⟨S4x10000x2, .f32⟩
  | .hbm, ⟨2, _⟩ => ⟨S589824x128, .f32⟩
  | .hbm, ⟨3, _⟩ => ⟨S4x10000x1, .f32⟩
  | .hbm, ⟨4, _⟩ => ⟨S4x10000, .f32⟩
  | .hbm, ⟨5, _⟩ => ⟨S40000, .f32⟩
  | .hbm, ⟨6, _⟩ => ⟨S_, .i32⟩
  | .hbm, ⟨7, _⟩ => ⟨S_, .f32⟩
  | .hbm, ⟨8, _⟩ => ⟨S40960, .f32⟩
  | .hbm, ⟨9, _⟩ => ⟨S4x10000x1, .f32⟩
  | .hbm, ⟨10, _⟩ => ⟨S4x10000, .f32⟩
  | .hbm, ⟨11, _⟩ => ⟨S40000, .f32⟩
  | .hbm, ⟨12, _⟩ => ⟨S_, .i32⟩
  | .hbm, ⟨13, _⟩ => ⟨S_, .f32⟩
  | .hbm, ⟨14, _⟩ => ⟨S40960, .f32⟩
  | .hbm, ⟨15, _⟩ => ⟨S40960, .i32⟩
  | .hbm, ⟨16, _⟩ => ⟨S_, .i32⟩
  | .hbm, ⟨17, _⟩ => ⟨S40960, .i32⟩
  | .hbm, ⟨18, _⟩ => ⟨S40960, .i32⟩
  | .hbm, ⟨19, _⟩ => ⟨S_, .i32⟩
  | .hbm, ⟨20, _⟩ => ⟨S_, .i32⟩
  | .hbm, ⟨21, _⟩ => ⟨S40960, .i32⟩
  | .hbm, ⟨22, _⟩ => ⟨S40960, .i32⟩
  | .hbm, ⟨23, _⟩ => ⟨S40960, .i32⟩
  | .hbm, ⟨24, _⟩ => ⟨S_, .i32⟩
  | .hbm, ⟨25, _⟩ => ⟨S40960, .i32⟩
  | .hbm, ⟨26, _⟩ => ⟨S40960, .i1⟩
  | .hbm, ⟨27, _⟩ => ⟨S40960, .i32⟩
  | .hbm, ⟨28, _⟩ => ⟨S40960, .i32⟩
  | .hbm, ⟨29, _⟩ => ⟨S_, .i32⟩
  | .hbm, ⟨30, _⟩ => ⟨S40960, .i32⟩
  | .hbm, ⟨31, _⟩ => ⟨S40960, .i1⟩
  | .hbm, ⟨32, _⟩ => ⟨S40960, .i1⟩
  | .hbm, ⟨33, _⟩ => ⟨S_, .i32⟩
  | .hbm, ⟨34, _⟩ => ⟨S40960, .i32⟩
  | .hbm, ⟨35, _⟩ => ⟨S40960, .i32⟩
  | .hbm, ⟨36, _⟩ => ⟨S40960, .i32⟩
  | .hbm, ⟨37, _⟩ => ⟨S_, .i32⟩
  | .hbm, ⟨38, _⟩ => ⟨S40960, .i32⟩
  | .hbm, ⟨39, _⟩ => ⟨S40960, .i32⟩
  | .hbm, ⟨40, _⟩ => ⟨S40960x96, .f32⟩
  | .hbm, ⟨41, _⟩ => ⟨S40000x96, .f32⟩
  | .hbm, ⟨42, _⟩ => ⟨S4x10000x96, .f32⟩
  | .local .tc .vmem, ⟨0, _⟩ => ⟨S1x96x16x384, .f32⟩
  | .local .tc .vmem, ⟨1, _⟩ => ⟨S1x96x16x384, .f32⟩
  | .local .tc .vmem, ⟨2, _⟩ => ⟨S6144x128, .f32⟩
  | .local .tc .vmem, ⟨3, _⟩ => ⟨S6144x128, .f32⟩
  | .local .scVector .vmem, ⟨0, _⟩ => ⟨S1280, .f32⟩
  | .local .scVector .vmem, ⟨1, _⟩ => ⟨S1280, .f32⟩
  | .local .scVector .vmem, ⟨2, _⟩ => ⟨S1280, .i32⟩
  | .local .scVector .vmem, ⟨3, _⟩ => ⟨S4x64, .i32⟩
  | .local .scVector .vmem, ⟨4, _⟩ => ⟨S4x64, .i32⟩
  | .local .scVector .vmem, ⟨5, _⟩ => ⟨S4x64, .f32⟩
  | .local .scVector .vmem, ⟨6, _⟩ => ⟨S4x64, .f32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | .local .scVector .vmem, ⟨10, _⟩ => ⟨S64x128, .f32⟩
  | .local .scVector .vmem, ⟨11, _⟩ => ⟨S64x128, .f32⟩
  | .local .scVector .vmem, ⟨12, _⟩ => ⟨S64x128, .f32⟩
  | .local .scVector .vmem, ⟨13, _⟩ => ⟨S64x128, .f32⟩
  | .local .scVector .vmem, ⟨14, _⟩ => ⟨S64x128, .f32⟩
  | .local .scVector .vmem, ⟨15, _⟩ => ⟨S64x96, .f32⟩
  | _, _ => ⟨S4x96x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_c : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_0 : Ref sig .tc := ⟨.hbm, 33, rfl⟩
abbrev main_call2_v12 : Ref sig .tc := ⟨.hbm, 34, rfl⟩
abbrev main_call2_v13 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v0_scv : Ref sig .scVector := ⟨.hbm, 2, rfl⟩
abbrev main_v4_scv : Ref sig .scVector := ⟨.hbm, 8, rfl⟩
abbrev main_v8_scv : Ref sig .scVector := ⟨.hbm, 14, rfl⟩
abbrev main_v14_scv : Ref sig .scVector := ⟨.hbm, 39, rfl⟩
abbrev main_v15_scv : Ref sig .scVector := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc1_scratch14 : Ref sig .scVector := ⟨.vmem, 14, rfl⟩
abbrev cc1_scratch15 : Ref sig .scVector := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 24], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x96x16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6144x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1280_i32 : BitVec 32 := 1280#32
  let v2 : BitVec 32 := Scalar.muli v1 c1280_i32
  ![v2.toNat]
@[reducible] def k1_t1_loop : Scf.Loop 32 :=
  let c0_i32_297 : BitVec 32 := 0#32
  let c10_i32 : BitVec 32 := 10#32
  let v659 : BitVec 32 := Scalar.addi c0_i32_297 c10_i32
  let c1_i32_298 : BitVec 32 := 1#32
  ⟨c0_i32_297, v659, c1_i32_298⟩
def k1_off2 (k1_t1 : Fin k1_t1_loop.trips) (c0_i32_302 : BitVec 32) : Fin 1 → Nat :=
  let c0_i32_297 : BitVec 32 := 0#32
  let c1_i32_298 : BitVec 32 := 1#32
  let arg31 : BitVec 32 := Scf.iv c0_i32_297 c1_i32_298 k1_t1
  let c2_i32_300 : BitVec 32 := 2#32
  let v660 : BitVec 32 := Scalar.muli arg31 c2_i32_300
  let c1_i32_301 : BitVec 32 := 1#32
  let v661 : BitVec 32 := Scalar.addi v660 c1_i32_301
  let c64_i32 : BitVec 32 := 64#32
  let v662 : BitVec 32 := Scalar.muli v661 c64_i32
  let v663 : BitVec 32 := Scalar.addi v662 c0_i32_302
  let v664 : Index := Scalar.indexCast v663
  ![v664.toNat]
@[reducible] def k1_t2_loop : Scf.Loop 32 :=
  let c0_i32_650 : BitVec 32 := 0#32
  let c4_i32 : BitVec 32 := 4#32
  let v1367 : BitVec 32 := Scalar.addi c0_i32_650 c4_i32
  let c1_i32_651 : BitVec 32 := 1#32
  ⟨c0_i32_650, v1367, c1_i32_651⟩
def k1_off3 (k1_t2 : Fin k1_t2_loop.trips) : Fin 2 → Nat :=
  let c0_i32_711 : BitVec 32 := 0#32
  let v1410 : Index := Scalar.indexCast c0_i32_711
  let c0_i32_650 : BitVec 32 := 0#32
  let c1_i32_651 : BitVec 32 := 1#32
  let arg32 : BitVec 32 := Scf.iv c0_i32_650 c1_i32_651 k1_t2
  let c16_i32_710 : BitVec 32 := 16#32
  let v1409 : BitVec 32 := Scalar.muli arg32 c16_i32_710
  let v1411 : Index := Scalar.indexCast v1409
  ![0, v1411.toNat]
def k1_off4 (k1_t2 : Fin k1_t2_loop.trips) : Fin 2 → Nat :=
  let c1_i32_712 : BitVec 32 := 1#32
  let v1414 : Index := Scalar.indexCast c1_i32_712
  let c0_i32_650 : BitVec 32 := 0#32
  let c1_i32_651 : BitVec 32 := 1#32
  let arg32 : BitVec 32 := Scf.iv c0_i32_650 c1_i32_651 k1_t2
  let c16_i32_710 : BitVec 32 := 16#32
  let v1409 : BitVec 32 := Scalar.muli arg32 c16_i32_710
  let v1415 : Index := Scalar.indexCast v1409
  ![1, v1415.toNat]
def k1_off5 (k1_t2 : Fin k1_t2_loop.trips) : Fin 2 → Nat :=
  let c2_i32_713 : BitVec 32 := 2#32
  let v1418 : Index := Scalar.indexCast c2_i32_713
  let c0_i32_650 : BitVec 32 := 0#32
  let c1_i32_651 : BitVec 32 := 1#32
  let arg32 : BitVec 32 := Scf.iv c0_i32_650 c1_i32_651 k1_t2
  let c16_i32_710 : BitVec 32 := 16#32
  let v1409 : BitVec 32 := Scalar.muli arg32 c16_i32_710
  let v1419 : Index := Scalar.indexCast v1409
  ![2, v1419.toNat]
def k1_off6 (k1_t2 : Fin k1_t2_loop.trips) : Fin 2 → Nat :=
  let c3_i32_714 : BitVec 32 := 3#32
  let v1422 : Index := Scalar.indexCast c3_i32_714
  let c0_i32_650 : BitVec 32 := 0#32
  let c1_i32_651 : BitVec 32 := 1#32
  let arg32 : BitVec 32 := Scf.iv c0_i32_650 c1_i32_651 k1_t2
  let c16_i32_710 : BitVec 32 := 16#32
  let v1409 : BitVec 32 := Scalar.muli arg32 c16_i32_710
  let v1423 : Index := Scalar.indexCast v1409
  ![3, v1423.toNat]
def k1_off7 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1436 : Index := Scalar.indexCast v1427
  let c0_717 : Index := 0#32
  ![v1436.toNat, 0]
def k1_off8 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1459 : Index := Scalar.indexCast v1427
  let c0_721 : Index := 0#32
  ![v1459.toNat, 0]
def k1_off9 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1463 : Index := Scalar.indexCast v1427
  let c16_722 : Index := 16#32
  ![v1463.toNat, 16]
def k1_off10 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1486 : Index := Scalar.indexCast v1427
  let c16_726 : Index := 16#32
  ![v1486.toNat, 16]
def k1_off11 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1490 : Index := Scalar.indexCast v1427
  let c32_727 : Index := 32#32
  ![v1490.toNat, 32]
def k1_off12 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1513 : Index := Scalar.indexCast v1427
  let c32_731 : Index := 32#32
  ![v1513.toNat, 32]
def k1_off13 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1517 : Index := Scalar.indexCast v1427
  let c48_732 : Index := 48#32
  ![v1517.toNat, 48]
def k1_off14 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1540 : Index := Scalar.indexCast v1427
  let c48_736 : Index := 48#32
  ![v1540.toNat, 48]
def k1_off15 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1544 : Index := Scalar.indexCast v1427
  let c64 : Index := 64#32
  ![v1544.toNat, 64]
def k1_off16 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1567 : Index := Scalar.indexCast v1427
  let c64_740 : Index := 64#32
  ![v1567.toNat, 64]
def k1_off17 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1571 : Index := Scalar.indexCast v1427
  let c80 : Index := 80#32
  ![v1571.toNat, 80]
def k1_off18 (k1_t2 : Fin k1_t2_loop.trips) (c0_i32_716 : BitVec 32) : Fin 2 → Nat :=
  let c0_i32_650 : BitVec 32 := 0#32
  let c1_i32_651 : BitVec 32 := 1#32
  let arg32 : BitVec 32 := Scf.iv c0_i32_650 c1_i32_651 k1_t2
  let c16_i32_715 : BitVec 32 := 16#32
  let v1426 : BitVec 32 := Scalar.muli arg32 c16_i32_715
  let v1427 : BitVec 32 := Scalar.addi v1426 c0_i32_716
  let v1594 : Index := Scalar.indexCast v1427
  let c80_744 : Index := 80#32
  ![v1594.toNat, 80]
def k1_off19 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1280_i32 : BitVec 32 := 1280#32
  let v2 : BitVec 32 := Scalar.muli v1 c1280_i32
  let c0_i32_297 : BitVec 32 := 0#32
  let c1_i32_298 : BitVec 32 := 1#32
  let arg31 : BitVec 32 := Scf.iv c0_i32_297 c1_i32_298 k1_t1
  let c2_i32_300 : BitVec 32 := 2#32
  let v660 : BitVec 32 := Scalar.muli arg31 c2_i32_300
  let c64_i32_653 : BitVec 32 := 64#32
  let v1368 : BitVec 32 := Scalar.muli v660 c64_i32_653
  let v1369 : BitVec 32 := Scalar.addi v2 v1368
  let c0_i32_710_r3 : BitVec 32 := 0#32
  ![v1369.toNat, 0]
def k1_cond1 (k1_t1 : Fin k1_t1_loop.trips) : BitVec 1 :=
  let c0_i32_297 : BitVec 32 := 0#32
  let c1_i32_298 : BitVec 32 := 1#32
  let arg31 : BitVec 32 := Scf.iv c0_i32_297 c1_i32_298 k1_t1
  let c9_i32 : BitVec 32 := 9#32
  let v1370 : BitVec 1 := Scalar.cmpi .slt arg31 c9_i32
  let v1371 : BitVec 32 := Scalar.extui v1370
  let c0_i32_654 : BitVec 32 := 0#32
  let v1372 : BitVec 1 := Scalar.cmpi .ne v1371 c0_i32_654
  v1372

def k1_off20 (k1_t1 : Fin k1_t1_loop.trips) (c0_i32_712 : BitVec 32) : Fin 1 → Nat :=
  let c0_i32_297 : BitVec 32 := 0#32
  let c1_i32_298 : BitVec 32 := 1#32
  let arg31 : BitVec 32 := Scf.iv c0_i32_297 c1_i32_298 k1_t1
  let c2_i32_300 : BitVec 32 := 2#32
  let v660 : BitVec 32 := Scalar.muli arg31 c2_i32_300
  let c2_i32_710 : BitVec 32 := 2#32
  let v1409 : BitVec 32 := Scalar.addi v660 c2_i32_710
  let c64_i32_711 : BitVec 32 := 64#32
  let v1410 : BitVec 32 := Scalar.muli v1409 c64_i32_711
  let v1411 : BitVec 32 := Scalar.addi v1410 c0_i32_712
  let v1412 : Index := Scalar.indexCast v1411
  ![v1412.toNat]
@[reducible] def k1_t3_loop : Scf.Loop 32 :=
  let c0_i32_705 : BitVec 32 := 0#32
  let c4_i32_706 : BitVec 32 := 4#32
  let v1406 : BitVec 32 := Scalar.addi c0_i32_705 c4_i32_706
  let c1_i32_707 : BitVec 32 := 1#32
  ⟨c0_i32_705, v1406, c1_i32_707⟩
def k1_off21 (k1_t3 : Fin k1_t3_loop.trips) : Fin 2 → Nat :=
  let c0_i32_711 : BitVec 32 := 0#32
  let v1410 : Index := Scalar.indexCast c0_i32_711
  let c0_i32_705 : BitVec 32 := 0#32
  let c1_i32_707 : BitVec 32 := 1#32
  let arg32 : BitVec 32 := Scf.iv c0_i32_705 c1_i32_707 k1_t3
  let c16_i32_710 : BitVec 32 := 16#32
  let v1409 : BitVec 32 := Scalar.muli arg32 c16_i32_710
  let v1411 : Index := Scalar.indexCast v1409
  ![0, v1411.toNat]
def k1_off22 (k1_t3 : Fin k1_t3_loop.trips) : Fin 2 → Nat :=
  let c1_i32_712 : BitVec 32 := 1#32
  let v1414 : Index := Scalar.indexCast c1_i32_712
  let c0_i32_705 : BitVec 32 := 0#32
  let c1_i32_707 : BitVec 32 := 1#32
  let arg32 : BitVec 32 := Scf.iv c0_i32_705 c1_i32_707 k1_t3
  let c16_i32_710 : BitVec 32 := 16#32
  let v1409 : BitVec 32 := Scalar.muli arg32 c16_i32_710
  let v1415 : Index := Scalar.indexCast v1409
  ![1, v1415.toNat]
def k1_off23 (k1_t3 : Fin k1_t3_loop.trips) : Fin 2 → Nat :=
  let c2_i32_713 : BitVec 32 := 2#32
  let v1418 : Index := Scalar.indexCast c2_i32_713
  let c0_i32_705 : BitVec 32 := 0#32
  let c1_i32_707 : BitVec 32 := 1#32
  let arg32 : BitVec 32 := Scf.iv c0_i32_705 c1_i32_707 k1_t3
  let c16_i32_710 : BitVec 32 := 16#32
  let v1409 : BitVec 32 := Scalar.muli arg32 c16_i32_710
  let v1419 : Index := Scalar.indexCast v1409
  ![2, v1419.toNat]
def k1_off24 (k1_t3 : Fin k1_t3_loop.trips) : Fin 2 → Nat :=
  let c3_i32_714 : BitVec 32 := 3#32
  let v1422 : Index := Scalar.indexCast c3_i32_714
  let c0_i32_705 : BitVec 32 := 0#32
  let c1_i32_707 : BitVec 32 := 1#32
  let arg32 : BitVec 32 := Scf.iv c0_i32_705 c1_i32_707 k1_t3
  let c16_i32_710 : BitVec 32 := 16#32
  let v1409 : BitVec 32 := Scalar.muli arg32 c16_i32_710
  let v1423 : Index := Scalar.indexCast v1409
  ![3, v1423.toNat]
def k1_off25 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1436 : Index := Scalar.indexCast v1427
  let c0_717 : Index := 0#32
  ![v1436.toNat, 0]
def k1_off26 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1459 : Index := Scalar.indexCast v1427
  let c0_721 : Index := 0#32
  ![v1459.toNat, 0]
def k1_off27 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1463 : Index := Scalar.indexCast v1427
  let c16_722 : Index := 16#32
  ![v1463.toNat, 16]
def k1_off28 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1486 : Index := Scalar.indexCast v1427
  let c16_726 : Index := 16#32
  ![v1486.toNat, 16]
def k1_off29 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1490 : Index := Scalar.indexCast v1427
  let c32_727 : Index := 32#32
  ![v1490.toNat, 32]
def k1_off30 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1513 : Index := Scalar.indexCast v1427
  let c32_731 : Index := 32#32
  ![v1513.toNat, 32]
def k1_off31 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1517 : Index := Scalar.indexCast v1427
  let c48_732 : Index := 48#32
  ![v1517.toNat, 48]
def k1_off32 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1540 : Index := Scalar.indexCast v1427
  let c48_736 : Index := 48#32
  ![v1540.toNat, 48]
def k1_off33 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1544 : Index := Scalar.indexCast v1427
  let c64 : Index := 64#32
  ![v1544.toNat, 64]
def k1_off34 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1567 : Index := Scalar.indexCast v1427
  let c64_740 : Index := 64#32
  ![v1567.toNat, 64]
def k1_off35 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1571 : Index := Scalar.indexCast v1427
  let c80 : Index := 80#32
  ![v1571.toNat, 80]
def k1_off36 (k1_t3 : Fin k1_t3_loop.trips) (c0_i32_716 : BitVec 32) : Fin 2 → Nat :=
  let c0_i32_705 : BitVec 32 := 0#32
  let c1_i32_707 : BitVec 32 := 1#32
  let arg32 : BitVec 32 := Scf.iv c0_i32_705 c1_i32_707 k1_t3
  let c16_i32_715 : BitVec 32 := 16#32
  let v1426 : BitVec 32 := Scalar.muli arg32 c16_i32_715
  let v1427 : BitVec 32 := Scalar.addi v1426 c0_i32_716
  let v1594 : Index := Scalar.indexCast v1427
  let c80_744 : Index := 80#32
  ![v1594.toNat, 80]
def k1_off37 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1280_i32 : BitVec 32 := 1280#32
  let v2 : BitVec 32 := Scalar.muli v1 c1280_i32
  let c0_i32_297 : BitVec 32 := 0#32
  let c1_i32_298 : BitVec 32 := 1#32
  let arg31 : BitVec 32 := Scf.iv c0_i32_297 c1_i32_298 k1_t1
  let c2_i32_300 : BitVec 32 := 2#32
  let v660 : BitVec 32 := Scalar.muli arg31 c2_i32_300
  let c1_i32_703 : BitVec 32 := 1#32
  let v1405 : BitVec 32 := Scalar.addi v660 c1_i32_703
  let c64_i32_709 : BitVec 32 := 64#32
  let v1407 : BitVec 32 := Scalar.muli v1405 c64_i32_709
  let v1408 : BitVec 32 := Scalar.addi v2 v1407
  let c0_i32_710_r4 : BitVec 32 := 0#32
  ![v1408.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x384x384 : Shape := ⟨4, ![4, 96, 384, 384]⟩
abbrev S4x10000x2 : Shape := ⟨3, ![4, 10000, 2]⟩
abbrev S2 : Shape := ⟨1, ![2]⟩
abbrev S1x1x2 : Shape := ⟨3, ![1, 1, 2]⟩
abbrev S_ : Shape := ⟨0, ![]⟩
abbrev S4x10000x1 : Shape := ⟨3, ![4, 10000, 1]⟩
abbrev S4x10000 : Shape := ⟨2, ![4, 10000]⟩
abbrev S4x96x10000 : Shape := ⟨3, ![4, 96, 10000]⟩
abbrev S4x1x10000 : Shape := ⟨3, ![4, 1, 10000]⟩
abbrev S4x10000x96 : Shape := ⟨3, ![4, 10000, 96]⟩

abbrev nBuf : Space → Nat
  | .hbm => 296
  | .vmem => 0
  | .smem => 0
  | _ => 0

abbrev hbmTy0_0 (i : Nat) : BufTy := match i % 128 with
  | 0 => ⟨S4x96x384x384, .f32⟩
  | 1 => ⟨S4x10000x2, .f32⟩
  | 2 => ⟨S2, .f32⟩
  | 3 => ⟨S1x1x2, .f32⟩
  | 4 => ⟨S4x10000x2, .f32⟩
  | 5 => ⟨S4x10000x2, .f32⟩
  | 6 => ⟨S_, .f32⟩
  | 7 => ⟨S4x10000x2, .f32⟩
  | 8 => ⟨S4x10000x2, .f32⟩
  | 9 => ⟨S_, .f32⟩
  | 10 => ⟨S4x10000x2, .f32⟩
  | 11 => ⟨S4x10000x2, .f32⟩
  | 12 => ⟨S4x10000x1, .f32⟩
  | 13 => ⟨S4x10000, .f32⟩
  | 14 => ⟨S4x10000x1, .f32⟩
  | 15 => ⟨S4x10000, .f32⟩
  | 16 => ⟨S_, .f32⟩
  | 17 => ⟨S4x10000, .f32⟩
  | 18 => ⟨S4x10000, .f32⟩
  | 19 => ⟨S_, .f32⟩
  | 20 => ⟨S4x10000, .f32⟩
  | 21 => ⟨S4x10000, .f32⟩
  | 22 => ⟨S_, .f32⟩
  | 23 => ⟨S4x10000, .f32⟩
  | 24 => ⟨S4x10000, .f32⟩
  | 25 => ⟨S_, .f32⟩
  | 26 => ⟨S4x10000, .f32⟩
  | 27 => ⟨S4x10000, .f32⟩
  | 28 => ⟨S_, .f32⟩
  | 29 => ⟨S4x10000, .f32⟩
  | 30 => ⟨S4x10000, .f32⟩
  | 31 => ⟨S_, .f32⟩
  | 32 => ⟨S4x10000, .f32⟩
  | 33 => ⟨S4x10000, .f32⟩
  | 34 => ⟨S_, .f32⟩
  | 35 => ⟨S4x10000, .f32⟩
  | 36 => ⟨S4x10000, .f32⟩
  | 37 => ⟨S_, .f32⟩
  | 38 => ⟨S4x10000, .f32⟩
  | 39 => ⟨S4x10000, .f32⟩
  | 40 => ⟨S4x10000, .f32⟩
  | 41 => ⟨S4x10000, .f32⟩
  | 42 => ⟨S_, .f32⟩
  | 43 => ⟨S4x10000, .f32⟩
  | 44 => ⟨S4x10000, .f32⟩
  | 45 => ⟨S_, .f32⟩
  | 46 => ⟨S4x10000, .f32⟩
  | 47 => ⟨S4x10000, .f32⟩
  | 48 => ⟨S4x10000, .f32⟩
  | 49 => ⟨S_, .f32⟩
  | 50 => ⟨S4x10000, .f32⟩
  | 51 => ⟨S4x10000, .f32⟩
  | 52 => ⟨S4x10000, .f32⟩
  | 53 => ⟨S_, .f32⟩
  | 54 => ⟨S4x10000, .f32⟩
  | 55 => ⟨S4x10000, .f32⟩
  | 56 => ⟨S_, .f32⟩
  | 57 => ⟨S4x10000, .f32⟩
  | 58 => ⟨S4x10000, .i1⟩
  | 59 => ⟨S_, .f32⟩
  | 60 => ⟨S4x10000, .f32⟩
  | 61 => ⟨S4x10000, .i1⟩
  | 62 => ⟨S4x10000, .i1⟩
  | 63 => ⟨S_, .f32⟩
  | 64 => ⟨S4x10000, .f32⟩
  | 65 => ⟨S4x10000, .i1⟩
  | 66 => ⟨S4x10000, .i1⟩
  | 67 => ⟨S_, .f32⟩
  | 68 => ⟨S4x10000, .f32⟩
  | 69 => ⟨S4x10000, .i1⟩
  | 70 => ⟨S4x10000, .i1⟩
  | 71 => ⟨S4x10000, .f32⟩
  | 72 => ⟨S_, .i32⟩
  | 73 => ⟨S_, .i32⟩
  | 74 => ⟨S_, .f32⟩
  | 75 => ⟨S4x10000, .f32⟩
  | 76 => ⟨S4x10000, .f32⟩
  | 77 => ⟨S_, .f32⟩
  | 78 => ⟨S4x10000, .f32⟩
  | 79 => ⟨S4x10000, .f32⟩
  | 80 => ⟨S4x10000, .i32⟩
  | 81 => ⟨S_, .i32⟩
  | 82 => ⟨S_, .i32⟩
  | 83 => ⟨S_, .f32⟩
  | 84 => ⟨S4x10000, .f32⟩
  | 85 => ⟨S4x10000, .f32⟩
  | 86 => ⟨S_, .f32⟩
  | 87 => ⟨S4x10000, .f32⟩
  | 88 => ⟨S4x10000, .f32⟩
  | 89 => ⟨S4x10000, .i32⟩
  | 90 => ⟨S_, .i32⟩
  | 91 => ⟨S4x10000, .i32⟩
  | 92 => ⟨S4x10000, .i1⟩
  | 93 => ⟨S_, .i32⟩
  | 94 => ⟨S4x10000, .i32⟩
  | 95 => ⟨S4x10000, .i32⟩
  | 96 => ⟨S4x10000, .i32⟩
  | 97 => ⟨S_, .i32⟩
  | 98 => ⟨S4x10000, .i32⟩
  | 99 => ⟨S4x10000, .i1⟩
  | 100 => ⟨S_, .i32⟩
  | 101 => ⟨S4x10000, .i32⟩
  | 102 => ⟨S4x10000, .i32⟩
  | 103 => ⟨S4x10000, .i32⟩
  | 104 => ⟨S4x10000x1, .i32⟩
  | 105 => ⟨S4x10000x1, .i32⟩
  | 106 => ⟨S4x10000x2, .i32⟩
  | 107 => ⟨S4x96x10000, .f32⟩
  | 108 => ⟨S4x1x10000, .f32⟩
  | 109 => ⟨S4x96x10000, .f32⟩
  | 110 => ⟨S4x96x10000, .f32⟩
  | 111 => ⟨S4x10000, .f32⟩
  | 112 => ⟨S4x1x10000, .f32⟩
  | 113 => ⟨S4x96x10000, .f32⟩
  | 114 => ⟨S4x96x10000, .f32⟩
  | 115 => ⟨S_, .f32⟩
  | 116 => ⟨S4x10000, .f32⟩
  | 117 => ⟨S4x10000, .i1⟩
  | 118 => ⟨S_, .f32⟩
  | 119 => ⟨S4x10000, .f32⟩
  | 120 => ⟨S4x10000, .i1⟩
  | 121 => ⟨S4x10000, .i1⟩
  | 122 => ⟨S_, .f32⟩
  | 123 => ⟨S4x10000, .f32⟩
  | 124 => ⟨S4x10000, .i1⟩
  | 125 => ⟨S4x10000, .i1⟩
  | 126 => ⟨S_, .f32⟩
  | 127 => ⟨S4x10000, .f32⟩
  | _ => ⟨S4x96x384x384, .f32⟩

abbrev hbmTy0_1 (i : Nat) : BufTy := match i % 128 with
  | 0 => ⟨S4x10000, .i1⟩
  | 1 => ⟨S4x10000, .i1⟩
  | 2 => ⟨S4x10000, .f32⟩
  | 3 => ⟨S_, .i32⟩
  | 4 => ⟨S_, .i32⟩
  | 5 => ⟨S_, .f32⟩
  | 6 => ⟨S4x10000, .f32⟩
  | 7 => ⟨S4x10000, .f32⟩
  | 8 => ⟨S_, .f32⟩
  | 9 => ⟨S4x10000, .f32⟩
  | 10 => ⟨S4x10000, .f32⟩
  | 11 => ⟨S4x10000, .i32⟩
  | 12 => ⟨S_, .i32⟩
  | 13 => ⟨S_, .i32⟩
  | 14 => ⟨S_, .f32⟩
  | 15 => ⟨S4x10000, .f32⟩
  | 16 => ⟨S4x10000, .f32⟩
  | 17 => ⟨S_, .f32⟩
  | 18 => ⟨S4x10000, .f32⟩
  | 19 => ⟨S4x10000, .f32⟩
  | 20 => ⟨S4x10000, .i32⟩
  | 21 => ⟨S_, .i32⟩
  | 22 => ⟨S4x10000, .i32⟩
  | 23 => ⟨S4x10000, .i1⟩
  | 24 => ⟨S_, .i32⟩
  | 25 => ⟨S4x10000, .i32⟩
  | 26 => ⟨S4x10000, .i32⟩
  | 27 => ⟨S4x10000, .i32⟩
  | 28 => ⟨S_, .i32⟩
  | 29 => ⟨S4x10000, .i32⟩
  | 30 => ⟨S4x10000, .i1⟩
  | 31 => ⟨S_, .i32⟩
  | 32 => ⟨S4x10000, .i32⟩
  | 33 => ⟨S4x10000, .i32⟩
  | 34 => ⟨S4x10000, .i32⟩
  | 35 => ⟨S4x10000x1, .i32⟩
  | 36 => ⟨S4x10000x1, .i32⟩
  | 37 => ⟨S4x10000x2, .i32⟩
  | 38 => ⟨S4x96x10000, .f32⟩
  | 39 => ⟨S4x1x10000, .f32⟩
  | 40 => ⟨S4x96x10000, .f32⟩
  | 41 => ⟨S4x96x10000, .f32⟩
  | 42 => ⟨S4x10000, .f32⟩
  | 43 => ⟨S4x1x10000, .f32⟩
  | 44 => ⟨S4x96x10000, .f32⟩
  | 45 => ⟨S4x96x10000, .f32⟩
  | 46 => ⟨S4x96x10000, .f32⟩
  | 47 => ⟨S_, .f32⟩
  | 48 => ⟨S4x10000, .f32⟩
  | 49 => ⟨S4x10000, .i1⟩
  | 50 => ⟨S_, .f32⟩
  | 51 => ⟨S4x10000, .f32⟩
  | 52 => ⟨S4x10000, .i1⟩
  | 53 => ⟨S4x10000, .i1⟩
  | 54 => ⟨S_, .f32⟩
  | 55 => ⟨S4x10000, .f32⟩
  | 56 => ⟨S4x10000, .i1⟩
  | 57 => ⟨S4x10000, .i1⟩
  | 58 => ⟨S_, .f32⟩
  | 59 => ⟨S4x10000, .f32⟩
  | 60 => ⟨S4x10000, .i1⟩
  | 61 => ⟨S4x10000, .i1⟩
  | 62 => ⟨S4x10000, .f32⟩
  | 63 => ⟨S_, .i32⟩
  | 64 => ⟨S_, .i32⟩
  | 65 => ⟨S_, .f32⟩
  | 66 => ⟨S4x10000, .f32⟩
  | 67 => ⟨S4x10000, .f32⟩
  | 68 => ⟨S_, .f32⟩
  | 69 => ⟨S4x10000, .f32⟩
  | 70 => ⟨S4x10000, .f32⟩
  | 71 => ⟨S4x10000, .i32⟩
  | 72 => ⟨S_, .i32⟩
  | 73 => ⟨S_, .i32⟩
  | 74 => ⟨S_, .f32⟩
  | 75 => ⟨S4x10000, .f32⟩
  | 76 => ⟨S4x10000, .f32⟩
  | 77 => ⟨S_, .f32⟩
  | 78 => ⟨S4x10000, .f32⟩
  | 79 => ⟨S4x10000, .f32⟩
  | 80 => ⟨S4x10000, .i32⟩
  | 81 => ⟨S_, .i32⟩
  | 82 => ⟨S4x10000, .i32⟩
  | 83 => ⟨S4x10000, .i1⟩
  | 84 => ⟨S_, .i32⟩
  | 85 => ⟨S4x10000, .i32⟩
  | 86 => ⟨S4x10000, .i32⟩
  | 87 => ⟨S4x10000, .i32⟩
  | 88 => ⟨S_, .i32⟩
  | 89 => ⟨S4x10000, .i32⟩
  | 90 => ⟨S4x10000, .i1⟩
  | 91 => ⟨S_, .i32⟩
  | 92 => ⟨S4x10000, .i32⟩
  | 93 => ⟨S4x10000, .i32⟩
  | 94 => ⟨S4x10000, .i32⟩
  | 95 => ⟨S4x10000x1, .i32⟩
  | 96 => ⟨S4x10000x1, .i32⟩
  | 97 => ⟨S4x10000x2, .i32⟩
  | 98 => ⟨S4x96x10000, .f32⟩
  | 99 => ⟨S4x1x10000, .f32⟩
  | 100 => ⟨S4x96x10000, .f32⟩
  | 101 => ⟨S4x96x10000, .f32⟩
  | 102 => ⟨S4x10000, .f32⟩
  | 103 => ⟨S4x1x10000, .f32⟩
  | 104 => ⟨S4x96x10000, .f32⟩
  | 105 => ⟨S4x96x10000, .f32⟩
  | 106 => ⟨S4x96x10000, .f32⟩
  | 107 => ⟨S_, .f32⟩
  | 108 => ⟨S4x10000, .f32⟩
  | 109 => ⟨S4x10000, .i1⟩
  | 110 => ⟨S_, .f32⟩
  | 111 => ⟨S4x10000, .f32⟩
  | 112 => ⟨S4x10000, .i1⟩
  | 113 => ⟨S4x10000, .i1⟩
  | 114 => ⟨S_, .f32⟩
  | 115 => ⟨S4x10000, .f32⟩
  | 116 => ⟨S4x10000, .i1⟩
  | 117 => ⟨S4x10000, .i1⟩
  | 118 => ⟨S_, .f32⟩
  | 119 => ⟨S4x10000, .f32⟩
  | 120 => ⟨S4x10000, .i1⟩
  | 121 => ⟨S4x10000, .i1⟩
  | 122 => ⟨S4x10000, .f32⟩
  | 123 => ⟨S_, .i32⟩
  | 124 => ⟨S_, .i32⟩
  | 125 => ⟨S_, .f32⟩
  | 126 => ⟨S4x10000, .f32⟩
  | 127 => ⟨S4x10000, .f32⟩
  | _ => ⟨S4x96x384x384, .f32⟩

abbrev hbmTy0_2 (i : Nat) : BufTy := match i % 128 with
  | 0 => ⟨S_, .f32⟩
  | 1 => ⟨S4x10000, .f32⟩
  | 2 => ⟨S4x10000, .f32⟩
  | 3 => ⟨S4x10000, .i32⟩
  | 4 => ⟨S_, .i32⟩
  | 5 => ⟨S_, .i32⟩
  | 6 => ⟨S_, .f32⟩
  | 7 => ⟨S4x10000, .f32⟩
  | 8 => ⟨S4x10000, .f32⟩
  | 9 => ⟨S_, .f32⟩
  | 10 => ⟨S4x10000, .f32⟩
  | 11 => ⟨S4x10000, .f32⟩
  | 12 => ⟨S4x10000, .i32⟩
  | 13 => ⟨S_, .i32⟩
  | 14 => ⟨S4x10000, .i32⟩
  | 15 => ⟨S4x10000, .i1⟩
  | 16 => ⟨S_, .i32⟩
  | 17 => ⟨S4x10000, .i32⟩
  | 18 => ⟨S4x10000, .i32⟩
  | 19 => ⟨S4x10000, .i32⟩
  | 20 => ⟨S_, .i32⟩
  | 21 => ⟨S4x10000, .i32⟩
  | 22 => ⟨S4x10000, .i1⟩
  | 23 => ⟨S_, .i32⟩
  | 24 => ⟨S4x10000, .i32⟩
  | 25 => ⟨S4x10000, .i32⟩
  | 26 => ⟨S4x10000, .i32⟩
  | 27 => ⟨S4x10000x1, .i32⟩
  | 28 => ⟨S4x10000x1, .i32⟩
  | 29 => ⟨S4x10000x2, .i32⟩
  | 30 => ⟨S4x96x10000, .f32⟩
  | 31 => ⟨S4x1x10000, .f32⟩
  | 32 => ⟨S4x96x10000, .f32⟩
  | 33 => ⟨S4x96x10000, .f32⟩
  | 34 => ⟨S4x10000, .f32⟩
  | 35 => ⟨S4x1x10000, .f32⟩
  | 36 => ⟨S4x96x10000, .f32⟩
  | 37 => ⟨S4x96x10000, .f32⟩
  | 38 => ⟨S4x96x10000, .f32⟩
  | 39 => ⟨S4x10000x96, .f32⟩
  | _ => ⟨S4x96x384x384, .f32⟩

abbrev hbmTy (i : Nat) : BufTy := match i / 128 with
  | 0 => hbmTy0_0 i
  | 1 => hbmTy0_1 i
  | 2 => hbmTy0_2 i
  | _ => ⟨S4x96x384x384, .f32⟩

abbrev bufTy : (tb : Table) → Fin (tcTables nBuf tb) → BufTy
  | .hbm, ⟨i, _⟩ => hbmTy i
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_v38 : Ref sig .tc := ⟨.hbm, 55, rfl⟩
abbrev main_cst_14 : Ref sig .tc := ⟨.hbm, 56, rfl⟩
abbrev main_v39 : Ref sig .tc := ⟨.hbm, 57, rfl⟩
abbrev main_v40 : Ref sig .tc := ⟨.hbm, 58, rfl⟩
abbrev main_cst_15 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_16 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_17 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c : Ref sig .tc := ⟨.hbm, 72, rfl⟩
abbrev main_c_18 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v51 : Ref sig .tc := ⟨.hbm, 79, rfl⟩
abbrev main_v52 : Ref sig .tc := ⟨.hbm, 80, rfl⟩
abbrev main_c_19 : Ref sig .tc := ⟨.hbm, 81, rfl⟩
abbrev main_c_20 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v53 : Ref sig .tc := ⟨.hbm, 88, rfl⟩
abbrev main_v54 : Ref sig .tc := ⟨.hbm, 89, rfl⟩
abbrev main_c_21 : Ref sig .tc := ⟨.hbm, 90, rfl⟩
abbrev main_v55 : Ref sig .tc := ⟨.hbm, 91, rfl⟩
abbrev main_v56 : Ref sig .tc := ⟨.hbm, 92, rfl⟩
abbrev main_c_22 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_23 : Ref sig .tc := ⟨.hbm, 97, rfl⟩
abbrev main_v60 : Ref sig .tc := ⟨.hbm, 98, rfl⟩
abbrev main_v61 : Ref sig .tc := ⟨.hbm, 99, rfl⟩
abbrev main_c_24 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_25 : Ref sig .tc := ⟨.hbm, 115, rfl⟩
abbrev main_v76 : Ref sig .tc := ⟨.hbm, 116, rfl⟩
abbrev main_v77 : Ref sig .tc := ⟨.hbm, 117, rfl⟩
abbrev main_cst_26 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_27 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_28 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_29 : Ref sig .tc := ⟨.hbm, 131, rfl⟩
abbrev main_c_30 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_v88 : Ref sig .tc := ⟨.hbm, 138, rfl⟩
abbrev main_v89 : Ref sig .tc := ⟨.hbm, 139, rfl⟩
abbrev main_c_31 : Ref sig .tc := ⟨.hbm, 140, rfl⟩
abbrev main_c_32 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v90 : Ref sig .tc := ⟨.hbm, 147, rfl⟩
abbrev main_v91 : Ref sig .tc := ⟨.hbm, 148, rfl⟩
abbrev main_c_33 : Ref sig .tc := ⟨.hbm, 149, rfl⟩
abbrev main_v92 : Ref sig .tc := ⟨.hbm, 150, rfl⟩
abbrev main_v93 : Ref sig .tc := ⟨.hbm, 151, rfl⟩
abbrev main_c_34 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_c_35 : Ref sig .tc := ⟨.hbm, 156, rfl⟩
abbrev main_v97 : Ref sig .tc := ⟨.hbm, 157, rfl⟩
abbrev main_v98 : Ref sig .tc := ⟨.hbm, 158, rfl⟩
abbrev main_c_36 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_37 : Ref sig .tc := ⟨.hbm, 175, rfl⟩
abbrev main_v114 : Ref sig .tc := ⟨.hbm, 176, rfl⟩
abbrev main_v115 : Ref sig .tc := ⟨.hbm, 177, rfl⟩
abbrev main_cst_38 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_39 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_40 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_c_41 : Ref sig .tc := ⟨.hbm, 191, rfl⟩
abbrev main_c_42 : Ref sig .tc := ⟨.hbm, 192, rfl⟩
abbrev main_call4_v0 : Ref sig .tc := ⟨.hbm, 193, rfl⟩
abbrev main_call4_v1 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_v126 : Ref sig .tc := ⟨.hbm, 198, rfl⟩
abbrev main_v127 : Ref sig .tc := ⟨.hbm, 199, rfl⟩
abbrev main_c_43 : Ref sig .tc := ⟨.hbm, 200, rfl⟩
abbrev main_c_44 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_call5_v3 : Ref sig .tc := ⟨.hbm, 205, rfl⟩
abbrev main_call5_v4 : Ref sig .tc := ⟨.hbm, 206, rfl⟩
abbrev main_v128 : Ref sig .tc := ⟨.hbm, 207, rfl⟩
abbrev main_v129 : Ref sig .tc := ⟨.hbm, 208, rfl⟩
abbrev main_c_45 : Ref sig .tc := ⟨.hbm, 209, rfl⟩
abbrev main_v130 : Ref sig .tc := ⟨.hbm, 210, rfl⟩
abbrev main_v131 : Ref sig .tc := ⟨.hbm, 211, rfl⟩
abbrev main_c_46 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_c_47 : Ref sig .tc := ⟨.hbm, 216, rfl⟩
abbrev main_v135 : Ref sig .tc := ⟨.hbm, 217, rfl⟩
abbrev main_v136 : Ref sig .tc := ⟨.hbm, 218, rfl⟩
abbrev main_c_48 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_cst_49 : Ref sig .tc := ⟨.hbm, 235, rfl⟩
abbrev main_v152 : Ref sig .tc := ⟨.hbm, 236, rfl⟩
abbrev main_v153 : Ref sig .tc := ⟨.hbm, 237, rfl⟩
abbrev main_cst_50 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_cst_51 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_cst_52 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_c_53 : Ref sig .tc := ⟨.hbm, 251, rfl⟩
abbrev main_c_54 : Ref sig .tc := ⟨.hbm, 252, rfl⟩
abbrev main_call6_v0 : Ref sig .tc := ⟨.hbm, 253, rfl⟩
abbrev main_call6_v1 : Ref sig .tc := ⟨.hbm, 254, rfl⟩
abbrev main_call6_v2 : Ref sig .tc := ⟨.hbm, 255, rfl⟩
abbrev main_call6_v3 : Ref sig .tc := ⟨.hbm, 256, rfl⟩
abbrev main_call6_v4 : Ref sig .tc := ⟨.hbm, 257, rfl⟩
abbrev main_v164 : Ref sig .tc := ⟨.hbm, 258, rfl⟩
abbrev main_v165 : Ref sig .tc := ⟨.hbm, 259, rfl⟩
abbrev main_c_55 : Ref sig .tc := ⟨.hbm, 260, rfl⟩
abbrev main_c_56 : Ref sig .tc := ⟨.hbm, 261, rfl⟩
abbrev main_call7_v0 : Ref sig .tc := ⟨.hbm, 262, rfl⟩
abbrev main_call7_v1 : Ref sig .tc := ⟨.hbm, 263, rfl⟩
abbrev main_call7_v2 : Ref sig .tc := ⟨.hbm, 264, rfl⟩
abbrev main_call7_v3 : Ref sig .tc := ⟨.hbm, 265, rfl⟩
abbrev main_call7_v4 : Ref sig .tc := ⟨.hbm, 266, rfl⟩
abbrev main_v166 : Ref sig .tc := ⟨.hbm, 267, rfl⟩
abbrev main_v167 : Ref sig .tc := ⟨.hbm, 268, rfl⟩
abbrev main_c_57 : Ref sig .tc := ⟨.hbm, 269, rfl⟩
abbrev main_v168 : Ref sig .tc := ⟨.hbm, 270, rfl⟩
abbrev main_v169 : Ref sig .tc := ⟨.hbm, 271, rfl⟩
abbrev main_c_58 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_c_59 : Ref sig .tc := ⟨.hbm, 276, rfl⟩
abbrev main_v173 : Ref sig .tc := ⟨.hbm, 277, rfl⟩
abbrev main_v174 : Ref sig .tc := ⟨.hbm, 278, rfl⟩
abbrev main_c_60 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩

abbrev nD : Nat := 1
abbrev τ : Topo := Topo.v7x

variable {F : FTy → Type} [FloatOps F]
-- ==== Proof.Table.lean ====
/-
  The first of the two calls: the grid of points that lays the input image out as a table, a row per pixel.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.SparseCore.Threads
public import Idealize.ShloMosaic.Lib.Pipeline.Frame
public import Idealize.ShloMosaic.Lib.Pipeline.RegionsLoop
public import Idealize.ShloMosaic.Lib.SparseCore.Quiescent
public import Idealize.ShloMosaic.Lib.StableHlo.Run
public import Idealize.ShloMosaic.Lib.VecWindow
public import Idealize.ShloMosaic.Lib.Tactic

@[expose] public section

noncomputable section

namespace Cert.KernelIdeal.Stages

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] {U : Type} [URA U]

local notation "𝕄" => MT nD τ sig (HIx 1) (Elt F) ℕ U ℕ

/-- A staging buffer of the core, whole, at the given contents. -/
abbrev stagePt (c : Dev nD) {S : Shape} (M : Memref sig .tc .vmem S .f32) (f : Buf (Elt F) (M.view.loc (c : Thread nD τ))) : sProp 𝕄 :=
  M.view.loc (c : Thread nD τ) ↦{fullShare} f

/-! ## One point -/

/-- One point's program, run on its two staging buffers: the second one ends with the first one's pixels as rows. -/
theorem point_run (c : Dev nD) (g : grid0.Coords) (M0 : Memref sig .tc .vmem S1x96x16x384 .f32) (h0 : M0.IsWhole)
    (M1 : Memref sig .tc .vmem S6144x128 .f32) (h1 : M1.IsWhole) (f0 : Buf (Elt F) (M0.view.loc (c : Thread nD τ)))
    (f1 : Buf (Elt F) (M1.view.loc (c : Thread nD τ))) (Q : PUnit → sProp 𝕄) :
    iprop(stagePt c M0 f0 ∗ stagePt c M1 f1
        ∗ (iprop(stagePt c M0 f0 ∗ ∃ f, ⌜M1.view.read (Elt F) f = k0_pay1 (M0.view.read (Elt F) f0)⌝ ∗ stagePt c M1 f) -∗ Q ⟨⟩))
      ⊢ wp frame (wpE (defs₀ (F := F)) Variants.none c none) Set.univ (cc0_body g M0 h0 M1 h1) Q := by
  rw [cc0_body_eq_skeleton]; unfold cc0_body_skel
  iintro ⟨H0, H1, Hk⟩
  sl_exec
  sl_step
  iapply Hk
  isplitl [H0]; · iexact H0
  iexists _; isplitr; swap; · iexact H1
  ipureintro
  rw [View.read_writes_full, View.readAt_full]

/-! ## The grid of points -/

variable (V : (c : Dev nD) → (b : Ref sig .tc) → Buf (Elt F) ((c : Thread nD τ).loc b))

/-- The block of the image a point's fetch stages. -/
abbrev stg (c : Dev nD) (t : Fin cfg0.N) : (cfg0.win 0).block.Idx → Elt F (cfg0.win 0).elt :=
  ((cfg0.win 0).blk t).view.read (Elt F) (V c main_arg0)

/-- The scoped buffers the grid of points does not stage. -/
abbrev restOf (c : Dev nD) : sProp 𝕄 := Pipeline.scopedRest (Ix := HIx 1) (Name := ℕ) (U := U) (Lvl := ℕ) (Val := Elt F) spec0 c

/-- What the grid of points is run over: the image and the table at `V`, and a point leaving its block's pixels as rows. -/
def dat (c : Dev nD) : Dat τ (Elt F) (HIx 1) ℕ U ℕ cfg0 c where
  A w := V c (Pipeline.arrRef spec0 w)
  after w t := match w with
    | ⟨0, _⟩ => stg V c t
    | ⟨1, _⟩ => k0_pay1 (stg V c t)
  Φ _ := restOf c
  q _ := fullShare
  owed _ := (sc (F := F)).Otc c 0
  recorded _ := {p | (sc (F := F)).lev ((SparseCore.T c : Thread nD τ), p.1) p.2 ≤ 0}

theorem before_in (c : Dev nD) (t : Fin cfg0.N) (d : (cfg0.win 0).block.Idx → Elt F (cfg0.win 0).elt) :
    (dat (U := U) V c).before 0 t d = stg V c t := by
  unfold Dat.before; rw [if_pos (fetch0_0 t)]; rfl

/-- Every point runs from its two staging buffers to the second holding the block's pixels as rows. -/
theorem body_obligation (c : Dev nD) : BodyObligation (dat (U := U) V c) (defs₀ (F := F)) Variants.none (none : HIx 1) Set.univ := fun t => by
  rw [bigSep_W0, bigSep_W0]
  rw [show (dat (U := U) V c).Φ t.castSucc = (dat (U := U) V c).Φ t.succ from rfl,
    show (dat (U := U) V c).owesAt none t.succ = (dat (U := U) V c).owesAt none t.castSucc from rfl]
  have h0 : (st0_0 t).view.set = Finset.univ := (stage_whole0 0 (cfg0.slots t 0)).set_eq_univ
  have h1 : (st0_1 t).view.set = Finset.univ := (stage_whole0 1 (cfg0.slots t 1)).set_eq_univ
  dsimp only
  unfold owns
  change _ ⊢ wp _ _ _ (bodyAt0 t) _
  iintro ⟨HΦ, Howes, ⟨%d0, %f0, %hf0, H0⟩, ⟨%d1, %f1, -, H1⟩⟩
  rw [before_in] at hf0
  rw [h0, h1]
  iapply (point_run c (grid0.coords t) (st0_0 t) _ (st0_1 t) _ f0 f1 _)
  isplitl [H0]; · iexact H0
  isplitl [H1]; · iexact H1
  iintro ⟨H0, %f, %hf, H1⟩
  isplitl [HΦ]; · iexact HΦ
  isplitl [Howes]; · iexact Howes
  isplitl [H0]; · iexists f0; isplitr; swap; (· iexact H0); ipureintro; exact hf0
  iexists f; isplitr; swap; (· iexact H1); ipureintro
  exact hf.trans (congrArg k0_pay1 hf0)

/-! ## The grid of points over the thread's buffers -/

variable (adm : (p : Fin 1) → (pcfgs (F := F) p).Adm)

/-- The same as a family over the program's only grid of points. -/
def dats : (p : Fin 1) → (c : Dev nD) → Dat τ (Elt F) (HIx 1) ℕ U ℕ (Pipeline.pin (pcfgs (F := F)) adm p) c
  | ⟨0, _⟩ => fun c => dat V c

/-- The table as the grid of points leaves it. -/
def tableOf (c : Dev nD) : Buf (Elt F) ((c : Thread nD τ).loc main_v0) := (dat (U := U) V c).arrAt 1 cfg0.N

/-- What the TensorCore's thread owes before the call on the SparseCores, its recorded waits at the level of its own transfers. -/
abbrev owesTc (c : Dev nD) : sProp 𝕄 :=
  iprop(∃ W, ⌜(sc (F := F)).WBelow (SparseCore.T c : Thread nD τ) W (8 * 0)⌝ ∗ owes (SparseCore.T c : Thread nD τ) ((sc (F := F)).Otc c 0) W)

variable (Vp : (c : Dev nD) → (b : Ref sig .tc) → Buf (Elt F) ((c : Thread nD τ).loc b))

theorem otc_none (c : Dev nD) (g : GSem nD τ sig) : (sc (F := F)).Otc c 0 g (none : HIx 1) = 0 := by
  by_contra h
  have := SparseCore.Cfg.lev_of_Otc_pos (K := sc (F := F)) (Nat.pos_of_ne_zero h)
  rw [SparseCore.Cfg.lev_none] at this; omega

set_option backward.isDefEq.respectTransparency.types false in
/-- The grid of points from every unscoped buffer at `V`, to the same buffers with the table filled. -/
def region (hout : ∀ c, Vp c main_v0 = tableOf (U := U) V c) (hne : ∀ c (b : Ref sig .tc), b ≠ main_v0 → Vp c b = V c b) :
    Pipeline.RegionSeg (pcfgs (F := F)) adm (dats (U := U) V adm) (none : HIx 1) defs₀ Variants.none (sc (F := F)).L (sc (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (sc (F := F)).mayWait_none _ (otc_none c)
  pre c := iprop(unscopedBufs c (V c) ∗ owesTc c)
  post c := iprop(unscopedBufs c (Vp c) ∗ owesTc c)
  X _ := BI.emp
  Y _ := BI.emp
  Z c := Pipeline.unscopedRest (Ix := HIx 1) (Name := ℕ) (U := U) (Lvl := ℕ) spec0 c (V c)
  hentry c := by
    rw [Pipeline.ownSems0_none]
    have hsplit := Pipeline.arrays_of_unscopedBufs (p := 0) (pcfgs (F := F)) adm (dats (U := U) V adm) launch0.win launch0.arr_whole c
      ((dats (U := U) V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats (U := U) V adm 0 c).Φ 0 = restOf c from rfl]
    iintro ⟨-, -, Hr⟩; iexact Hr
  hout c := by
    rw [Pipeline.ownSems0_none, show (dats (U := U) V adm 0 c).Φ (Fin.last _) = restOf c from rfl]
    iintro Hr
    isplitr; · iempintro
    isplitr; · iempintro
    iexact Hr
  hexit c := by
    have hjoin := Pipeline.unscopedBufs_of_arrays (p := 0) (pcfgs (F := F)) adm (Ix := HIx 1) (Name := ℕ) (U := U) (Lvl := ℕ) launch0.win launch0.arr_whole c
      (dats (U := U) V adm) ((dats (U := U) V adm 0 c).share_full fun _ => rfl) (V c) (Vp c) ((dats (U := U) V adm 0 c).arrAt · cfg0.N)
      (fun w => by
        fin_cases w
        · exact ((dats (U := U) V adm 0 c).arrAt_in 0 rfl _).trans (hne c main_arg0 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro; intro p hp
    rcases hW hp with h | ⟨w, s, rfl⟩
    · exact h
    · exact le_of_eq ((sc (F := F)).lev_none _)

end Cert.KernelIdeal.Stages

end
-- ==== Proof.Prog.lean ====
/-
  The SparseCore kernel's body written by its stages. The printed body is one straight text; here the
  same program is said as: read this tile's positions, then ten rounds of two blocks of 64 points, each
  block computing row numbers and weights, gathering four rows for every point, and combining them.
-/
module

public import proofs.«01_k».proof.KernelIdeal

@[expose] public section

noncomputable section

namespace Cert.KernelIdeal.Stages

open Idealize.ShloMosaic Idealize.SL.Sem
open Cert.KernelIdeal

variable {F : FTy → Type} [FloatOps F] [Facts]
open Facts₀ Facts

/-- A program of the tile at point `i`. -/
abbrev TP (F : FTy → Type) (i : grid1.Coords) :=
  Prog (TpuEff nD τ sig (Elt F) Λ₀ (.scVector ((i 0).castLE hcore1) ((i 1).castLE hsub1)))

/-- A program for every entry of a list, in order. -/
def each {i : grid1.Coords} {α : Type} : List α → (α → TP F i PUnit) → TP F i PUnit
  | [], _ => pure ⟨⟩
  | a :: l, f => f a >>= fun _ => each l f

/-! ## Row numbers and weights of sixteen points -/

/-- A constant on all sixteen lanes. -/
abbrev cst (b : BitVec 32) : FVec F S16 .f32 := broadcast S16 (Scalar.ofBits .f32 b)

/-- The pixel coordinate of a position, as the kernel computes it. -/
def pix (p : FVec F S16 .f32) : FVec F S16 .f32 :=
  divf (subf (mulf (addf (subf (mulf (cst 0x40000000#32) (divf p (cst 0x43BF8000#32))) (cst 0x3F800000#32)) (cst 0x3F800000#32))
    (cst 0x43C00000#32)) (cst 0x3F800000#32)) (cst 0x40000000#32)

/-- The coordinate's integer part. -/
def low (p : FVec F S16 .f32) : IVec S16 32 :=
  subi (fptosi 32 (addf (pix p) (cst 0x3F800000#32))) (broadcast S16 1#32)

/-- The integer part as a float. -/
def lowF (p : FVec F S16 .f32) : FVec F S16 .f32 := sitofp .f32 (low p)

/-- The weight of the upper neighbour, before the mask. -/
def hiW (p : FVec F S16 .f32) : FVec F S16 .f32 := subf (pix p) (lowF p)

/-- The weight of the lower neighbour, before the mask. -/
def loW (p : FVec F S16 .f32) : FVec F S16 .f32 := subf (cst 0x3F800000#32) (hiW p)

/-- Whether the lower neighbour is in the image, as a number. -/
def loV (p : FVec F S16 .f32) : FVec F S16 .f32 :=
  minimumf (cst 0x3F800000#32) (maximumf (cst 0x00000000#32) (addf (lowF p) (cst 0x3F800000#32)))

/-- Whether the upper neighbour is in the image, as a number. -/
def hiV (p : FVec F S16 .f32) : FVec F S16 .f32 :=
  minimumf (cst 0x3F800000#32) (maximumf (cst 0x00000000#32) (subf (cst 0x43C00000#32) (addf (lowF p) (cst 0x3F800000#32))))

/-- An integer held to the image's range. -/
def held (v : IVec S16 32) : IVec S16 32 := minsi (broadcast S16 383#32) (maxsi (broadcast S16 0#32) v)

/-- The lower neighbour's coordinate, held to the image. -/
def loC (p : FVec F S16 .f32) : IVec S16 32 := held (low p)

/-- The upper neighbour's coordinate, held to the image. -/
def hiC (p : FVec F S16 .f32) : IVec S16 32 := held (addi (low p) (broadcast S16 1#32))

/-- The table row of neighbour `k` of the points at `(px, py)` whose image begins at row `rb`. -/
def rowOf4 (px py : FVec F S16 .f32) (rb : IVec S16 32) : Fin 4 → IVec S16 32
  | 0 => addi (addi rb (muli (loC py) (broadcast S16 384#32))) (loC px)
  | 1 => addi (addi rb (muli (loC py) (broadcast S16 384#32))) (hiC px)
  | 2 => addi (addi rb (muli (hiC py) (broadcast S16 384#32))) (loC px)
  | 3 => addi (addi rb (muli (hiC py) (broadcast S16 384#32))) (hiC px)

/-- The weight of neighbour `k`. -/
def wt4 (px py : FVec F S16 .f32) : Fin 4 → FVec F S16 .f32
  | 0 => mulf (mulf (loW px) (loW py)) (mulf (loV px) (loV py))
  | 1 => mulf (mulf (hiW px) (loW py)) (mulf (hiV px) (loV py))
  | 2 => mulf (mulf (loW px) (hiW py)) (mulf (loV px) (hiV py))
  | 3 => mulf (mulf (hiW px) (hiW py)) (mulf (hiV px) (hiV py))

theorem inb_group (k r : Fin 4) : ∀ a, (![k.val, 16 * r.val] : Fin 2 → Nat) a + S1x16.size a ≤ S4x64.size a := by
  revert k r; decide

/-- Sixteen lanes stored as row `k`, columns `16 r` on, of a 4 by 64 buffer (the kernel first loads what is there). -/
def put {i : grid1.Coords} {e : EltTy} (m : Memref sig .scVector .vmem S4x64 e) (he : e.bits = 32) (k r : Fin 4) (v : Vec F S16 e) : TP F i PUnit := do
  let _ : Vec F S1x16 e ← Prog.lift (.load m (Rect.unit (s := S4x64) ![k.val, 16 * r.val] S1x16.size (inb_group k r)).toLoadRect (View.loadsAt_vmem h_S1x16))
  Prog.lift (.store m (Rect.unit (s := S4x64) ![k.val, 16 * r.val] S1x16.size (inb_group k r)) (shapeCast S1x16 v shapeCasts_S16_S1x16) Finset.univ (View.stores_vmem_bits_univ h_S1x16 he) (.inl rfl))

/-- Group `r` of a block: sixteen points read at `o`, their four row numbers and weights stored. -/
def group {i : grid1.Coords} (arg7 arg8 : Memref sig .scVector .vmem S1280 .f32) (arg9 : Memref sig .scVector .vmem S1280 .i32)
    (idx : Memref sig .scVector .vmem S4x64 .i32) (wb : Memref sig .scVector .vmem S4x64 .f32)
    (o : Fin 1 → Nat) (ho : ∀ a, o a + S16.size a ≤ S1280.size a) (r : Fin 4) : TP F i PUnit := do
  let x : Vec F S16 .f32 ← Prog.lift (.load arg7 (Rect.unit (s := S1280) o S16.size ho).toLoadRect (View.loadsAt_vmem h_S16))
  let y : Vec F S16 .f32 ← Prog.lift (.load arg8 (Rect.unit (s := S1280) o S16.size ho).toLoadRect (View.loadsAt_vmem h_S16))
  let b : Vec F S16 .i32 ← Prog.lift (.load arg9 (Rect.unit (s := S1280) o S16.size ho).toLoadRect (View.loadsAt_vmem h_S16))
  each ([0, 1, 2, 3] : List (Fin 4)) fun k =>
    put idx rfl k r (rowOf4 (shapeCast S16 x shapeCasts_S16_S16) (shapeCast S16 y shapeCasts_S16_S16) (shapeCast S16 b shapeCasts_S16_S16) k)
  each ([0, 1, 2, 3] : List (Fin 4)) fun k =>
    put wb rfl k r (wt4 (shapeCast S16 x shapeCasts_S16_S16) (shapeCast S16 y shapeCasts_S16_S16) k)

/-- A block's row numbers and weights: its four groups. -/
def block {i : grid1.Coords} (arg7 arg8 : Memref sig .scVector .vmem S1280 .f32) (arg9 : Memref sig .scVector .vmem S1280 .i32)
    (idx : Memref sig .scVector .vmem S4x64 .i32) (wb : Memref sig .scVector .vmem S4x64 .f32)
    (o : Fin 4 → Fin 1 → Nat) (ho : ∀ r a, o r a + S16.size a ≤ S1280.size a) : TP F i PUnit :=
  each ([0, 1, 2, 3] : List (Fin 4)) fun r => group arg7 arg8 arg9 idx wb (o r) (ho r) r

/-! ## The gathers -/

theorem inb_half (s : Fin 2) : ∀ a, (![32 * s.val, 0] : Fin 2 → Nat) a + S32x128.size a ≤ S64x128.size a := by
  revert s; decide

theorem inb_list (k : Fin 4) (s : Fin 2) : ∀ a, (![k.val, 32 * s.val] : Fin 2 → Nat) a + S1x32.size a ≤ S4x64.size a := by
  revert k s; decide

/-- The whole table, as the kernel slices it. -/
abbrev tab (arg2 : Memref sig .scVector .hbm S589824x128 .f32) : Memref sig .scVector .hbm S589824x128 .f32 :=
  arg2.slice (Rect.unit (s := S589824x128) ![0, 0] S589824x128.size inb_S589824x128_S589824x128_0_0) (fun _ => rfl)

/-- Half `s` of a buffer of 64 rows. -/
abbrev half (m : Memref sig .scVector .vmem S64x128 .f32) (s : Fin 2) : Memref sig .scVector .vmem S32x128 .f32 :=
  m.slice (Rect.unit (s := S64x128) ![32 * s.val, 0] S32x128.size (inb_half s)) (fun _ => rfl)

/-- The row numbers of neighbour `k`, half `s`. -/
abbrev nums (m : Memref sig .scVector .vmem S4x64 .i32) (k : Fin 4) (s : Fin 2) : Memref sig .scVector .vmem S32 .i32 :=
  (m.slice (Rect.unit (s := S4x64) ![k.val, 32 * s.val] S1x32.size (inb_list k s)) (fun _ => rfl)).squeeze S32 squeezes_S1x32_S32

/-- The eight gathers of a block, in order. -/
abbrev eight : List (Fin 4 × Fin 2) := [(0, 0), (0, 1), (1, 0), (1, 1), (2, 0), (2, 1), (3, 0), (3, 1)]

/-- Start the block's gathers. -/
def fire {i : grid1.Coords} (arg2 : Memref sig .scVector .hbm S589824x128 .f32) (idx : Memref sig .scVector .vmem S4x64 .i32)
    (rows : Fin 4 → Memref sig .scVector .vmem S64x128 .f32) (sems : Fin 4 → DmaSems sig S_) : TP F i PUnit :=
  each eight fun ks =>
    SparseCore.enqueueIndirectGather rfl (tab arg2) (half (rows ks.1) ks.2) gathers_S589824x128_S32x128 (nums idx ks.1 ks.2) rfl
      (sems ks.1).sem (View.wordExact_bits rfl) rfl (Or.inl rfl)

/-- Wait for them. -/
def drain {i : grid1.Coords} (arg2 : Memref sig .scVector .hbm S589824x128 .f32)
    (rows : Fin 4 → Memref sig .scVector .vmem S64x128 .f32) (sems : Fin 4 → DmaSems sig S_) : TP F i PUnit :=
  each eight fun ks =>
    SparseCore.waitIndirectGather (sems ks.1).sem (tab arg2) (half (rows ks.1) ks.2) (View.wordExact_bits rfl) (View.wordExact_bits rfl)

/-! ## Combining the four rows -/

/-- The first of sixteen rows of a trip. -/
def base16 (t : Fin k1_t2_loop.trips) : BitVec 32 := Scalar.muli (Scf.iv 0#32 1#32 t) 16#32

/-- Where the weights of neighbour `k` for trip `t` start. -/
def wOff (t : Fin k1_t2_loop.trips) (k : Fin 4) : Fin 2 → Nat := ![k.val, (Scalar.indexCast (base16 t) : Index).toNat]

/-- Where sixteen columns of row `r` of trip `t` start. -/
def rOff (t : Fin k1_t2_loop.trips) (r : Fin 16) (cb : Fin 6) : Fin 2 → Nat :=
  ![(Scalar.indexCast (Scalar.addi (base16 t) (BitVec.ofNat 32 r.val)) : Index).toNat, 16 * cb.val]

theorem wOff_eq (t : Fin k1_t2_loop.trips) (k : Fin 4) : wOff t k = ![k.val, 16 * t.val] := by
  revert t k; decide +kernel

theorem rOff_eq (t : Fin k1_t2_loop.trips) (r : Fin 16) (cb : Fin 6) : rOff t r cb = ![16 * t.val + r.val, 16 * cb.val] := by
  revert t r cb; decide +kernel

theorem inb_w (t : Fin k1_t2_loop.trips) (k : Fin 4) : ∀ a, wOff t k a + S1x16.size a ≤ S4x64.size a := by
  revert t k; decide +kernel

theorem inb_r (t : Fin k1_t2_loop.trips) (r : Fin 16) (cb : Fin 6) : ∀ a, rOff t r cb a + S1x16.size a ≤ S64x128.size a := by
  revert t r cb; decide +kernel

theorem inb_o (t : Fin k1_t2_loop.trips) (r : Fin 16) (cb : Fin 6) : ∀ a, rOff t r cb a + S1x16.size a ≤ S64x96.size a := by
  revert t r cb; decide +kernel

theorem slices_lane (r : Fin 16) : S16.Slices ![r.val] S1 := by
  revert r; decide +kernel

/-- Lane `r` of sixteen. -/
def lane (w : FVec F S16 .f32) (r : Fin 16) : F .f32 := extractAt ![0] (extractStridedSlice S1 ![r.val] w (slices_lane r)) inpos_S1_p0

/-- Sixteen columns of one output row: the four gathered rows, weighted and added. -/
def piece {i : grid1.Coords} (rows : Fin 4 → Memref sig .scVector .vmem S64x128 .f32) (ov : Memref sig .scVector .vmem S64x96 .f32)
    (w : Fin 4 → F .f32) (t : Fin k1_t2_loop.trips) (r : Fin 16) (cb : Fin 6) : TP F i PUnit := do
  let a0 : Vec F S1x16 .f32 ← Prog.lift (.load (rows 0) (Rect.unit (s := S64x128) (rOff t r cb) S1x16.size (inb_r t r cb)).toLoadRect (View.loadsAt_vmem h_S1x16))
  let a1 : Vec F S1x16 .f32 ← Prog.lift (.load (rows 1) (Rect.unit (s := S64x128) (rOff t r cb) S1x16.size (inb_r t r cb)).toLoadRect (View.loadsAt_vmem h_S1x16))
  let a2 : Vec F S1x16 .f32 ← Prog.lift (.load (rows 2) (Rect.unit (s := S64x128) (rOff t r cb) S1x16.size (inb_r t r cb)).toLoadRect (View.loadsAt_vmem h_S1x16))
  let a3 : Vec F S1x16 .f32 ← Prog.lift (.load (rows 3) (Rect.unit (s := S64x128) (rOff t r cb) S1x16.size (inb_r t r cb)).toLoadRect (View.loadsAt_vmem h_S1x16))
  let _ : Vec F S1x16 .f32 ← Prog.lift (.load ov (Rect.unit (s := S64x96) (rOff t r cb) S1x16.size (inb_o t r cb)).toLoadRect (View.loadsAt_vmem h_S1x16))
  Prog.lift (.store ov (Rect.unit (s := S64x96) (rOff t r cb) S1x16.size (inb_o t r cb))
    (shapeCast S1x16 (addf (addf (addf (mulf (shapeCast S16 a0 shapeCasts_S1x16_S16) (broadcast S16 (w 0)))
      (mulf (shapeCast S16 a1 shapeCasts_S1x16_S16) (broadcast S16 (w 1)))) (mulf (shapeCast S16 a2 shapeCasts_S1x16_S16) (broadcast S16 (w 2))))
      (mulf (shapeCast S16 a3 shapeCasts_S1x16_S16) (broadcast S16 (w 3)))) shapeCasts_S16_S1x16)
    Finset.univ (View.stores_vmem_bits_univ h_S1x16 rfl) (.inl rfl))

/-- Sixteen output rows. -/
def trip {i : grid1.Coords} (wb : Memref sig .scVector .vmem S4x64 .f32) (rows : Fin 4 → Memref sig .scVector .vmem S64x128 .f32)
    (ov : Memref sig .scVector .vmem S64x96 .f32) (t : Fin k1_t2_loop.trips) : TP F i PUnit := do
  let w0 : Vec F S1x16 .f32 ← Prog.lift (.load wb (Rect.unit (s := S4x64) (wOff t 0) S1x16.size (inb_w t 0)).toLoadRect (View.loadsAt_vmem h_S1x16))
  let w1 : Vec F S1x16 .f32 ← Prog.lift (.load wb (Rect.unit (s := S4x64) (wOff t 1) S1x16.size (inb_w t 1)).toLoadRect (View.loadsAt_vmem h_S1x16))
  let w2 : Vec F S1x16 .f32 ← Prog.lift (.load wb (Rect.unit (s := S4x64) (wOff t 2) S1x16.size (inb_w t 2)).toLoadRect (View.loadsAt_vmem h_S1x16))
  let w3 : Vec F S1x16 .f32 ← Prog.lift (.load wb (Rect.unit (s := S4x64) (wOff t 3) S1x16.size (inb_w t 3)).toLoadRect (View.loadsAt_vmem h_S1x16))
  each ([0, 1, 2, 3, 4, 5, 6, 7, 8, 9, 10, 11, 12, 13, 14, 15] : List (Fin 16)) fun r =>
    each ([0, 1, 2, 3, 4, 5] : List (Fin 6)) fun cb =>
      piece rows ov (fun
        | 0 => lane (shapeCast S16 w0 shapeCasts_S1x16_S16) r
        | 1 => lane (shapeCast S16 w1 shapeCasts_S1x16_S16) r
        | 2 => lane (shapeCast S16 w2 shapeCasts_S1x16_S16) r
        | 3 => lane (shapeCast S16 w3 shapeCasts_S1x16_S16) r) t r cb

/-! ## Copies and the whole body -/

/-- A tile's stretch of 1280 entries of a list, copied in and waited for. -/
def copyIn {i : grid1.Coords} {e : EltTy} (src : Memref sig .scVector .hbm S40960 e) (dst : Memref sig .scVector .vmem S1280 e) (hdst : dst.IsWhole)
    (he : e.bits = 32) (sem : DmaSems sig S_) : TP F i PUnit := do
  Prog.lift (.enqueueDma (src.slice (Rect.unit (s := S40960) (k1_off1 i) S1280.size (k1_off1_inb i)) (fun _ => rfl)) (.here dst) (.dma sem.sem)
    (View.wordExact_bits he) hdst.wordExact ⟨Or.inl rfl, trivial⟩)
  Prog.lift (.waitDma2 sem.sem (src.slice (Rect.unit (s := S40960) (k1_off1 i) S1280.size (k1_off1_inb i)) (fun _ => rfl)) dst
    (View.wordExact_bits he) hdst.wordExact)

/-- A block's 64 output rows, copied out to rows `o` on and waited for. -/
def copyOut {i : grid1.Coords} (ov : Memref sig .scVector .vmem S64x96 .f32) (hov : ov.IsWhole) (out : Memref sig .scVector .hbm S40960x96 .f32)
    (o : Fin 2 → Nat) (ho : ∀ a, o a + S64x96.size a ≤ S40960x96.size a) (sem : DmaSems sig S_) : TP F i PUnit := do
  Prog.lift (.enqueueDma ov (.here (out.slice (Rect.unit (s := S40960x96) o S64x96.size ho) (fun _ => rfl))) (.dma sem.sem)
    hov.wordExact (View.wordExact_bits rfl) ⟨Or.inl rfl, trivial⟩)
  Prog.lift (.waitDma2 sem.sem ov (out.slice (Rect.unit (s := S40960x96) o S64x96.size ho) (fun _ => rfl)) hov.wordExact (View.wordExact_bits rfl))

theorem inb_first (r : Fin 4) : ∀ a, (![16 * r.val] : Fin 1 → Nat) a + S16.size a ≤ S1280.size a := by
  revert r; decide

/-- The body by its stages. -/
def body (i : grid1.Coords) (arg2 : Memref sig .scVector .hbm S589824x128 .f32)
    (arg3 arg4 : Memref sig .scVector .hbm S40960 .f32) (arg5 : Memref sig .scVector .hbm S40960 .i32)
    (arg6 : Memref sig .scVector .hbm S40960x96 .f32)
    (arg7 : Memref sig .scVector .vmem S1280 .f32) (harg7 : arg7.IsWhole) (arg8 : Memref sig .scVector .vmem S1280 .f32) (harg8 : arg8.IsWhole)
    (arg9 : Memref sig .scVector .vmem S1280 .i32) (harg9 : arg9.IsWhole)
    (idx0 idx1 : Memref sig .scVector .vmem S4x64 .i32) (wb0 wb1 : Memref sig .scVector .vmem S4x64 .f32)
    (rows0 rows1 : Fin 4 → Memref sig .scVector .vmem S64x128 .f32)
    (ov : Memref sig .scVector .vmem S64x96 .f32) (hov : ov.IsWhole)
    (sems0 sems1 : Fin 4 → DmaSems sig S_) (c0 c1 c2 c3 c4 : DmaSems sig S_) : TP F i PUnit := do
  copyIn arg3 arg7 harg7 rfl c0
  copyIn arg4 arg8 harg8 rfl c1
  copyIn arg5 arg9 harg9 rfl c2
  block arg7 arg8 arg9 idx0 wb0 (fun r => ![16 * r.val]) inb_first
  fire arg2 idx0 rows0 sems0
  Scf.Loop.for k1_t1_loop k1_t1_ok ⟨⟩ fun t _ => do
    block arg7 arg8 arg9 idx1 wb1 (fun r => k1_off2 t (BitVec.ofNat 32 (16 * r.val))) (k1_off2_inb t)
    fire arg2 idx1 rows1 sems1
    drain arg2 rows0 sems0
    Scf.Loop.for k1_t2_loop k1_t2_ok ⟨⟩ fun u _ => trip wb0 rows0 ov u
    copyOut ov hov arg6 (k1_off19 i t) (k1_off19_inb i t) c3
    (if h : k1_cond1 t = 1#1 then do
      block arg7 arg8 arg9 idx0 wb0 (fun r => k1_off20 t (BitVec.ofNat 32 (16 * r.val))) (k1_off20_inb t h)
      fire arg2 idx0 rows0 sems0
    else pure ⟨⟩ : TP F i PUnit)
    drain arg2 rows1 sems1
    Scf.Loop.for k1_t2_loop k1_t2_ok ⟨⟩ fun u _ => trip wb1 rows1 ov u
    copyOut ov hov arg6 (k1_off37 i t) (k1_off37_inb i t) c4
  pure ⟨⟩

end Cert.KernelIdeal.Stages

end
-- ==== Proof.Hold.lean ====
/-
  A buffer known to hold given values on some of its entries, and the steps of a tile's program over that:
  a load of known entries reads the values, a store of the values makes its entries known, and a list of
  steps makes known what each of them does.
-/
module

public import proofs.«01_k».proof.Proof.Prog
public import Idealize.ShloMosaic.Rules
public import Idealize.ShloMosaic.Lib.Writes
public import Idealize.ShloMosaic.Lib.Scf
public import Idealize.ShloMosaic.Lib.SparseCore.Threads

@[expose] public section

noncomputable section

namespace Cert.KernelIdeal.Stages

open Idealize.ShloMosaic
open Idealize.ShloMosaic.SparseCore (V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Facts] {U : Type} [URA U]
open Facts₀ Facts

local notation "𝕄" => MT nD τ sig (HIx 1) (Elt F) ℕ U ℕ

/-- The tile at point `i` of device `d`. -/
abbrev thr (d : Dev nD) (i : grid1.Coords) : Thread nD τ := V d ((i 0).castLE hcore1) ((i 1).castLE hsub1)

/-- The program's runs on a tile, one by one. -/
abbrev runs (d : Dev nD) (i : grid1.Coords) {α : Type} (p : TP F i α) (Q : α → sProp 𝕄) : sProp 𝕄 :=
  wp frame (wpE (defs₀ (F := F)) Variants.none (thr d i) none) Set.univ p Q

variable (d : Dev nD) (i : grid1.Coords)

/-- Buffer `m` of the tile, all of it owned, with the entries where `S` holds at the values `T`. -/
def Part {cs : Space} {s : Shape} {e : EltTy} (m : Memref sig .scVector cs s e) (S : s.Idx → Prop) (T : s.Idx → Elt F e) : sProp 𝕄 :=
  iprop(∃ f : Buf (Elt F) (m.view.loc (thr d i)), ⌜∀ x, S x → m.view.read (Elt F) f x = T x⌝
    ∗ m.view.loc (thr d i) ↦[m.view.set]{fullShare} f)

theorem Part_weaken {cs : Space} {s : Shape} {e : EltTy} {m : Memref sig .scVector cs s e} {S S' : s.Idx → Prop} {T T' : s.Idx → Elt F e}
    (h : ∀ x, S' x → S x ∧ T x = T' x) : Part (U := U) d i m S T ⊢ Part d i m S' T' := by
  unfold Part
  iintro ⟨%f, %hf, H⟩
  iexists f
  isplitr
  · ipureintro; exact fun x hx => (hf x (h x hx).1).trans (h x hx).2
  iexact H

/-- A load of known entries. -/
theorem load_part {cs : CoreSpace} {s : Shape} {e : EltTy} {m : Memref sig .scVector cs s e} {S : s.Idx → Prop} {T : s.Idx → Elt F e}
    {r : Rect s} {hl : m.view.LoadsAt r.toLoadRect} {Q : (r.shape.Idx → Elt F e) → sProp 𝕄} (hS : ∀ x, S (r.emb x)) :
    Part (U := U) d i m S T ⊢ iprop((Part d i m S T -∗ Q fun x => T (r.emb x)) -∗ runs d i (Prog.lift (.load m r.toLoadRect hl)) Q) := by
  unfold Part
  iintro ⟨%f, %hf, H⟩ HQ
  iapply (wp_load_rect (c := thr d i) (m := m) (r := r) Variants.none none Set.univ (hl := hl) (S := m.view.set) (f := f) (View.set_slice_subset _ _)) $$ H
  iintro H
  rw [wp_ret]
  imodintro
  have e : (m.access r).read (Elt F) f = fun x => T (r.emb x) := funext fun x => hf _ (hS x)
  rw [e]
  iapply HQ
  iexists f
  isplitr; · ipureintro; exact hf
  iexact H

/-- A load of entries nothing is said of. -/
theorem load_any {cs : CoreSpace} {s : Shape} {e : EltTy} {m : Memref sig .scVector cs s e} {S : s.Idx → Prop} {T : s.Idx → Elt F e}
    {r : Rect s} {hl : m.view.LoadsAt r.toLoadRect} {Q : (r.shape.Idx → Elt F e) → sProp 𝕄} :
    Part (U := U) d i m S T ⊢ iprop((∀ v, Part d i m S T -∗ Q v) -∗ runs d i (Prog.lift (.load m r.toLoadRect hl)) Q) := by
  unfold Part
  iintro ⟨%f, %hf, H⟩ HQ
  iapply (wp_load_rect (c := thr d i) (m := m) (r := r) Variants.none none Set.univ (hl := hl) (S := m.view.set) (f := f) (View.set_slice_subset _ _)) $$ H
  iintro H
  rw [wp_ret]
  imodintro
  iapply HQ
  iexists f
  isplitr; · ipureintro; exact hf
  iexact H

/-- A store of the values makes its entries known. -/
theorem store_part {cs : CoreSpace} {s : Shape} {e : EltTy} {m : Memref sig .scVector cs s e} {S : s.Idx → Prop} {T : s.Idx → Elt F e}
    {r : Rect s} {w : r.shape.Idx → Elt F e} {hx : (m.access r).Stores Finset.univ} {hm : Finset.univ = Finset.univ ∨ ∀ a, r.stride a = 1}
    {Q : PUnit → sProp 𝕄} (hw : ∀ x, w x = T (r.emb x)) :
    Part (U := U) d i m S T ⊢ iprop((Part d i m (fun x => S x ∨ x ∈ r.set) T -∗ Q ⟨⟩)
      -∗ runs d i (Prog.lift (.store m r w Finset.univ hx hm)) Q) := by
  unfold Part
  iintro ⟨%f, %hf, H⟩ HQ
  iapply (wp_store (c := thr d i) (m := m) (r := r) Variants.none none Set.univ (w := w) (Mk := Finset.univ) (hx := hx) (hm := hm) (S := m.view.set) (f := f)
    (((m.access r).setOn_subset_set _).trans (View.set_slice_subset _ _))) $$ H
  iintro H
  rw [wp_ret]
  imodintro
  iapply HQ
  iexists (m.access r).write (Elt F) f w Finset.univ
  isplitr
  · ipureintro
    intro y hy
    by_cases h : y ∈ r.set
    · obtain ⟨x, rfl⟩ := r.exists_idx_of_mem h
      exact (View.read_slice_write_emb (v := m.view) r f w (Finset.mem_univ x)).trans (hw x)
    · exact (View.read_slice_write_of_not_mem (v := m.view) r f w _ (by rwa [Rect.map_emb_univ])).trans (hf y (hy.resolve_right h))
  iexact H

/-- A list of steps, each making known its own entries. -/
theorem each_part {α ι : Type} (I : (ι → Prop) → sProp 𝕄) (A : α → ι → Prop) (f : α → TP F i PUnit) (l : List α)
    (h : ∀ a ∈ l, ∀ S, I S ⊢ runs d i (f a) fun _ => I fun x => S x ∨ A a x) (S : ι → Prop) :
    I S ⊢ runs d i (each l f) fun _ => I fun x => S x ∨ ∃ a ∈ l, A a x := by
  induction l generalizing S with
  | nil =>
    have e : (fun x => S x ∨ ∃ a ∈ ([] : List α), A a x) = S := by funext x; simp
    rw [e]
    show I S ⊢ wp frame (wpE (defs₀ (F := F)) Variants.none (thr d i) none) Set.univ (pure ⟨⟩ : TP F i PUnit) fun _ => I S
    rw [wp_pure]
    iintro H; imodintro; iexact H
  | cons a l ih =>
    show I S ⊢ wp frame (wpE (defs₀ (F := F)) Variants.none (thr d i) none) Set.univ (f a >>= fun _ => each l f) _
    rw [wp_bind]
    refine (h a List.mem_cons_self S).trans (wp_mono frame _ _ fun _ => ?_)
    refine (ih (fun b hb => h b (List.mem_cons_of_mem _ hb)) _).trans (wp_mono frame _ _ fun _ => ?_)
    refine Entails.of_eq (congrArg I ?_)
    funext x
    simp only [List.mem_cons, exists_eq_or_imp, or_assoc]

end Cert.KernelIdeal.Stages

end
-- ==== Proof.Block.lean ====
/-
  A block's row numbers and weights: from the tile's positions, entry `(k, p)` of the block's two lists is
  the row number and the weight of neighbour `k` of the block's point `p`.
-/
module

public import proofs.«01_k».proof.Proof.Hold
public import Idealize.ShloMosaic.Lib.ValueIdxCore
public import Idealize.ShloMosaic.Lib.Pipeline.Value

@[expose] public section

noncomputable section

namespace Cert.KernelIdeal.Stages

open Idealize.ShloMosaic Idealize.ShloMosaic.ValueIdx
open Idealize.ShloMosaic.SparseCore (V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Facts] {U : Type} [URA U]
open Facts₀ Facts

local notation "𝕄" => MT nD τ sig (HIx 1) (Elt F) ℕ U ℕ

/-- The table row of neighbour `k` of one point. -/
def rowS (px py : F .f32) (rb : BitVec 32) (k : Fin 4) : BitVec 32 :=
  rowOf4 (fun _ => px) (fun _ => py) (fun _ => rb) k (ix1 (0 : Fin 16))

/-- The weight of neighbour `k` of one point. -/
def wtS (px py : F .f32) (k : Fin 4) : F .f32 := wt4 (fun _ => px) (fun _ => py) k (ix1 (0 : Fin 16))

theorem rowOf4_apply (px py : FVec F S16 .f32) (rb : IVec S16 32) (k : Fin 4) (j : S16.Idx) :
    rowOf4 px py rb k j = rowS (px j) (py j) (rb j) k := by
  fin_cases k <;> rfl

theorem wt4_apply (px py : FVec F S16 .f32) (k : Fin 4) (j : S16.Idx) : wt4 px py k j = wtS (px j) (py j) k := by
  fin_cases k <;> rfl

/-- Point `p` of block `b` among a tile's 1280. -/
def pt (b : Fin 20) (p : Fin 64) : S1280.Idx := ix1 (n := 1280) ⟨64 * b.val + p.val, by omega⟩

/-- The row numbers of block `b`. -/
def idxT (PX PY : S1280.Idx → F .f32) (RB : S1280.Idx → BitVec 32) (b : Fin 20) : S4x64.Idx → BitVec 32 :=
  fun x => rowS (PX (pt b (x 1))) (PY (pt b (x 1))) (RB (pt b (x 1))) (x 0)

/-- The weights of block `b`. -/
def wbT (PX PY : S1280.Idx → F .f32) (b : Fin 20) : S4x64.Idx → F .f32 :=
  fun x => wtS (PX (pt b (x 1))) (PY (pt b (x 1))) (x 0)

variable (d : Dev nD) (i : grid1.Coords)

theorem put_part {e : EltTy} {m : Memref sig .scVector .vmem S4x64 e} (he : e.bits = 32) (k r : Fin 4) {v : Vec F S16 e} {T : S4x64.Idx → Elt F e}
    (hv : ∀ (j : S16.Idx) (y : S4x64.Idx), (y 0).val = k.val → (y 1).val = 16 * r.val + (j 0).val → v j = T y) (S : S4x64.Idx → Prop) :
    Part (U := U) d i m S T ⊢ runs d i (put m he k r v) fun _ => Part d i m (fun x => S x ∨ ((x 0).val = k.val ∧ (x 1).val / 16 = r.val)) T := by
  unfold put
  show _ ⊢ wp frame _ _ (Prog.lift _ >>= fun _ => _) _
  rw [wp_bind]
  iintro H
  iapply (load_any (U := U) d i) $$ H
  iintro %_ H
  iapply (store_part (U := U) d i (T := T) ?_) $$ H
  · intro x
    rw [shapeCast_addUnit_apply]
    refine hv _ _ ?_ ?_
    · show k.val + 1 * (x 0).val = k.val
      have : (x 0).val < 1 := (x 0).isLt
      omega
    · show 16 * r.val + 1 * (x 1).val = 16 * r.val + (x 1).val
      omega
  iintro H
  iapply (Part_weaken (U := U) d i (S' := _) (T' := T) ?_) $$ H
  rintro x (hx | ⟨h0, h1⟩)
  · exact ⟨.inl hx, rfl⟩
  refine ⟨.inr ?_, rfl⟩
  rw [Rect.mem_set_unit]
  intro a
  have hk := k.isLt; have hr := r.isLt
  match a with
  | ⟨0, _⟩ => show k.val ≤ (x 0).val ∧ (x 0).val < k.val + 1; omega
  | ⟨1, _⟩ => show 16 * r.val ≤ (x 1).val ∧ (x 1).val < 16 * r.val + 16; omega

theorem mem_four (k : Fin 4) : k ∈ ([0, 1, 2, 3] : List (Fin 4)) := by
  revert k; decide

section
variable {arg7 arg8 : Memref sig .scVector .vmem S1280 .f32} {arg9 : Memref sig .scVector .vmem S1280 .i32}
  {idx : Memref sig .scVector .vmem S4x64 .i32} {wb : Memref sig .scVector .vmem S4x64 .f32}
  {PX PY : S1280.Idx → Elt F .f32} {RB : S1280.Idx → Elt F .i32}

/-- The tile's positions, all known. -/
def Pos (arg7 arg8 : Memref sig .scVector .vmem S1280 .f32) (arg9 : Memref sig .scVector .vmem S1280 .i32)
    (PX PY : S1280.Idx → Elt F .f32) (RB : S1280.Idx → Elt F .i32) : sProp 𝕄 :=
  iprop(Part d i arg7 (fun _ => True) PX ∗ Part d i arg8 (fun _ => True) PY ∗ Part d i arg9 (fun _ => True) RB)

theorem group_part {o : Fin 1 → Nat} {ho : ∀ a, o a + S16.size a ≤ S1280.size a} (b : Fin 20) (r : Fin 4) (hb : o 0 = 64 * b.val + 16 * r.val)
    (S : S4x64.Idx → Prop) :
    iprop(Pos (U := U) d i arg7 arg8 arg9 PX PY RB ∗ Part d i idx S (idxT PX PY RB b) ∗ Part d i wb S (wbT PX PY b))
      ⊢ runs d i (group arg7 arg8 arg9 idx wb o ho r) fun _ => iprop(Pos d i arg7 arg8 arg9 PX PY RB
        ∗ Part d i idx (fun x => S x ∨ (x 1).val / 16 = r.val) (idxT PX PY RB b) ∗ Part d i wb (fun x => S x ∨ (x 1).val / 16 = r.val) (wbT PX PY b)) := by
  have ep : ∀ (j : S16.Idx) (y : S4x64.Idx), (y 1).val = 16 * r.val + (j 0).val → (Rect.unit (s := S1280) o S16.size ho).emb j = pt b (y 1) := by
    intro j y hy
    funext a
    match a with
    | ⟨0, _⟩ =>
      refine Fin.ext ?_
      show o 0 + 1 * (j 0).val = 64 * b.val + (y 1).val
      omega
  have hI := each_part (U := U) d i (fun S => Part (U := U) d i idx S (idxT PX PY RB b)) (fun k x => (x 0).val = k.val ∧ (x 1).val / 16 = r.val)
    (fun k => put idx rfl k r (rowOf4 (F := F) (fun x => PX ((Rect.unit (s := S1280) o S16.size ho).emb x)) (fun x => PY ((Rect.unit (s := S1280) o S16.size ho).emb x))
      (fun x => RB ((Rect.unit (s := S1280) o S16.size ho).emb x)) k)) [0, 1, 2, 3]
    (fun k _ S => put_part (F := F) (U := U) d i rfl k r (fun j y h0 h1 => by
      rw [rowOf4_apply, ep j y h1, show k = y 0 from (Fin.ext h0).symm]; rfl) S) S
  have hW := each_part (U := U) d i (fun S => Part (U := U) d i wb S (wbT PX PY b)) (fun k x => (x 0).val = k.val ∧ (x 1).val / 16 = r.val)
    (fun k => put wb rfl k r (wt4 (F := F) (fun x => PX ((Rect.unit (s := S1280) o S16.size ho).emb x)) (fun x => PY ((Rect.unit (s := S1280) o S16.size ho).emb x)) k)) [0, 1, 2, 3]
    (fun k _ S => put_part (F := F) (U := U) d i rfl k r (fun j y h0 h1 => by
      rw [wt4_apply, ep j y h1, show k = y 0 from (Fin.ext h0).symm]; rfl) S) S
  unfold Pos group
  show _ ⊢ wp frame _ _ (Prog.lift _ >>= fun x => Prog.lift _ >>= fun y => Prog.lift _ >>= fun z => each _ _ >>= fun _ => each _ _) _
  simp only [wp_bind]
  iintro ⟨⟨H7, H8, H9⟩, HI, HW⟩
  iapply (load_part (U := U) d i (fun _ => trivial)) $$ H7
  iintro H7
  iapply (load_part (U := U) d i (fun _ => trivial)) $$ H8
  iintro H8
  iapply (load_part (U := U) d i (fun _ => trivial)) $$ H9
  iintro H9
  simp only [shapeCast_self]
  ihave HI := hI $$ HI
  iapply (wp_wand_r frame _ _)
  isplitl [HI]; · iexact HI
  iintro %_ HI
  ihave HW := hW $$ HW
  iapply (wp_wand_r frame _ _)
  isplitl [HW]; · iexact HW
  iintro %_ HW
  have hm : ∀ x : S4x64.Idx, S x ∨ (x 1).val / 16 = r.val → S x ∨ ∃ k ∈ ([0, 1, 2, 3] : List (Fin 4)), (x 0).val = k.val ∧ (x 1).val / 16 = r.val :=
    fun x hx => hx.imp id fun h => ⟨x 0, mem_four _, rfl, h⟩
  isplitl [H7 H8 H9]
  · isplitl [H7]; · iexact H7
    isplitl [H8]; · iexact H8
    iexact H9
  isplitl [HI]
  · iapply (Part_weaken (U := U) d i fun x hx => ⟨hm x hx, rfl⟩) $$ HI
  · iapply (Part_weaken (U := U) d i fun x hx => ⟨hm x hx, rfl⟩) $$ HW

/-- A block's lists, after its four groups. -/
theorem block_part {o : Fin 4 → Fin 1 → Nat} {ho : ∀ r a, o r a + S16.size a ≤ S1280.size a} (b : Fin 20) (hb : ∀ r : Fin 4, o r 0 = 64 * b.val + 16 * r.val)
    (S S' : S4x64.Idx → Prop) (TI : S4x64.Idx → Elt F .i32) (TW : S4x64.Idx → Elt F .f32) :
    iprop(Pos (U := U) d i arg7 arg8 arg9 PX PY RB ∗ Part d i idx S TI ∗ Part d i wb S' TW)
      ⊢ runs d i (block arg7 arg8 arg9 idx wb o ho) fun _ => iprop(Pos d i arg7 arg8 arg9 PX PY RB
        ∗ Part d i idx (fun _ => True) (idxT PX PY RB b) ∗ Part d i wb (fun _ => True) (wbT PX PY b)) := by
  iintro ⟨HP, HI, HW⟩
  ihave HI := (Part_weaken (U := U) d i (S' := fun _ => False) (T' := idxT PX PY RB b) (fun _ h => h.elim)) $$ HI
  ihave HW := (Part_weaken (U := U) d i (S' := fun _ => False) (T' := wbT PX PY b) (fun _ h => h.elim)) $$ HW
  ihave H := (each_part (U := U) d i (fun S => iprop(Pos (U := U) d i arg7 arg8 arg9 PX PY RB ∗ Part d i idx S (idxT PX PY RB b) ∗ Part d i wb S (wbT PX PY b)))
    (fun r x => (x 1).val / 16 = r.val) _ _ (fun r _ S => group_part (U := U) d i (o := o r) (ho := ho r) b r (hb r) S) (fun _ => False)) $$ [HP HI HW]
  · isplitl [HP]; · iexact HP
    isplitl [HI]; · iexact HI
    iexact HW
  iapply (wp_wand_r frame _ _)
  isplitl [H]; · unfold block; iexact H
  iintro %_ ⟨HP, HI, HW⟩
  have hm : ∀ x : S4x64.Idx, False ∨ ∃ r ∈ ([0, 1, 2, 3] : List (Fin 4)), (x 1).val / 16 = r.val := fun x =>
    .inr ⟨⟨(x 1).val / 16, by have : (x 1).val < 64 := (x 1).isLt; omega⟩, mem_four _, rfl⟩
  isplitl [HP]; · iexact HP
  isplitl [HI]
  · iapply (Part_weaken (U := U) d i fun x _ => ⟨hm x, rfl⟩) $$ HI
  · iapply (Part_weaken (U := U) d i fun x _ => ⟨hm x, rfl⟩) $$ HW

end

end Cert.KernelIdeal.Stages

end
-- ==== Proof.Combine.lean ====
/-
  A block's combination: entry `(p, c)` of the block's output is the sum of the four gathered rows' entries
  `(p, c)`, each times its weight for point `p`.
-/
module

public import proofs.«01_k».proof.Proof.Block

@[expose] public section

noncomputable section

namespace Cert.KernelIdeal.Stages

open Idealize.ShloMosaic Idealize.ShloMosaic.ValueIdx
open Idealize.ShloMosaic.SparseCore (V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Facts] {U : Type} [URA U]
open Facts₀ Facts

local notation "𝕄" => MT nD τ sig (HIx 1) (Elt F) ℕ U ℕ

/-- Four weighted numbers added in the kernel's order, on vectors. -/
def combV (a : Fin 4 → FVec F S16 .f32) (w : Fin 4 → F .f32) : FVec F S16 .f32 :=
  addf (addf (addf (mulf (a 0) (broadcast S16 (w 0))) (mulf (a 1) (broadcast S16 (w 1)))) (mulf (a 2) (broadcast S16 (w 2)))) (mulf (a 3) (broadcast S16 (w 3)))

/-- Four weighted numbers added in the kernel's order. -/
def comb (a w : Fin 4 → F .f32) : F .f32 := combV (fun k _ => a k) w (ix1 (0 : Fin 16))

theorem combV_apply (a : Fin 4 → FVec F S16 .f32) (w : Fin 4 → F .f32) (j : S16.Idx) : combV a w j = comb (fun k => a k j) w := rfl

/-- A column below 96 as a column of a 128-wide row. -/
def col (c : Fin 96) : Fin 128 := ⟨c.val, by omega⟩

/-- The block's output from its gathered rows and its weights. -/
def outT (R : Fin 4 → S64x128.Idx → F .f32) (W : S4x64.Idx → F .f32) : S64x96.Idx → F .f32 :=
  fun y => comb (fun k => R k (ix2 (n0 := 64) (n1 := 128) (y 0) (col (y 1)))) fun k => W (ix2 (n0 := 4) (n1 := 64) k (y 0))

variable (d : Dev nD) (i : grid1.Coords)

section
variable {rows : Fin 4 → Memref sig .scVector .vmem S64x128 .f32} {wb : Memref sig .scVector .vmem S4x64 .f32}
  {ov : Memref sig .scVector .vmem S64x96 .f32} {R : Fin 4 → S64x128.Idx → Elt F .f32} {W : S4x64.Idx → Elt F .f32}

/-- The block's four buffers of gathered rows, all known. -/
def Rows (rows : Fin 4 → Memref sig .scVector .vmem S64x128 .f32) (R : Fin 4 → S64x128.Idx → Elt F .f32) : sProp 𝕄 :=
  iprop(Part d i (rows 0) (fun _ => True) (R 0) ∗ Part d i (rows 1) (fun _ => True) (R 1) ∗ Part d i (rows 2) (fun _ => True) (R 2)
    ∗ Part d i (rows 3) (fun _ => True) (R 3))

theorem piece_part (t : Fin k1_t2_loop.trips) (r : Fin 16) (cb : Fin 6) {w : Fin 4 → F .f32} (ht : 16 * t.val + r.val < 64)
    (hw : ∀ k, w k = W (ix2 (n0 := 4) (n1 := 64) k ⟨16 * t.val + r.val, ht⟩)) (S : S64x96.Idx → Prop) :
    iprop(Rows (U := U) d i rows R ∗ Part d i ov S (outT R W)) ⊢ runs d i (piece rows ov w t r cb) fun _ =>
      iprop(Rows d i rows R ∗ Part d i ov (fun y => S y ∨ ((y 0).val = 16 * t.val + r.val ∧ (y 1).val / 16 = cb.val)) (outT R W)) := by
  unfold piece Rows
  show _ ⊢ wp frame _ _ (Prog.lift _ >>= fun _ => Prog.lift _ >>= fun _ => Prog.lift _ >>= fun _ => Prog.lift _ >>= fun _ => Prog.lift _ >>= fun _ => Prog.lift _) _
  simp only [wp_bind]
  iintro ⟨⟨H0, H1, H2, H3⟩, HO⟩
  iapply (load_part (U := U) d i (fun _ => trivial)) $$ H0
  iintro H0
  iapply (load_part (U := U) d i (fun _ => trivial)) $$ H1
  iintro H1
  iapply (load_part (U := U) d i (fun _ => trivial)) $$ H2
  iintro H2
  iapply (load_part (U := U) d i (fun _ => trivial)) $$ H3
  iintro H3
  iapply (load_any (U := U) d i) $$ HO
  iintro %_ HO
  have e := rOff_eq t r cb
  have e0 : rOff t r cb 0 = 16 * t.val + r.val := by rw [e]; rfl
  have e1 : rOff t r cb 1 = 16 * cb.val := by rw [e]; rfl
  iapply (store_part (U := U) d i (T := outT R W) ?_) $$ HO
  · intro x
    have hx0 : (x 0).val < 1 := (x 0).isLt
    have hx1 : (x 1).val < 16 := (x 1).isLt
    have hc := cb.isLt
    rw [shapeCast_addUnit_apply]
    refine (combV_apply (F := F) (fun k => shapeCast S16 (fun x => R k ((Rect.unit (s := S64x128) (rOff t r cb) S1x16.size (inb_r t r cb)).emb x)) shapeCasts_S1x16_S16) w _).trans ?_
    unfold outT
    congr 1
    · funext k
      refine (shapeCast_dropUnit_apply (n := 1) ![16] _ shapeCasts_S1x16_S16 _).trans ?_
      refine congrArg (R k) (Shape.idx_ext₂ ?_ ?_)
      · show rOff t r cb 0 + 1 * 0 = rOff t r cb 0 + 1 * (x 0).val
        omega
      · rfl
    · funext k
      rw [hw k]
      refine congrArg W (Shape.idx_ext₂ rfl ?_)
      show 16 * t.val + r.val = rOff t r cb 0 + 1 * (x 0).val
      omega
  iintro HO
  isplitl [H0 H1 H2 H3]
  · isplitl [H0]; · iexact H0
    isplitl [H1]; · iexact H1
    isplitl [H2]; · iexact H2
    iexact H3
  iapply (Part_weaken (U := U) d i (T' := outT R W) ?_) $$ HO
  rintro y (hy | ⟨h0, h1⟩)
  · exact ⟨.inl hy, rfl⟩
  refine ⟨.inr ?_, rfl⟩
  rw [Rect.mem_set_unit]
  intro a
  match a with
  | ⟨0, _⟩ => show rOff t r cb 0 ≤ (y 0).val ∧ (y 0).val < rOff t r cb 0 + 1; omega
  | ⟨1, _⟩ => show rOff t r cb 1 ≤ (y 1).val ∧ (y 1).val < rOff t r cb 1 + 16; omega

/-- One lane of sixteen weights. -/
theorem lane_weights (t : Fin k1_t2_loop.trips) (k : Fin 4) (r : Fin 16) (ht : 16 * t.val + r.val < 64) :
    lane (shapeCast S16 (fun x => W ((Rect.unit (s := S4x64) (wOff t k) S1x16.size (inb_w t k)).emb x)) shapeCasts_S1x16_S16) r
      = W (ix2 (n0 := 4) (n1 := 64) k ⟨16 * t.val + r.val, ht⟩) := by
  have e := wOff_eq t k
  have e0 : wOff t k 0 = k.val := by rw [e]; rfl
  have e1 : wOff t k 1 = 16 * t.val := by rw [e]; rfl
  unfold lane extractAt
  refine (extractStridedSlice_apply _ _ _ _ (ix1 (n := 16) r) fun a => ?_).trans ?_
  · match a with
    | ⟨0, _⟩ => rfl
  refine (shapeCast_dropUnit_apply (n := 1) ![16] _ shapeCasts_S1x16_S16 _).trans ?_
  refine congrArg W (Shape.idx_ext₂ ?_ ?_)
  · show wOff t k 0 + 1 * 0 = k.val
    omega
  · show wOff t k 1 + 1 * r.val = 16 * t.val + r.val
    omega

theorem mem_sixteen (k : Fin 16) : k ∈ ([0, 1, 2, 3, 4, 5, 6, 7, 8, 9, 10, 11, 12, 13, 14, 15] : List (Fin 16)) := by
  revert k; decide

theorem mem_six (k : Fin 6) : k ∈ ([0, 1, 2, 3, 4, 5] : List (Fin 6)) := by
  revert k; decide

theorem trips_combine : k1_t2_loop.trips = 4 := by decide +kernel

theorem trip_part (t : Fin k1_t2_loop.trips) (S : S64x96.Idx → Prop) :
    iprop((Rows (U := U) d i rows R ∗ Part d i wb (fun _ => True) W) ∗ Part d i ov S (outT R W)) ⊢ runs d i (trip wb rows ov t) fun _ =>
      iprop((Rows d i rows R ∗ Part d i wb (fun _ => True) W) ∗ Part d i ov (fun y => S y ∨ (y 0).val / 16 = t.val) (outT R W)) := by
  have ht4 : t.val < 4 := trips_combine ▸ t.isLt
  have hr : ∀ r : Fin 16, 16 * t.val + r.val < 64 := fun r => by have := r.isLt; omega
  have h := each_part (U := U) d i (fun S => iprop(Rows (U := U) d i rows R ∗ Part d i ov S (outT R W)))
    (fun (r : Fin 16) y => ∃ cb ∈ ([0, 1, 2, 3, 4, 5] : List (Fin 6)), (y 0).val = 16 * t.val + r.val ∧ (y 1).val / 16 = cb.val)
    (fun r => each ([0, 1, 2, 3, 4, 5] : List (Fin 6)) fun cb =>
      piece rows ov (fun
        | 0 => lane (shapeCast S16 (fun x => W ((Rect.unit (s := S4x64) (wOff t 0) S1x16.size (inb_w t 0)).emb x)) shapeCasts_S1x16_S16) r
        | 1 => lane (shapeCast S16 (fun x => W ((Rect.unit (s := S4x64) (wOff t 1) S1x16.size (inb_w t 1)).emb x)) shapeCasts_S1x16_S16) r
        | 2 => lane (shapeCast S16 (fun x => W ((Rect.unit (s := S4x64) (wOff t 2) S1x16.size (inb_w t 2)).emb x)) shapeCasts_S1x16_S16) r
        | 3 => lane (shapeCast S16 (fun x => W ((Rect.unit (s := S4x64) (wOff t 3) S1x16.size (inb_w t 3)).emb x)) shapeCasts_S1x16_S16) r) t r cb)
    [0, 1, 2, 3, 4, 5, 6, 7, 8, 9, 10, 11, 12, 13, 14, 15]
    (fun r _ S => each_part (U := U) d i (fun S => iprop(Rows (U := U) d i rows R ∗ Part d i ov S (outT R W)))
      (fun (cb : Fin 6) y => (y 0).val = 16 * t.val + r.val ∧ (y 1).val / 16 = cb.val) _ _
      (fun cb _ S => piece_part (U := U) d i t r cb (hr r) (fun k => by fin_cases k <;> exact lane_weights t _ r (hr r)) S) S) S
  unfold trip
  show _ ⊢ wp frame _ _ (Prog.lift _ >>= fun _ => Prog.lift _ >>= fun _ => Prog.lift _ >>= fun _ => Prog.lift _ >>= fun _ => _) _
  simp only [wp_bind]
  iintro ⟨⟨HR, HW⟩, HO⟩
  iapply (load_part (U := U) d i (fun _ => trivial)) $$ HW
  iintro HW
  iapply (load_part (U := U) d i (fun _ => trivial)) $$ HW
  iintro HW
  iapply (load_part (U := U) d i (fun _ => trivial)) $$ HW
  iintro HW
  iapply (load_part (U := U) d i (fun _ => trivial)) $$ HW
  iintro HW
  ihave H := h $$ [HR HO]
  · isplitl [HR]; · iexact HR
    iexact HO
  iapply (wp_wand_r frame _ _)
  isplitl [H]; · iexact H
  iintro %_ ⟨HR, HO⟩
  isplitl [HR HW]
  · isplitl [HR]; · iexact HR
    iexact HW
  iapply (Part_weaken (U := U) d i (T' := outT R W) ?_) $$ HO
  rintro y (hy | hy)
  · exact ⟨.inl hy, rfl⟩
  have h1 : (y 1).val < 96 := (y 1).isLt
  exact ⟨.inr ⟨⟨(y 0).val % 16, by omega⟩, mem_sixteen _, ⟨(y 1).val / 16, by omega⟩, mem_six _, by show (y 0).val = 16 * t.val + (y 0).val % 16; omega, rfl⟩, rfl⟩

/-- The four trips over a block's rows. -/
theorem combine_part (S : S64x96.Idx → Prop) (TO : S64x96.Idx → Elt F .f32) {Q : PUnit → sProp 𝕄} :
    iprop(Rows (U := U) d i rows R ∗ Part d i wb (fun _ => True) W ∗ Part d i ov S TO)
      ⊢ iprop((iprop(Rows d i rows R ∗ Part d i wb (fun _ => True) W ∗ Part d i ov (fun _ => True) (outT R W)) -∗ Q ⟨⟩)
        -∗ runs d i (Scf.Loop.for k1_t2_loop k1_t2_ok ⟨⟩ fun u _ => trip wb rows ov u) Q) := by
  iintro ⟨HR, HW, HO⟩ HQ
  iapply (Scf.wp_for frame _ _ _ _ _ k1_t2_ok _ _ (fun n _ => iprop((Rows (U := U) d i rows R ∗ Part d i wb (fun _ => True) W)
    ∗ Part d i ov (fun y => (y 0).val < 16 * n) (outT R W))) fun t _ => ?_)
  · refine (trip_part (U := U) d i t _).trans (wp_mono frame _ _ fun _ => ?_)
    iintro ⟨HR, HO⟩
    isplitl [HR]; · iexact HR
    iapply (Part_weaken (U := U) d i (T' := outT R W) ?_) $$ HO
    intro y hy
    refine ⟨?_, rfl⟩
    show (y 0).val < 16 * t.val ∨ (y 0).val / 16 = t.val
    have : (y 0).val < 16 * (t.val + 1) := hy
    omega
  isplitl [HR HW HO]
  · isplitl [HR HW]
    · isplitl [HR]; · iexact HR
      iexact HW
    iapply (Part_weaken (U := U) d i (T' := outT R W) ?_) $$ HO
    intro y hy
    exact absurd hy (by omega)
  iintro %_ ⟨⟨HR, HW⟩, HO⟩
  iapply HQ
  isplitl [HR]; · iexact HR
  isplitl [HW]; · iexact HW
  iapply (Part_weaken (U := U) d i (T' := outT R W) ?_) $$ HO
  intro y _
  refine ⟨?_, rfl⟩
  have h0 : (y 0).val < 64 := (y 0).isLt
  have h4 : 16 * k1_t2_loop.trips = 64 := by rw [trips_combine]
  exact h0.trans_eq h4.symm

end

end Cert.KernelIdeal.Stages

end
-- ==== Proof.Gather.lean ====
/-
  An indirect gather whose rows join a batch: two gathers are started on one semaphore before either is
  waited for, so the 64 rows they bring are one batch, and the rows are in hand when all of it has been waited for.
-/
module

public import proofs.«01_k».proof.Proof.Combine
public import Idealize.ShloMosaic.Lib.SparseCore.Stream
public import Idealize.ShloMosaic.Lib.Batch

@[expose] public section

noncomputable section

namespace Cert.KernelIdeal.Stages

open Idealize.ShloMosaic Idealize.ShloMosaic.ValueIdx
open Idealize.ShloMosaic.SparseCore (V T)
open Idealize.ShloMosaic.SparseCore.Cfg (HIx)
open Idealize.SL Idealize.SL.RA Idealize.SL.BI Idealize.SL.ExclCount
open scoped Idealize.SL.BI
open Idealize.SL.BI.BIBase Idealize.SL.BI.Laws Idealize.SL.ProofMode Idealize.SL.Sem
open Cert.KernelIdeal

variable {F : FTy → Type} [FloatOps F] [Facts] {U : Type} [URA U]
open Facts₀ Facts

local notation "𝕄" => MT nD τ sig (HIx 1) (Elt F) ℕ U ℕ

variable (EC : UEmb Counters (MT nD τ sig (HIx 1) (Elt F) ℕ U ℕ)) (d : Dev nD) (i : grid1.Coords)

/-- A program that has ended runs. -/
theorem runs_pure {α : Type} (a : α) (Q : α → sProp 𝕄) : Q a ⊢ runs d i (pure a) Q := by
  show _ ⊢ wp frame (wpE (defs₀ (F := F)) Variants.none (thr d i) none) Set.univ (pure a : TP F i α) Q
  rw [wp_pure]
  iintro H; imodintro; iexact H

/-- One program after another. -/
theorem runs_bind {α β : Type} (p : TP F i α) (k : α → TP F i β) (Q : β → sProp 𝕄) :
    runs d i p (fun a => runs d i (k a) Q) ⊢ runs d i (p >>= k) Q :=
  Entails.of_eq (wp_bind frame _ _ p k Q).symm

/-- What is pending from `j` on is the next 32 and what is pending after them. -/
theorem pending_block {n j : ℕ} (hj : j + 32 ≤ n) (Φ : Fin n → sProp 𝕄) :
    bigSep (Transfers.pending j) Φ = iprop(bigSep Finset.univ (fun r : Fin 32 => Φ ⟨j + r.val, by omega⟩) ∗ bigSep (Transfers.pending (j + 32)) Φ) := by
  classical
  let e : Fin 32 ↪ Fin n := ⟨fun r => ⟨j + r.val, by omega⟩, fun a b h => Fin.ext (by have := congrArg Fin.val h; simp only at this; omega)⟩
  have hu : Transfers.pending (n := n) j = Finset.univ.map e ∪ Transfers.pending (j + 32) := by
    ext t
    simp only [Transfers.pending, Finset.mem_filter, Finset.mem_univ, true_and, Finset.mem_union, Finset.mem_map]
    constructor
    · intro h
      by_cases h' : j + 32 ≤ t.val
      · exact .inr h'
      · exact .inl ⟨⟨t.val - j, by omega⟩, Fin.ext (by show j + (t.val - j) = t.val; omega)⟩
    · rintro (⟨r, rfl⟩ | h)
      · show j ≤ j + r.val; omega
      · omega
  have hd : Disjoint (Finset.univ.map e) (Transfers.pending (n := n) (j + 32)) := by
    rw [Finset.disjoint_left]
    intro t ht ht'
    obtain ⟨r, -, rfl⟩ := Finset.mem_map.mp ht
    have : j + 32 ≤ j + r.val := (Finset.mem_filter.mp ht').2
    omega
  rw [hu, BI.bigSep_union hd, BI.bigSep_map]
  rfl

section
variable {arg2 : Memref sig .scVector .hbm S589824x128 .f32} {dst : Memref sig .scVector .vmem S32x128 .f32} {offs : Memref sig .scVector .vmem S32 .i32}

/-- The row numbers a list's buffer holds, every one a row of the table. -/
abbrev rowsOf (offs : Memref sig .scVector .vmem S32 .i32) (fo : Buf (Elt F) (offs.view.loc (thr d i)))
    (hin : ∀ x, (offs.view.read (Elt F) fo x).toNat < 589824) : Fin 32 → Fin 589824 :=
  SparseCore.rows (z := 589824) (o := 32) (offs.view.read (Elt F) fo) (rfl : S32.numel = 32) hin

/-- Row `r` brought by a gather: the destination's row holds the table's row, and the list's entry and a piece of
    the table's share are back. -/
def RowDone (src : Memref sig .scVector .hbm S589824x128 .f32) (dst : Memref sig .scVector .vmem S32x128 .f32) (offs : Memref sig .scVector .vmem S32 .i32)
    (q : PosShare TreeShare) (fs : Buf (Elt F) (src.view.loc (thr d i))) (fd : Buf (Elt F) (dst.view.loc (thr d i)))
    (fo : Buf (Elt F) (offs.view.loc (thr d i))) (hin : ∀ x, (offs.view.read (Elt F) fo x).toNat < 589824) (r : Fin 32) : sProp 𝕄 :=
  iprop(((dst.view.loc (thr d i) ↦[(dst.view.slice (S32x128.rowRect gathers_S589824x128_S32x128.axis' r)).set]{fullShare}
        ((dst.view.slice (S32x128.rowRect gathers_S589824x128_S32x128.axis' r)).write (Elt F) fd
          (fun x => src.view.read (Elt F) fs (gathers_S589824x128_S32x128.rowIdx (rowsOf d i offs fo hin r) x)) Finset.univ))
      ∗ (offs.view.loc (thr d i) ↦[{offs.view.emb (S32.rowMajor.symm (r.cast (rfl : 32 = S32.numel)))}]{fullShare} fo))
    ∗ (src.view.loc (thr d i) ↦[src.view.set]{pieceOf q 32 (by decide) r} fs))

instance RowDone_storable {src : Memref sig .scVector .hbm S589824x128 .f32} {q fs fd fo hin} (r : Fin 32) :
    Storable (upEmb : UEmb _ 𝕄) (RowDone (U := U) d i src dst offs q fs fd fo hin r) := by
  unfold RowDone; infer_instance

/-- The next gather of a batch: its 32 rows are started. -/
theorem gather_batch [EC.LandsIn (upEmb : UEmb _ 𝕄)] {src : Memref sig .scVector .hbm S589824x128 .f32} {sem : DmaSem sig}
    {hp hn hsrc he hsp hr} {q : PosShare TreeShare} {fs : Buf (Elt F) (src.view.loc (thr d i))} {fd : Buf (Elt F) (dst.view.loc (thr d i))}
    {fo : Buf (Elt F) (offs.view.loc (thr d i))} {n : ℕ} {D : Fin n → sProp 𝕄} {j N : ℕ} {Q : PUnit → sProp 𝕄}
    (hN : ∀ r, (dst.slice (S32x128.rowRect gathers_S589824x128_S32x128.axis' r) (S32x128.stride_rowRect _ r)).view.dmaCredit = N)
    (hin : ∀ x, (offs.view.read (Elt F) fo x).toNat < 589824) (hj : j + 32 ≤ n)
    (hD : ∀ r : Fin 32, RowDone d i src dst offs q fs fd fo hin r ⊢ D ⟨j + r.val, by omega⟩) :
    iprop((src.view.loc (thr d i) ↦[src.view.set]{q} fs) ∗ (dst.view.loc (thr d i) ↦[dst.view.set]{fullShare} fd)
        ∗ (offs.view.loc (thr d i) ↦[offs.view.set]{fullShare} fo) ∗ Transfers.Batch EC (thr d i) (.dma sem) none N D j 0)
      ⊢ iprop((Transfers.Batch EC (thr d i) (.dma sem) none N D (j + 32) 0 -∗ Q ⟨⟩)
          -∗ runs d i (SparseCore.enqueueIndirectGather hp src dst gathers_S589824x128_S32x128 offs hn sem hsrc he hsp hr) Q) := by
  show _ ⊢ iprop(_ -∗ runs d i (.op (.enqueueIndirectDma hp offs hn sem fun j w => (SparseCore.rowOf (S589824x128.size gathers_S589824x128_S32x128.axis) w).map
    (SparseCore.gatherRow (thr d i) src dst gathers_S589824x128_S32x128 sem hsrc he hsp hr j)) pure) Q)
  let S : Stream nD τ sig (Elt F) :=
    Stream.issued (thr d i) offs.view hn sem (fun j w => (SparseCore.rowOf (S589824x128.size gathers_S589824x128_S32x128.axis) w).map
      (SparseCore.gatherRow (thr d i) src dst gathers_S589824x128_S32x128 sem hsrc he hsp hr j)) 0
  let rd : Fin 32 → RowDma τ sig (Elt F) (thr d i).2 sem := fun r =>
    SparseCore.gatherRow (thr d i) src dst gathers_S589824x128_S32x128 sem hsrc he hsp hr r (rowsOf d i offs fo hin r)
  have hA : S.RowsAgree := by
    intro r x x' ρ ρ' h h'
    obtain ⟨_, _, rfl⟩ := Option.map_eq_some_iff.mp h
    obtain ⟨_, _, rfl⟩ := Option.map_eq_some_iff.mp h'
    rfl
  have hrd : ∀ r, S.row r (S.word fo r) = some (rd r) := fun r => by
    exact congrArg (Option.map _) (SparseCore.rowOf_of_lt (hin (S.entry r)))
  have hen : Function.Bijective S.entry := S32.rowMajor.symm.bijective.comp (finCongr hn.symm).bijective
  have hsum : ∑ r, (rd r).dst.view.dmaCredit = 32 * N := by
    refine (Finset.sum_congr rfl fun r _ => hN r).trans ?_
    show ∑ _r : Fin 32, N = _
    rw [Finset.sum_const, Finset.card_univ, Fintype.card_fin, smul_eq_mul]
  unfold Transfers.Batch
  iintro ⟨Hs, Hd, Ho, ⟨%γ, %γ₀, %κ, #Hinv, HI, H0, Hcred⟩⟩ Hk
  ihave HI := (Entails.of_eq (pending_block (U := U) hj fun t => count EC (γ t) 0)) $$ HI
  icases HI with ⟨Hγ, HI⟩
  ihave Hd' := (Entails.of_eq (pointsTo_rows (thr d i) dst.view gathers_S589824x128_S32x128.axis' fullShare fd)) $$ Hd
  ihave Ho' := (Entails.of_eq (pointsTo_entries (thr d i) offs.view S.entry hen fullShare fo)) $$ Ho
  ihave Hs' := (Entails.of_eq (pointsTo_piecesOf (src.view.set) fs (by decide : 0 < 32) q)) $$ Hs
  iapply (wp_enqueueIndirectDma Variants.none (thr d i) none Set.univ (qo := fullShare) (fo := fo) (rd := rd) (none : HIx 1) (32 * N) hA hrd hsum) $$ [Hd' Ho' Hs' Hγ]
  · have hrow : ∀ r : Fin 32, iprop(inv κ (Transfers.batchBody EC (thr d i, SemLoc.dma sem) N D γ γ₀)
          ∗ ((((dst.view.loc (thr d i) ↦[(dst.view.slice (S32x128.rowRect gathers_S589824x128_S32x128.axis' r)).set]{fullShare} fd) ∗ S.heldEntry fullShare fo r)
          ∗ (src.view.loc (thr d i) ↦[src.view.set]{pieceOf q 32 (by decide) r} fs)) ∗ count EC (γ ⟨j + r.val, by omega⟩) 0))
        ⊢ iprop(S.heldEntry fullShare fo r ∗ (S.heldEntry fullShare fo r -∗ rowRes (thr d i) (rd r))) := fun r => by
      iintro ⟨#Hinv, ⟨⟨Hr, He⟩, Hsq⟩, Hγr⟩
      isplitl [He]; · iexact He
      iintro He
      unfold rowRes
      iexists pieceOf q 32 (by decide) r, fs, iprop((dst.view.loc (thr d i) ↦[(dst.view.slice (S32x128.rowRect gathers_S589824x128_S32x128.axis' r)).set]{fullShare}
        ((dst.view.slice (S32x128.rowRect gathers_S589824x128_S32x128.axis' r)).write (Elt F) fd
          (fun x => src.view.read (Elt F) fs (gathers_S589824x128_S32x128.rowIdx (rowsOf d i offs fo hin r) x)) Finset.univ)) ∗ S.heldEntry fullShare fo r)
      isplitl [Hsq]; · iexact Hsq
      isplitl [Hr He]
      · iapply writeUpdate_frame
        isplitl [Hr]
        · iapply (pointsTo_writeUpdate (thr d i) (v := dst.view.slice (S32x128.rowRect gathers_S589824x128_S32x128.axis' r)) subset_rfl) $$ Hr
        · iexact He
      · have hc : (rd r).dst.view.amount (SemLoc.dma sem) = N := hN r
        rw [hc]
        iapply (Transfers.batch_creditUpdate EC (D := D) (γ₀ := γ₀) ⟨j + r.val, by omega⟩ (hD r))
        isplitr; · iexact Hinv
        iexact Hγr
    unfold Stream.res
    ihave H1 := Transfers.bigSep_sep_in _ _ _ $$ [Hd' Ho']
    · isplitl [Hd']; · iexact Hd'
      iexact Ho'
    ihave H2 := Transfers.bigSep_sep_in _ _ _ $$ [H1 Hs']
    · isplitl [H1]; · iexact H1
      iexact Hs'
    ihave H3 := Transfers.bigSep_sep_in _ _ _ $$ [H2 Hγ]
    · isplitl [H2]; · iexact H2
      iexact Hγ
    iapply (Transfers.bigSep_mono_pers Finset.univ _ _ _ fun r _ => hrow r)
    isplitr; · iexact Hinv
    iexact H3
  · iintro Hcred'
    iapply (runs_pure (U := U) d i PUnit.unit Q)
    iapply Hk
    iexists γ, γ₀, κ
    isplitr; · iexact Hinv
    isplitl [HI]; · iexact HI
    isplitl [H0]; · iexact H0
    rw [show (j + 32) * N - 0 = (j * N - 0) + 32 * N by rw [Nat.add_mul]; omega, ← tallyAt_add]
    icombine Hcred Hcred' as H
    iexact H

end

end Cert.KernelIdeal.Stages

end
-- ==== Proof.Flight.lean ====
/-
  A block's eight gathers, started and waited for: from the block's row numbers, the four buffers of rows come
  to hold, for each neighbour and each point, the table's row of that number.
-/
module

public import proofs.«01_k».proof.Proof.Gather
public import Idealize.ShloMosaic.Lib.ViewIndex

@[expose] public section

noncomputable section

namespace Cert.KernelIdeal.Stages

open Idealize.ShloMosaic Idealize.ShloMosaic.ValueIdx
open Idealize.ShloMosaic.SparseCore (V T)
open Idealize.ShloMosaic.SparseCore.Cfg (HIx)
open Idealize.SL Idealize.SL.RA Idealize.SL.BI Idealize.SL.ExclCount
open scoped Idealize.SL.BI
open Idealize.SL.BI.BIBase Idealize.SL.BI.Laws Idealize.SL.ProofMode Idealize.SL.Sem
open Cert.KernelIdeal

variable {F : FTy → Type} [FloatOps F] [Facts] {U : Type} [URA U]
open Facts₀ Facts

local notation "𝕄" => MT nD τ sig (HIx 1) (Elt F) ℕ U ℕ

/-- Row numbers within the table. -/
def Within (I : S4x64.Idx → BitVec 32) : Prop := ∀ x, (I x).toNat < 589824

/-- What the gathers of neighbour `k` bring: for point `p`, the table's row of that point's number. -/
def rowsT (TB : S589824x128.Idx → F .f32) (I : S4x64.Idx → BitVec 32) (k : Fin 4) : S64x128.Idx → F .f32 := fun y =>
  TB (ix2 (n0 := 589824) (n1 := 128) ⟨(I (ix2 (n0 := 4) (n1 := 64) k (y 0))).toNat % 589824, Nat.mod_lt _ (by decide)⟩ (y 1))

variable (EC : UEmb Counters (MT nD τ sig (HIx 1) (Elt F) ℕ U ℕ)) (d : Dev nD) (i : grid1.Coords)

/-! ## Views cut into rectangles -/

section
variable {T : Type} [Fintype T] {cs : Space} {s : Shape} {e : EltTy}

theorem set_cut (v : View sig .scVector cs s e) (R : T → Rect s) (hcov : ∀ x, ∃ t, x ∈ (R t).set) :
    v.set = Finset.univ.biUnion fun t => (v.slice (R t)).set := by
  classical
  ext j
  simp only [Finset.mem_biUnion, Finset.mem_univ, true_and]
  constructor
  · intro hj
    obtain ⟨x, -, rfl⟩ := Finset.mem_map.mp hj
    obtain ⟨t, ht⟩ := hcov x
    exact ⟨t, by rw [View.set_slice]; exact Finset.mem_map_of_mem _ ht⟩
  · rintro ⟨t, ht⟩
    exact v.set_slice_subset (R t) ht

/-- A view held is its rectangles held, when they cover it and no two meet. -/
theorem pointsTo_cut (v : View sig .scVector cs s e) (R : T → Rect s)
    (hcov : ∀ x, ∃ t, x ∈ (R t).set) (hdis : ∀ t t', t ≠ t' → Disjoint (R t).set (R t').set) (q : PosShare TreeShare)
    (f : Buf (Elt F) (v.loc (thr d i))) :
    (v.loc (thr d i) ↦[v.set]{q} f : sProp 𝕄) = bigSep Finset.univ fun t => v.loc (thr d i) ↦[(v.slice (R t)).set]{q} f := by
  classical
  rw [set_cut v R hcov]
  exact pointsTo_biUnion Finset.univ _ fun t _ t' _ h => v.disjoint_slice (hdis t t' h)

/-- The rectangles held, each at contents that read as expected, are the buffer held at what is expected. -/
theorem Part_uncut (m : Memref sig .scVector cs s e) (R : T → Rect s)
    (hcov : ∀ x, ∃ t, x ∈ (R t).set) (hdis : ∀ t t', t ≠ t' → Disjoint (R t).set (R t').set)
    (fs : T → Buf (Elt F) (m.view.loc (thr d i))) (f₀ : Buf (Elt F) (m.view.loc (thr d i))) (S : s.Idx → Prop) (TV : s.Idx → Elt F e)
    (h : ∀ t x, x ∈ (R t).set → S x → m.view.read (Elt F) (fs t) x = TV x) :
    (bigSep Finset.univ fun t => m.view.loc (thr d i) ↦[(m.view.slice (R t)).set]{fullShare} fs t : sProp 𝕄) ⊢ Part d i m S TV := by
  classical
  unfold Part
  iintro H
  ihave H := (pointsTo_biUnion_join (ℓ := m.view.loc (thr d i)) (q := fullShare) Finset.univ (fun t => (m.view.slice (R t)).set) fs f₀
    fun t _ t' _ h => m.view.disjoint_slice (hdis t t' h)) $$ H
  icases H with ⟨%g, %hg, H⟩
  iexists g
  isplitr
  · ipureintro
    intro x hx
    obtain ⟨t, ht⟩ := hcov x
    refine Eq.trans ?_ (h t x ht hx)
    have he := hg t (Finset.mem_univ t) (m.view.emb x) (by rw [View.set_slice]; exact Finset.mem_map_of_mem _ ht)
    rw [View.read_apply, View.read_apply, he]
  iapply (Entails.of_eq (congrArg (fun I => (m.view.loc (thr d i) ↦[I]{fullShare} g : sProp 𝕄)) (set_cut m.view R hcov).symm)) $$ H

end

/-- Over two. -/
theorem bigSep_pair (Φ : Fin 2 → sProp 𝕄) : bigSep Finset.univ Φ = iprop(Φ 0 ∗ Φ 1) := BI.bigSep_fin_two Φ

/-- The rectangle of list `(k, s)`. -/
abbrev listR (ks : Fin 4 × Fin 2) : Rect S4x64 := Rect.unit (s := S4x64) ![ks.1.val, 32 * ks.2.val] S1x32.size (inb_list ks.1 ks.2)

/-- The rectangle of half `s`. -/
abbrev halfR (s : Fin 2) : Rect S64x128 := Rect.unit (s := S64x128) ![32 * s.val, 0] S32x128.size (inb_half s)

theorem listR_cover (x : S4x64.Idx) : ∃ ks, x ∈ (listR ks).set := by
  have h0 : (x 0).val < 4 := (x 0).isLt
  have h1 : (x 1).val < 64 := (x 1).isLt
  refine ⟨(⟨(x 0).val, h0⟩, ⟨(x 1).val / 32, by omega⟩), ?_⟩
  rw [Rect.mem_set_unit]
  intro a
  match a with
  | ⟨0, _⟩ => show (x 0).val ≤ (x 0).val ∧ (x 0).val < (x 0).val + 1; omega
  | ⟨1, _⟩ => show 32 * ((x 1).val / 32) ≤ (x 1).val ∧ (x 1).val < 32 * ((x 1).val / 32) + 32; omega

theorem listR_apart (t t' : Fin 4 × Fin 2) (h : t ≠ t') : Disjoint (listR t).set (listR t').set := by
  by_cases h0 : t.1.val = t'.1.val
  · refine Rect.unit_disjoint 1 ?_
    have h1 : t.2.val ≠ t'.2.val := fun h1 => h (Prod.ext (Fin.ext h0) (Fin.ext h1))
    show 32 * t.2.val + 32 ≤ 32 * t'.2.val ∨ 32 * t'.2.val + 32 ≤ 32 * t.2.val
    omega
  · refine Rect.unit_disjoint 0 ?_
    show t.1.val + 1 ≤ t'.1.val ∨ t'.1.val + 1 ≤ t.1.val
    omega

theorem halfR_cover (x : S64x128.Idx) : ∃ s, x ∈ (halfR s).set := by
  have h0 : (x 0).val < 64 := (x 0).isLt
  have h1 : (x 1).val < 128 := (x 1).isLt
  refine ⟨⟨(x 0).val / 32, by omega⟩, ?_⟩
  rw [Rect.mem_set_unit]
  intro a
  match a with
  | ⟨0, _⟩ => show 32 * ((x 0).val / 32) ≤ (x 0).val ∧ (x 0).val < 32 * ((x 0).val / 32) + 32; omega
  | ⟨1, _⟩ => show 0 ≤ (x 1).val ∧ (x 1).val < 0 + 128; omega

theorem halfR_apart (t t' : Fin 2) (h : t ≠ t') : Disjoint (halfR t).set (halfR t').set := by
  refine Rect.unit_disjoint 0 ?_
  have h1 : t.val ≠ t'.val := fun h1 => h (Fin.ext h1)
  show 32 * t.val + 32 ≤ 32 * t'.val ∨ 32 * t'.val + 32 ≤ 32 * t.val
  omega

section
variable (arg2 : Memref sig .scVector .hbm S589824x128 .f32) (idx : Memref sig .scVector .vmem S4x64 .i32)
  (rows : Fin 4 → Memref sig .scVector .vmem S64x128 .f32) (sems : Fin 4 → DmaSems sig S_)

/-- The table held at a share, at given contents. -/
def Table (q : PosShare TreeShare) (fs : Buf (Elt F) (arg2.view.loc (thr d i))) : sProp 𝕄 :=
  iprop((tab arg2).view.loc (thr d i) ↦[(tab arg2).view.set]{q} fs)

/-- The table at a share is the table at the share's pieces. -/
theorem Table_pieces {o : ℕ} (ho : 0 < o) (q : PosShare TreeShare) (fs : Buf (Elt F) (arg2.view.loc (thr d i))) :
    Table (U := U) d i arg2 q fs = bigSep Finset.univ fun j : Fin o => Table d i arg2 (pieceOf q o ho j) fs := by
  unfold Table
  exact pointsTo_piecesOf _ _ ho q

/-- The entry of a list is the entry of the buffer of row numbers it is cut from. -/
theorem read_nums (fo : Buf (Elt F) (idx.view.loc (thr d i))) (k : Fin 4) (s : Fin 2) (x : S32.Idx) :
    (nums idx k s).view.read (Elt F) fo x
      = idx.view.read (Elt F) fo (ix2 (n0 := 4) (n1 := 64) k ⟨32 * s.val + (x 0).val, by have h : (x 0).val < 32 := (x 0).isLt; have := s.isLt; omega⟩) := by
  refine (congrFun (Memref.read_squeeze_slice (Val := Elt F) idx (listR (k, s)) (fun _ => rfl) squeezes_S1x32_S32
    (squeezes_S1x32_S32.numel_eq) fo) x).trans ?_
  refine (shapeCast_dropUnit_apply (n := 1) ![32] _ _ _).trans ?_
  show idx.view.read (Elt F) fo ((listR (k, s)).emb _) = _
  refine congrArg _ (Shape.idx_ext₂ ?_ ?_)
  · show k.val + 1 * 0 = k.val
    omega
  · show 32 * s.val + 1 * (x 0).val = 32 * s.val + (x 0).val
    omega

/-- The table through the kernel's slice of it is the table. -/
theorem read_tab (fs : Buf (Elt F) (arg2.view.loc (thr d i))) : (tab arg2).view.read (Elt F) fs = arg2.view.read (Elt F) fs := by
  funext x
  show arg2.view.read (Elt F) fs ((Rect.unit (s := S589824x128) ![0, 0] S589824x128.size inb_S589824x128_S589824x128_0_0).emb x) = _
  refine congrArg _ (Shape.idx_ext₂ ?_ ?_)
  · show 0 + 1 * (x 0).val = (x 0).val; omega
  · show 0 + 1 * (x 1).val = (x 1).val; omega

variable {idx} in
theorem nums_within {I : S4x64.Idx → BitVec 32} (hI : Within I) {fo : Buf (Elt F) (idx.view.loc (thr d i))}
    (ho : ∀ x, idx.view.read (Elt F) fo x = I x) (k : Fin 4) (s : Fin 2) (x : S32.Idx) : ((nums idx k s).view.read (Elt F) fo x).toNat < 589824 := by
  rw [read_nums, ho]; exact hI _

/-- What row `r` of half `s` of neighbour `k` brings. -/
def dealtAt (q : PosShare TreeShare) (fs : Buf (Elt F) (arg2.view.loc (thr d i))) (k : Fin 4) (fd : Buf (Elt F) ((rows k).view.loc (thr d i)))
    (fo : Buf (Elt F) (idx.view.loc (thr d i))) (hin : ∀ s x, ((nums idx k s).view.read (Elt F) fo x).toNat < 589824) (t : Fin 2 × Fin 32) : sProp 𝕄 :=
  RowDone d i (tab arg2) (half (rows k) t.1) (nums idx k t.1) (pieceOf q 2 (Nat.succ_pos 1) t.1) fs fd fo (hin _) t.2

/-- What the 64 rows of neighbour `k` bring. -/
def dealt (q : PosShare TreeShare) (fs : Buf (Elt F) (arg2.view.loc (thr d i))) (k : Fin 4) (fd : Buf (Elt F) ((rows k).view.loc (thr d i)))
    (fo : Buf (Elt F) (idx.view.loc (thr d i))) (hin : ∀ s x, ((nums idx k s).view.read (Elt F) fo x).toNat < 589824) (t : Fin 64) : sProp 𝕄 :=
  dealtAt (U := U) d i arg2 idx rows q fs k fd fo hin (finProdFinEquiv.symm t : Fin 2 × Fin 32)

instance dealt_storable {q fs k fd fo hin} (t : Fin 64) : Storable (upEmb : UEmb _ 𝕄) (dealt (U := U) d i arg2 idx rows q fs k fd fo hin t) := by
  unfold dealt dealtAt; infer_instance

/-- The gathers of neighbour `k` in flight, into a buffer of given contents. -/
def FlyAt (N : ℕ) (q : PosShare TreeShare) (fs : Buf (Elt F) (arg2.view.loc (thr d i))) (fo : Buf (Elt F) (idx.view.loc (thr d i)))
    (hin : ∀ k s x, ((nums idx k s).view.read (Elt F) fo x).toNat < 589824) (k : Fin 4) (fd : Buf (Elt F) ((rows k).view.loc (thr d i))) : sProp 𝕄 :=
  Transfers.Batch EC (thr d i) (SemLoc.dma (sems k).sem) (none : HIx 1) N (dealt (U := U) d i arg2 idx rows q fs k fd fo (hin k)) 64 0

/-- The gathers of neighbour `k` in flight. -/
def Fly (N : ℕ) (q : PosShare TreeShare) (fs : Buf (Elt F) (arg2.view.loc (thr d i))) (fo : Buf (Elt F) (idx.view.loc (thr d i)))
    (hin : ∀ k s x, ((nums idx k s).view.read (Elt F) fo x).toNat < 589824) (k : Fin 4) : sProp 𝕄 :=
  iprop(∃ fd : Buf (Elt F) ((rows k).view.loc (thr d i)), FlyAt EC d i arg2 idx rows sems N q fs fo hin k fd)

/-- The row credit of a buffer's halves, and a half's. -/
def Credits (N : ℕ) : Prop :=
  (∀ k s r, ((half (rows k) s).slice (S32x128.rowRect gathers_S589824x128_S32x128.axis' r) (S32x128.stride_rowRect _ r)).view.dmaCredit = N)
    ∧ ∀ k s, (half (rows k) s).view.dmaCredit = 32 * N

variable {arg2 idx rows sems}

/-- The two gathers of neighbour `k`. -/
theorem fire_two [EC.LandsIn (upEmb : UEmb _ 𝕄)] {N : ℕ} (hN : Credits rows N) (q : PosShare TreeShare) (fs : Buf (Elt F) (arg2.view.loc (thr d i)))
    (fo : Buf (Elt F) (idx.view.loc (thr d i))) (hin : ∀ k s x, ((nums idx k s).view.read (Elt F) fo x).toNat < 589824) (k : Fin 4)
    (S : S64x128.Idx → Prop) (TR : S64x128.Idx → Elt F .f32) :
    iprop(Table d i arg2 q fs ∗ Part d i (rows k) S TR
        ∗ bigSep Finset.univ (fun s => (nums idx k s).view.loc (thr d i) ↦[(nums idx k s).view.set]{fullShare} fo)
        ∗ semVal (thr d i, SemLoc.dma (sems k).sem) 0)
      ⊢ runs d i (SparseCore.enqueueIndirectGather rfl (tab arg2) (half (rows k) 0) gathers_S589824x128_S32x128 (nums idx k 0) rfl
          (sems k).sem (View.wordExact_bits rfl) rfl (Or.inl rfl) >>= fun _ =>
        SparseCore.enqueueIndirectGather rfl (tab arg2) (half (rows k) 1) gathers_S589824x128_S32x128 (nums idx k 1) rfl
          (sems k).sem (View.wordExact_bits rfl) rfl (Or.inl rfl) : TP F i PUnit) fun _ => Fly EC d i arg2 idx rows sems N q fs fo hin k := by
  have hD : ∀ (s : Fin 2) (r : Fin 32) fd (h : 32 * s.val + r.val < 64), dealt (U := U) d i arg2 idx rows q fs k fd fo (hin k) ⟨32 * s.val + r.val, h⟩
      = dealtAt (U := U) d i arg2 idx rows q fs k fd fo (hin k) (s, r) := fun s r fd h => by
    unfold dealt
    refine congrArg _ ?_
    rw [Equiv.symm_apply_eq]
    exact Fin.ext (by show 32 * s.val + r.val = r.val + 32 * s.val; omega)
  have hT : Table (U := U) d i arg2 q fs ⊢ iprop(Table d i arg2 (pieceOf q 2 (Nat.succ_pos 1) 0) fs ∗ Table d i arg2 (pieceOf q 2 (Nat.succ_pos 1) 1) fs) :=
    Entails.of_eq ((Table_pieces (U := U) d i arg2 (o := 2) (Nat.succ_pos 1) q fs).trans (bigSep_pair _))
  refine .trans ?_ (runs_bind d i _ _ _)
  unfold Part Fly
  iintro ⟨HT, ⟨%fd, -, HR⟩, HO, HS⟩
  ihave HT := hT $$ HT
  icases HT with ⟨HT0, HT1⟩
  unfold Table FlyAt
  ihave HR := (Entails.of_eq (pointsTo_cut (U := U) d i (rows k).view halfR halfR_cover halfR_apart fullShare fd)) $$ HR
  ihave HR := (Entails.of_eq (bigSep_pair _)) $$ HR
  icases HR with ⟨HR0, HR1⟩
  ihave HO := (Entails.of_eq (bigSep_pair _)) $$ HO
  icases HO with ⟨HO0, HO1⟩
  imod (Transfers.batch_alloc' EC (thr d i) (none : HIx 1) N (dealt (U := U) d i arg2 idx rows q fs k fd fo (hin k))) $$ HS with HB
  iapply (gather_batch (U := U) EC d i (q := pieceOf q 2 (Nat.succ_pos 1) 0) (dst := half (rows k) 0) (offs := nums idx k 0) (hN.1 k 0) (hin k 0) (by decide : 0 + 32 ≤ 64)
    (fun r => Entails.of_eq (hD 0 r fd (by show 32 * 0 + r.val < 64; omega)).symm)) $$ [HT0 HR0 HO0 HB]
  · isplitl [HT0]; · iexact HT0
    isplitl [HR0]; · iexact HR0
    isplitl [HO0]; · iexact HO0
    iexact HB
  iintro HB
  iapply (gather_batch (U := U) EC d i (q := pieceOf q 2 (Nat.succ_pos 1) 1) (dst := half (rows k) 1) (offs := nums idx k 1) (hN.1 k 1) (hin k 1) (by decide : 32 + 32 ≤ 64)
    (fun r => Entails.of_eq (hD 1 r fd (by show 32 * 1 + r.val < 64; omega)).symm)) $$ [HT1 HR1 HO1 HB]
  · isplitl [HT1]; · iexact HT1
    isplitl [HR1]; · iexact HR1
    isplitl [HO1]; · iexact HO1
    iexact HB
  iintro HB
  iexists fd
  iexact HB

/-- The rows of one gather, all brought. -/
theorem rows_done {src : Memref sig .scVector .hbm S589824x128 .f32} {dst : Memref sig .scVector .vmem S32x128 .f32} {offs : Memref sig .scVector .vmem S32 .i32}
    {q : PosShare TreeShare} {fs : Buf (Elt F) (src.view.loc (thr d i))} {fd : Buf (Elt F) (dst.view.loc (thr d i))}
    {fo : Buf (Elt F) (offs.view.loc (thr d i))} {hin : ∀ x, (offs.view.read (Elt F) fo x).toNat < 589824} :
    bigSep Finset.univ (RowDone (U := U) d i src dst offs q fs fd fo hin)
      ⊢ iprop((dst.view.loc (thr d i) ↦[dst.view.set]{fullShare} (dst.view.write (Elt F) fd
          (SparseCore.gatherPayload gathers_S589824x128_S32x128 (src.view.read (Elt F) fs) (rowsOf d i offs fo hin)) Finset.univ))
        ∗ (offs.view.loc (thr d i) ↦[offs.view.set]{fullShare} fo) ∗ (src.view.loc (thr d i) ↦[src.view.set]{q} fs)) := by
  have hen : Function.Bijective fun r : Fin 32 => S32.rowMajor.symm (r.cast (rfl : 32 = S32.numel)) :=
    S32.rowMajor.symm.bijective.comp (finCongr (rfl : 32 = S32.numel)).bijective
  have hwr : bigSep Finset.univ (fun r : Fin 32 => (dst.view.loc (thr d i) ↦[(dst.view.slice (S32x128.rowRect gathers_S589824x128_S32x128.axis' r)).set]{fullShare}
        ((dst.view.slice (S32x128.rowRect gathers_S589824x128_S32x128.axis' r)).write (Elt F) fd
          (fun x => src.view.read (Elt F) fs (gathers_S589824x128_S32x128.rowIdx (rowsOf d i offs fo hin r) x)) Finset.univ) : sProp 𝕄))
      ⊢ (dst.view.loc (thr d i) ↦[dst.view.set]{fullShare} (dst.view.write (Elt F) fd
          (SparseCore.gatherPayload gathers_S589824x128_S32x128 (src.view.read (Elt F) fs) (rowsOf d i offs fo hin)) Finset.univ) : sProp 𝕄) :=
    pointsTo_rows_write (thr d i) dst.view gathers_S589824x128_S32x128.axis' fd
      (fun r x => src.view.read (Elt F) fs (gathers_S589824x128_S32x128.rowIdx (rowsOf d i offs fo hin r) x))
      (SparseCore.gatherPayload gathers_S589824x128_S32x128 (src.view.read (Elt F) fs) (rowsOf d i offs fo hin))
      (fun r j => congrArg (src.view.read (Elt F) fs) (Shape.Gathers.idx_rowRect_emb gathers_S589824x128_S32x128 (rowsOf d i offs fo hin) r j).symm)
  have hof : bigSep Finset.univ (fun r : Fin 32 => (offs.view.loc (thr d i) ↦[{offs.view.emb (S32.rowMajor.symm (r.cast (rfl : 32 = S32.numel)))}]{fullShare} fo : sProp 𝕄))
      ⊢ (offs.view.loc (thr d i) ↦[offs.view.set]{fullShare} fo : sProp 𝕄) :=
    Entails.of_eq (pointsTo_entries (thr d i) offs.view _ hen fullShare fo).symm
  unfold RowDone
  iintro HD
  ihave HD := Transfers.bigSep_sep_out _ _ _ $$ HD
  icases HD with ⟨HD, HS⟩
  ihave HD := Transfers.bigSep_sep_out _ _ _ $$ HD
  icases HD with ⟨HD, HO⟩
  isplitl [HD]
  · iapply hwr $$ HD
  isplitl [HO]
  · iapply hof $$ HO
  · iapply (Entails.of_eq (pointsTo_piecesOf (src.view.set) fs (Nat.succ_pos 31) q).symm) $$ HS

/-- What the tile owes, its waits being on no list but those it started with. -/
def Owes (O : CellTallies nD τ sig (HIx 1)) (W : Waits sig (HIx 1)) : sProp 𝕄 :=
  iprop(∃ W' : Waits sig (HIx 1), ⌜∀ p ∈ W', p ∈ W ∨ p.2 = none⌝ ∗ owes (thr d i) O W')

variable (arg2 idx rows) in
/-- A buffer of rows after its half `s` has been brought. -/
def brought (fs : Buf (Elt F) (arg2.view.loc (thr d i))) (k : Fin 4) (fd : Buf (Elt F) ((rows k).view.loc (thr d i)))
    (fo : Buf (Elt F) (idx.view.loc (thr d i))) (hin : ∀ s x, ((nums idx k s).view.read (Elt F) fo x).toNat < 589824) (s : Fin 2) :
    Buf (Elt F) ((rows k).view.loc (thr d i)) :=
  (half (rows k) s).view.write (Elt F) fd (SparseCore.gatherPayload gathers_S589824x128_S32x128 ((tab arg2).view.read (Elt F) fs)
    (rowsOf d i (nums idx k s) fo (hin s))) Finset.univ

variable (arg2 idx rows) in
theorem brought_eq (fs : Buf (Elt F) (arg2.view.loc (thr d i))) (k : Fin 4) (fd : Buf (Elt F) ((rows k).view.loc (thr d i)))
    (fo : Buf (Elt F) (idx.view.loc (thr d i))) (hin : ∀ k s x, ((nums idx k s).view.read (Elt F) fo x).toNat < 589824)
    (I : S4x64.Idx → BitVec 32) (ho : ∀ x, idx.view.read (Elt F) fo x = I x) (s : Fin 2) (x : S64x128.Idx) (hx : x ∈ (halfR s).set) (_ : True) :
    (rows k).view.read (Elt F) (brought d i arg2 idx rows fs k fd fo (hin k) s) x = rowsT (arg2.view.read (Elt F) fs) I k x := by
  obtain ⟨y, rfl⟩ := (halfR s).exists_idx_of_mem hx
  refine (View.read_slice_write_emb (v := (rows k).view) (halfR s) fd _ (Finset.mem_univ y)).trans ?_
  show (tab arg2).view.read (Elt F) fs (gathers_S589824x128_S32x128.idx (rowsOf d i (nums idx k s) fo (hin k s)) y) = _
  rw [read_tab]
  refine congrArg _ (Shape.idx_ext₂ ?_ ?_)
  · refine (congrArg Fin.val (gathers_S589824x128_S32x128.idx_axis (rowsOf d i (nums idx k s) fo (hin k s)) y)).trans ?_
    have hy : (y 0).val < 32 := (y 0).isLt
    have hs := s.isLt
    have hb := hin k s (S32.rowMajor.symm ((y gathers_S589824x128_S32x128.axis').cast rfl))
    show ((nums idx k s).view.read (Elt F) fo (S32.rowMajor.symm ((y gathers_S589824x128_S32x128.axis').cast rfl))).toNat = _
    rw [← Nat.mod_eq_of_lt hb, read_nums, ho]
    refine congrArg (fun z => (I z).toNat % 589824) (Shape.idx_ext₂ rfl ?_)
    show 32 * s.val + (S32.rowMajor.symm ((y gathers_S589824x128_S32x128.axis').cast rfl) 0).val = 32 * s.val + 1 * (y 0).val
    rw [← Shape.rowMajor_val_one (d := ![32]), Equiv.apply_symm_apply, Nat.one_mul]
    rfl
  · refine (gathers_S589824x128_S32x128.idx_of_ne (rowsOf d i (nums idx k s) fo (hin k s)) y 1 (by decide)).trans ?_
    show (y 1).val = 0 + 1 * (y 1).val
    omega

/-- Half `s` of neighbour `k`, all its rows brought. -/
theorem half_brought (q : PosShare TreeShare) (fs : Buf (Elt F) (arg2.view.loc (thr d i))) (k : Fin 4) (fd : Buf (Elt F) ((rows k).view.loc (thr d i)))
    (fo : Buf (Elt F) (idx.view.loc (thr d i))) (hin : ∀ k s x, ((nums idx k s).view.read (Elt F) fo x).toNat < 589824) (s : Fin 2) :
    bigSep Finset.univ (fun r => dealtAt (U := U) d i arg2 idx rows q fs k fd fo (hin k) (s, r))
      ⊢ iprop(((rows k).view.loc (thr d i) ↦[((rows k).view.slice (halfR s)).set]{fullShare} brought d i arg2 idx rows fs k fd fo (hin k) s)
        ∗ ((nums idx k s).view.loc (thr d i) ↦[(nums idx k s).view.set]{fullShare} fo) ∗ Table d i arg2 (pieceOf q 2 (Nat.succ_pos 1) s) fs) :=
  rows_done (U := U) d i (src := tab arg2) (dst := half (rows k) s) (offs := nums idx k s) (q := pieceOf q 2 (Nat.succ_pos 1) s) (fs := fs) (fd := fd)
    (fo := fo) (hin := hin k s)

/-- The waits for the two gathers of neighbour `k`. -/
theorem drain_two [EC.LandsIn (upEmb : UEmb _ 𝕄)] {N : ℕ} (hN0 : 0 < N) (hN : Credits rows N) (q : PosShare TreeShare) (fs : Buf (Elt F) (arg2.view.loc (thr d i)))
    (fo : Buf (Elt F) (idx.view.loc (thr d i))) (hin : ∀ k s x, ((nums idx k s).view.read (Elt F) fo x).toNat < 589824)
    (I : S4x64.Idx → BitVec 32) (ho : ∀ x, idx.view.read (Elt F) fo x = I x) (k : Fin 4)
    (O : CellTallies nD τ sig (HIx 1)) (W : Waits sig (HIx 1)) :
    iprop(Fly (U := U) EC d i arg2 idx rows sems N q fs fo hin k ∗ (Transfers.MayWaits (thr d i) (none : HIx 1) O ∗ Owes d i O W))
      ⊢ runs d i (SparseCore.waitIndirectGather (sems k).sem (tab arg2) (half (rows k) 0) (View.wordExact_bits rfl) (View.wordExact_bits rfl) >>= fun _ =>
          SparseCore.waitIndirectGather (sems k).sem (tab arg2) (half (rows k) 1) (View.wordExact_bits rfl) (View.wordExact_bits rfl) : TP F i PUnit)
        fun _ => iprop((Table d i arg2 q fs ∗ Part d i (rows k) (fun _ => True) (rowsT (arg2.view.read (Elt F) fs) I k)
          ∗ bigSep Finset.univ (fun s => (nums idx k s).view.loc (thr d i) ↦[(nums idx k s).view.set]{fullShare} fo)
          ∗ semVal (thr d i, SemLoc.dma (sems k).sem) 0) ∗ (Transfers.MayWaits (thr d i) (none : HIx 1) O ∗ Owes d i O W)) := by
  have h0 : ∀ (Q : PUnit → sProp 𝕄) (W' : Waits sig (HIx 1)) (D : Fin 64 → sProp 𝕄),
      iprop(Transfers.Batch EC (thr d i) (SemLoc.dma (sems k).sem) (none : HIx 1) N D 64 0 ∗ owes (thr d i) O W' ∗ Transfers.MayWaits (thr d i) (none : HIx 1) O)
        ⊢ iprop((iprop(Transfers.Batch EC (thr d i) (SemLoc.dma (sems k).sem) (none : HIx 1) N D 64 (0 + 32 * N) ∗ owes (thr d i) O (insert (SemLoc.dma (sems k).sem, none) W')) -∗ Q ⟨⟩)
          -∗ runs d i (SparseCore.waitIndirectGather (sems k).sem (tab arg2) (half (rows k) 0) (View.wordExact_bits rfl) (View.wordExact_bits rfl)) Q) := fun Q W' D => by
    show _ ⊢ iprop(_ -∗ runs d i (.op (.waitDma2 (sems k).sem (tab arg2) (half (rows k) 0) (View.wordExact_bits rfl) (View.wordExact_bits rfl)) pure) Q)
    iintro ⟨HB, HO, HM⟩ Hk
    iapply (Transfers.wp_waitBatchMulO EC Variants.none (thr d i) none (none : HIx 1) (N := N) (O := O) (W := W') (srcw := tab arg2) (dstw := half (rows k) 0)
      32 (hN.2 k 0) (by omega : 0 + 32 * N ≤ N * 64)) $$ [HB HO HM]
    · isplitl [HB]; · iexact HB
      isplitl [HO]; · iexact HO
      iapply (Transfers.MayWaits.elim (SemLoc.dma (sems k).sem)) $$ HM
    iintro H
    iapply (runs_pure (U := U) d i _ _)
    iapply Hk $$ H
  have h1 : ∀ (Q : PUnit → sProp 𝕄) (W' : Waits sig (HIx 1)) (D : Fin 64 → sProp 𝕄),
      iprop(Transfers.Batch EC (thr d i) (SemLoc.dma (sems k).sem) (none : HIx 1) N D 64 (0 + 32 * N) ∗ owes (thr d i) O W' ∗ Transfers.MayWaits (thr d i) (none : HIx 1) O)
        ⊢ iprop((iprop(bigSep Finset.univ D ∗ semVal (thr d i, SemLoc.dma (sems k).sem) 0 ∗ owes (thr d i) O (insert (SemLoc.dma (sems k).sem, none) W')) -∗ Q ⟨⟩)
          -∗ runs d i (SparseCore.waitIndirectGather (sems k).sem (tab arg2) (half (rows k) 1) (View.wordExact_bits rfl) (View.wordExact_bits rfl)) Q) := fun Q W' D => by
    show _ ⊢ iprop(_ -∗ runs d i (.op (.waitDma2 (sems k).sem (tab arg2) (half (rows k) 1) (View.wordExact_bits rfl) (View.wordExact_bits rfl)) pure) Q)
    iintro ⟨HB, HO, HM⟩ Hk
    iapply (Transfers.wp_waitBatchAllO EC Variants.none (thr d i) none (none : HIx 1) (N := N) (O := O) (W := W') (srcw := tab arg2) (dstw := half (rows k) 1)
      (hN.2 k 1) hN0 (by omega : 0 + 32 * N + 32 * N = N * 64)) $$ [HB HO HM]
    · isplitl [HB]; · iexact HB
      isplitl [HO]; · iexact HO
      iapply (Transfers.MayWaits.elim (SemLoc.dma (sems k).sem)) $$ HM
    iintro H
    iapply (runs_pure (U := U) d i _ _)
    iapply Hk $$ H
  have hD : ∀ fd, bigSep Finset.univ (dealt (U := U) d i arg2 idx rows q fs k fd fo (hin k))
      = iprop(bigSep Finset.univ (fun r => dealtAt (U := U) d i arg2 idx rows q fs k fd fo (hin k) (0, r))
        ∗ bigSep Finset.univ (fun r => dealtAt (U := U) d i arg2 idx rows q fs k fd fo (hin k) (1, r))) := fun fd => by
    have e : ∀ t, dealt (U := U) d i arg2 idx rows q fs k fd fo (hin k) (finProdFinEquiv t) = dealtAt (U := U) d i arg2 idx rows q fs k fd fo (hin k) t := fun t => by
      unfold dealt; exact congrArg _ (Equiv.symm_apply_apply _ _)
    rw [BI.bigSep_univ_equiv (finProdFinEquiv (m := 2) (n := 32))]
    simp only [e]
    rw [BI.bigSep_univ_prod, bigSep_pair]
  have hT : iprop(Table (U := U) d i arg2 (pieceOf q 2 (Nat.succ_pos 1) 0) fs ∗ Table d i arg2 (pieceOf q 2 (Nat.succ_pos 1) 1) fs) ⊢ Table (U := U) d i arg2 q fs :=
    Entails.of_eq ((Table_pieces (U := U) d i arg2 (o := 2) (Nat.succ_pos 1) q fs).trans (bigSep_pair _)).symm
  have hI : ∀ W' : Waits sig (HIx 1), (∀ p ∈ W', p ∈ W ∨ p.2 = none) → ∀ p ∈ insert (SemLoc.dma (sems k).sem, none) W', p ∈ W ∨ p.2 = none := fun W' h p hp => by
    rcases Finset.mem_insert.mp hp with rfl | hp
    · exact .inr rfl
    · exact h p hp
  have hV := fun fd s => brought_eq d i arg2 idx rows fs k fd fo hin I ho s
  refine .trans ?_ (runs_bind d i _ _ _)
  unfold Fly FlyAt Owes
  iintro ⟨⟨%fd, HB⟩, #HM, ⟨%W', %hW, HO⟩⟩
  iapply (h0 _ W' _) $$ [HB HO]
  · isplitl [HB]; · iexact HB
    isplitl [HO]; · iexact HO
    iexact HM
  iintro ⟨HB, HO⟩
  iapply (h1 _ _ _) $$ [HB HO]
  · isplitl [HB]; · iexact HB
    isplitl [HO]; · iexact HO
    iexact HM
  iintro ⟨HD, HS, HO⟩
  ihave HD := (Entails.of_eq (hD fd)) $$ HD
  icases HD with ⟨HD0, HD1⟩
  ihave HD0 := (half_brought (U := U) d i q fs k fd fo hin 0) $$ HD0
  ihave HD1 := (half_brought (U := U) d i q fs k fd fo hin 1) $$ HD1
  icases HD0 with ⟨HR0, HI0, HT0⟩
  icases HD1 with ⟨HR1, HI1, HT1⟩
  isplitr [HO]
  · isplitl [HT0 HT1]
    · iapply hT
      isplitl [HT0]; · iexact HT0
      iexact HT1
    isplitl [HR0 HR1]
    · iapply (Part_uncut (U := U) d i (rows k) halfR halfR_cover halfR_apart _ fd (fun _ => True) (rowsT (arg2.view.read (Elt F) fs) I k) (hV fd))
      iapply (Entails.of_eq (bigSep_pair _).symm)
      isplitl [HR0]; · iexact HR0
      iexact HR1
    isplitl [HI0 HI1]
    · iapply (Entails.of_eq (bigSep_pair _).symm)
      isplitl [HI0]; · iexact HI0
      iexact HI1
    iexact HS
  isplitr
  · iexact HM
  iexists _
  isplitr
  · ipureintro
    exact hI _ (hI _ hW)
  iexact HO

/-- A step for every neighbour of a list, each turning its own part. -/
theorem each_turn {A B : Fin 4 → sProp 𝕄} {C : sProp 𝕄} {g : Fin 4 → TP F i PUnit}
    (h : ∀ k, iprop(A k ∗ C) ⊢ runs d i (g k) fun _ => iprop(B k ∗ C)) (l : List (Fin 4)) (hl : l.Nodup) :
    iprop(bigSep l.toFinset A ∗ C) ⊢ runs d i (each l g) fun _ => iprop(bigSep l.toFinset B ∗ C) := by
  induction l with
  | nil => exact runs_pure (U := U) d i PUnit.unit fun _ => iprop(bigSep ([] : List (Fin 4)).toFinset B ∗ C)
  | cons a l ih =>
    have ha : a ∉ l.toFinset := fun h => (List.nodup_cons.mp hl).1 (List.mem_toFinset.mp h)
    have hs : ∀ Φ : Fin 4 → sProp 𝕄, bigSep (a :: l).toFinset Φ = iprop(Φ a ∗ bigSep l.toFinset Φ) := fun Φ => by
      rw [List.toFinset_cons]; exact BI.bigSep_insert ha
    refine .trans ?_ (runs_bind d i (g a) (fun _ => each l g) _)
    rw [hs, hs]
    iintro ⟨⟨HA, HL⟩, HC⟩
    iapply (wp_wand_r (Fr := frame) (wpE := wpE (defs₀ (F := F)) Variants.none (thr d i) none) (E := Set.univ))
    isplitl [HA HC]
    · iapply (h a)
      isplitl [HA]; · iexact HA
      iexact HC
    iintro %_ ⟨HB, HC⟩
    iapply (wp_wand_r (Fr := frame) (wpE := wpE (defs₀ (F := F)) Variants.none (thr d i) none) (E := Set.univ))
    isplitl [HL HC]
    · iapply (ih (List.nodup_cons.mp hl).2)
      isplitl [HL]; · iexact HL
      iexact HC
    iintro %_ ⟨HL, HC⟩
    isplitr [HC]
    · isplitl [HB]; · iexact HB
      iexact HL
    iexact HC

/-- Eight gathers, two for each neighbour. -/
theorem each_eight {A B : Fin 4 → sProp 𝕄} {C : sProp 𝕄} {f : Fin 4 × Fin 2 → TP F i PUnit}
    (h : ∀ k, iprop(A k ∗ C) ⊢ runs d i (f (k, 0) >>= fun _ => f (k, 1)) fun _ => iprop(B k ∗ C)) :
    iprop(bigSep Finset.univ A ∗ C) ⊢ runs d i (each eight f) fun _ => iprop(bigSep Finset.univ B ∗ C) := by
  have he : each eight f = each [0, 1, 2, 3] fun k => f (k, 0) >>= fun _ => f (k, 1) := by
    simp only [each, eight, bind_assoc]
  have hl : (Finset.univ : Finset (Fin 4)) = [0, 1, 2, 3].toFinset := by decide
  rw [he, hl]
  exact each_turn d i h [0, 1, 2, 3] (by decide)

variable (arg2 idx rows sems) in
/-- A block's gathers in flight, for the row numbers `I`. -/
def Flying (N : ℕ) (q : PosShare TreeShare) (fs : Buf (Elt F) (arg2.view.loc (thr d i))) (I : S4x64.Idx → BitVec 32) : sProp 𝕄 :=
  iprop(∃ (fo : Buf (Elt F) (idx.view.loc (thr d i))) (hin : ∀ k s x, ((nums idx k s).view.read (Elt F) fo x).toNat < 589824),
    ⌜∀ x, idx.view.read (Elt F) fo x = I x⌝
      ∗ bigSep Finset.univ fun k => Fly EC d i arg2 idx rows sems N (pieceOf q 4 (Nat.succ_pos 3) k) fs fo hin k)

variable (arg2 idx rows sems) in
/-- A block's buffers and semaphores with nothing in flight: the row numbers free, the rows as they are. -/
def Still (q : PosShare TreeShare) (fs : Buf (Elt F) (arg2.view.loc (thr d i))) (S : S4x64.Idx → Prop) (I : S4x64.Idx → BitVec 32)
    (SR : Prop) (R : Fin 4 → S64x128.Idx → Elt F .f32) : sProp 𝕄 :=
  iprop(Table d i arg2 q fs ∗ Part d i idx S I ∗ (bigSep Finset.univ fun k => Part d i (rows k) (fun _ => SR) (R k))
    ∗ bigSep Finset.univ fun k => semVal (thr d i, SemLoc.dma (sems k).sem) 0)

/-- The block's buffer of row numbers held is its eight lists held. -/
theorem nums_cut (fo : Buf (Elt F) (idx.view.loc (thr d i))) :
    (idx.view.loc (thr d i) ↦[idx.view.set]{fullShare} fo : sProp 𝕄)
      = bigSep Finset.univ fun k : Fin 4 => bigSep Finset.univ fun s : Fin 2 => (nums idx k s).view.loc (thr d i) ↦[(nums idx k s).view.set]{fullShare} fo := by
  rw [pointsTo_cut (U := U) d i idx.view listR listR_cover listR_apart fullShare fo, BI.bigSep_univ_prod]
  have hs : ∀ k s, (nums idx k s).view.set = (idx.view.slice (listR (k, s))).set := fun k s => View.set_reshape _ _
  simp only [hs]

theorem Part_open {cs : Space} {s : Shape} {e : EltTy} {m : Memref sig .scVector cs s e} {S : s.Idx → Prop} {T : s.Idx → Elt F e} :
    Part (U := U) d i m S T ⊢ iprop(∃ f : Buf (Elt F) (m.view.loc (thr d i)), ⌜∀ x, S x → m.view.read (Elt F) f x = T x⌝
      ∗ m.view.loc (thr d i) ↦[m.view.set]{fullShare} f) := .rfl

/-- The gathers of a block, started. -/
theorem fire_part [EC.LandsIn (upEmb : UEmb _ 𝕄)] {N : ℕ} (hN : Credits rows N) (q : PosShare TreeShare) (fs : Buf (Elt F) (arg2.view.loc (thr d i)))
    {I : S4x64.Idx → BitVec 32} (hI : Within I) (SR : Prop) (R : Fin 4 → S64x128.Idx → Elt F .f32) :
    Still (U := U) d i arg2 idx rows sems q fs (fun _ => True) I SR R
      ⊢ runs d i (fire arg2 idx rows sems) fun _ => Flying EC d i arg2 idx rows sems N q fs I := by
  unfold Still
  iintro ⟨HT, HI, HR, HS⟩
  ihave HI := (Part_open (U := U) d i) $$ HI
  icases HI with ⟨%fo, %ho, HI⟩
  have hin : ∀ k s x, ((nums idx k s).view.read (Elt F) fo x).toNat < 589824 := nums_within d i hI fun x => ho x trivial
  ihave HT := (Entails.of_eq (Table_pieces (U := U) d i arg2 (o := 4) (Nat.succ_pos 3) q fs)) $$ HT
  ihave HI := (Entails.of_eq (nums_cut (U := U) d i fo)) $$ HI
  ihave H := Transfers.bigSep_sep_in _ _ _ $$ [HI HS]
  · isplitl [HI]; · iexact HI
    iexact HS
  ihave H := Transfers.bigSep_sep_in _ _ _ $$ [HR H]
  · isplitl [HR]; · iexact HR
    iexact H
  ihave H := Transfers.bigSep_sep_in _ _ _ $$ [HT H]
  · isplitl [HT]; · iexact HT
    iexact H
  iapply (wp_wand_r (Fr := frame) (wpE := wpE (defs₀ (F := F)) Variants.none (thr d i) none) (E := Set.univ))
  isplitl [H]
  · iapply (each_eight (U := U) d i (C := iprop(emp)) (B := fun k => Fly EC d i arg2 idx rows sems N (pieceOf q 4 (Nat.succ_pos 3) k) fs fo hin k) fun k => by
      iintro ⟨H, -⟩
      iapply (wp_wand_r (Fr := frame) (wpE := wpE (defs₀ (F := F)) Variants.none (thr d i) none) (E := Set.univ))
      isplitl [H]
      · iapply (fire_two (U := U) EC d i hN (pieceOf q 4 (Nat.succ_pos 3) k) fs fo hin k (fun _ => SR) (R k)) $$ H
      iintro %_ H
      isplitl [H]; · iexact H
      iempintro)
    isplitl [H]; · iexact H
    iempintro
  iintro %_ ⟨H, -⟩
  unfold Flying
  iexists fo, hin
  isplitr
  · ipureintro; exact fun x => ho x trivial
  iexact H

/-- The gathers of a block, waited for. -/
theorem drain_part [EC.LandsIn (upEmb : UEmb _ 𝕄)] {N : ℕ} (hN0 : 0 < N) (hN : Credits rows N) (q : PosShare TreeShare) (fs : Buf (Elt F) (arg2.view.loc (thr d i)))
    {I : S4x64.Idx → BitVec 32} (O : CellTallies nD τ sig (HIx 1)) (W : Waits sig (HIx 1)) :
    iprop(Flying (U := U) EC d i arg2 idx rows sems N q fs I ∗ (Transfers.MayWaits (thr d i) (none : HIx 1) O ∗ Owes d i O W))
      ⊢ runs d i (drain arg2 rows sems) fun _ => iprop(Still d i arg2 idx rows sems q fs (fun _ => True) I True (rowsT (arg2.view.read (Elt F) fs) I)
          ∗ (Transfers.MayWaits (thr d i) (none : HIx 1) O ∗ Owes d i O W)) := by
  unfold Flying
  iintro ⟨⟨%fo, %hin, %ho, H⟩, HC⟩
  iapply (wp_wand_r (Fr := frame) (wpE := wpE (defs₀ (F := F)) Variants.none (thr d i) none) (E := Set.univ))
  isplitl [H HC]
  · iapply (each_eight (U := U) d i fun k => drain_two (U := U) EC d i hN0 hN (pieceOf q 4 (Nat.succ_pos 3) k) fs fo hin I ho k O W)
    isplitl [H]; · iexact H
    iexact HC
  iintro %_ ⟨H, HC⟩
  isplitr [HC]
  · ihave H := Transfers.bigSep_sep_out _ _ _ $$ H
    icases H with ⟨HT, H⟩
    ihave H := Transfers.bigSep_sep_out _ _ _ $$ H
    icases H with ⟨HR, H⟩
    ihave H := Transfers.bigSep_sep_out _ _ _ $$ H
    icases H with ⟨HI, HS⟩
    unfold Still
    isplitl [HT]
    · iapply (Entails.of_eq (Table_pieces (U := U) d i arg2 (o := 4) (Nat.succ_pos 3) q fs).symm) $$ HT
    isplitl [HI]
    · unfold Part
      iexists fo
      isplitr
      · ipureintro; exact fun x _ => ho x
      iapply (Entails.of_eq (nums_cut (U := U) d i fo).symm) $$ HI
    isplitl [HR]; · iexact HR
    iexact HS
  iexact HC

end

end Cert.KernelIdeal.Stages

end
-- ==== Proof.Steps.lean ====
/-
  A tile's steps: the copies, a block started, a block finished.
-/
module

public import proofs.«01_k».proof.Proof.Flight
public import Idealize.ShloMosaic.Lib.Transfers

@[expose] public section

noncomputable section

namespace Cert.KernelIdeal.Stages

open Idealize.ShloMosaic Idealize.ShloMosaic.ValueIdx
open Idealize.ShloMosaic.SparseCore (V T)
open Idealize.ShloMosaic.SparseCore.Cfg (HIx)
open Idealize.SL Idealize.SL.RA Idealize.SL.BI Idealize.SL.ExclCount
open scoped Idealize.SL.BI
open Idealize.SL.BI.BIBase Idealize.SL.BI.Laws Idealize.SL.ProofMode Idealize.SL.Sem
open Cert.KernelIdeal

variable {F : FTy → Type} [FloatOps F] [Facts] {U : Type} [URA U]
open Facts₀ Facts

local notation "𝕄" => MT nD τ sig (HIx 1) (Elt F) ℕ U ℕ

/-! ## The body's steps -/

/-- Start block: its row numbers and weights, and its gathers. -/
def start {i : grid1.Coords} (arg2 : Memref sig .scVector .hbm S589824x128 .f32) (arg7 arg8 : Memref sig .scVector .vmem S1280 .f32)
    (arg9 : Memref sig .scVector .vmem S1280 .i32) (idx : Memref sig .scVector .vmem S4x64 .i32) (wb : Memref sig .scVector .vmem S4x64 .f32)
    (rows : Fin 4 → Memref sig .scVector .vmem S64x128 .f32) (sems : Fin 4 → DmaSems sig S_)
    (o : Fin 4 → Fin 1 → Nat) (ho : ∀ r a, o r a + S16.size a ≤ S1280.size a) : TP F i PUnit :=
  block arg7 arg8 arg9 idx wb o ho >>= fun _ => fire arg2 idx rows sems

/-- Finish a block: its gathers waited for, its rows combined and copied out. -/
def finish {i : grid1.Coords} (arg2 : Memref sig .scVector .hbm S589824x128 .f32) (wb : Memref sig .scVector .vmem S4x64 .f32)
    (rows : Fin 4 → Memref sig .scVector .vmem S64x128 .f32) (sems : Fin 4 → DmaSems sig S_)
    (ov : Memref sig .scVector .vmem S64x96 .f32) (hov : ov.IsWhole) (out : Memref sig .scVector .hbm S40960x96 .f32)
    (o : Fin 2 → Nat) (ho : ∀ a, o a + S64x96.size a ≤ S40960x96.size a) (sem : DmaSems sig S_) : TP F i PUnit :=
  drain arg2 rows sems >>= fun _ =>
    Scf.Loop.for k1_t2_loop k1_t2_ok ⟨⟩ (fun u _ => trip wb rows ov u) >>= fun _ => copyOut ov hov out o ho sem

variable (EC : UEmb Counters (MT nD τ sig (HIx 1) (Elt F) ℕ U ℕ)) (d : Dev nD) (i : grid1.Coords)

/-- One program after another, by what holds between. -/
theorem runs_then {α β : Type} {p : TP F i α} {k : α → TP F i β} {P R : sProp 𝕄} {B : α → sProp 𝕄} {Q : β → sProp 𝕄}
    (hp : P ⊢ runs d i p B) (hk : ∀ a, iprop(B a ∗ R) ⊢ runs d i (k a) Q) : iprop(P ∗ R) ⊢ runs d i (p >>= k) Q := by
  refine .trans ?_ (runs_bind d i p k Q)
  iintro ⟨HP, HR⟩
  iapply (wp_wand_r (Fr := frame) (wpE := wpE (defs₀ (F := F)) Variants.none (thr d i) none) (E := Set.univ))
  isplitl [HP]; · iapply hp $$ HP
  iintro %a HB
  iapply (hk a)
  isplitl [HB]; · iexact HB
  iexact HR

/-- A buffer, whatever it holds. -/
theorem Part_forget {cs : Space} {s : Shape} {e : EltTy} {m : Memref sig .scVector cs s e} {S : s.Idx → Prop} {T T' : s.Idx → Elt F e} :
    Part (U := U) d i m S T ⊢ Part d i m (fun _ => False) T' :=
  Part_weaken (U := U) d i fun _ h => False.elim h

/-- What a tile keeps throughout: the waits it may make, and what it owes. -/
def Keep (O : CellTallies nD τ sig (HIx 1)) (W : Waits sig (HIx 1)) : sProp 𝕄 :=
  iprop(Transfers.MayWaits (thr d i) (none : HIx 1) O ∗ Owes d i O W)

section
variable {cs cs' : Space} {s : Shape} {e : EltTy} (O : CellTallies nD τ sig (HIx 1)) (W : Waits sig (HIx 1))

/-- A copy within the tile's reach, started and waited for. -/
theorem copy_part [EC.LandsIn (upEmb : UEmb _ 𝕄)] {src : Memref sig .scVector cs s e} {dst : Memref sig .scVector cs' s e} {sem : DmaSem sig}
    {hsrc hsrc' : src.view.WordExact} {hdst hdst' : dst.view.WordExact} {hsem : DmaTarget.Typed (nD := nD) cs (SemLoc.dma sem) (DmaTarget.here (p := .scVector ((i 0).castLE hcore1) ((i 1).castLE hsub1)) dst)}
    (h0 : 0 < dst.view.dmaCredit) {q : PosShare TreeShare} {fs : Buf (Elt F) (src.view.loc (thr d i))} (S : s.Idx → Prop) (T : s.Idx → Elt F e) :
    iprop((src.view.loc (thr d i) ↦[src.view.set]{q} fs) ∗ Part (U := U) d i dst S T ∗ semVal (thr d i, SemLoc.dma sem) 0 ∗ Keep d i O W)
      ⊢ runs d i (Prog.lift (.enqueueDma src (.here dst) (.dma sem) hsrc hdst hsem) >>= fun _ => Prog.lift (.waitDma2 sem src dst hsrc' hdst') : TP F i PUnit) fun _ =>
        iprop((src.view.loc (thr d i) ↦[src.view.set]{q} fs) ∗ Part d i dst (fun _ => True) (src.view.read (Elt F) fs)
          ∗ semVal (thr d i, SemLoc.dma sem) 0 ∗ Keep d i O W) := by
  show _ ⊢ runs d i (.op (.enqueueDma src (.here dst) (.dma sem) hsrc hdst hsem) fun _ => .op (.waitDma2 sem src dst hsrc' hdst') pure : TP F i PUnit) _
  unfold Part Keep Owes
  iintro ⟨Hs, ⟨%fd, -, Hd⟩, HS, #HM, ⟨%W', %hW, HO⟩⟩
  iapply (Transfers.wp_dmaLocal EC Variants.none (thr d i) none (none : HIx 1) dst.view.dmaCredit rfl h0 (subset_refl dst.view.set)) $$ [Hs Hd HS]
  · isplitl [Hs]; · iexact Hs
    isplitl [Hd]; · iexact Hd
    iexact HS
  iintro HF
  iapply (Transfers.wp_waitLocalO EC Variants.none (thr d i) none (none : HIx 1) (O := O) (W := W') (rfl : dst.view.dmaCredit = _)) $$ [HF HO]
  · isplitl [HF]; · iexact HF
    isplitl [HO]; · iexact HO
    iapply (Transfers.MayWaits.elim (SemLoc.dma sem)) $$ HM
  iintro ⟨⟨Hd, Hs⟩, HS, HO⟩
  iapply (runs_pure (U := U) d i _ _)
  isplitl [Hs]; · iexact Hs
  isplitl [Hd]
  · iexists _
    isplitr
    swap
    · iexact Hd
    ipureintro
    exact fun x _ => congrFun (View.read_write_univ _ _) x
  isplitl [HS]; · iexact HS
  isplitr
  · iexact HM
  iexists _
  isplitr
  swap
  · iexact HO
  ipureintro
  intro p hp
  rcases Finset.mem_insert.mp hp with rfl | hp
  · exact .inr rfl
  · exact hW p hp

end

/-- The four buffers of rows, as one by one. -/
theorem Rows_eq (rows : Fin 4 → Memref sig .scVector .vmem S64x128 .f32) (R : Fin 4 → S64x128.Idx → Elt F .f32) :
    (bigSep Finset.univ fun k => Part (U := U) d i (rows k) (fun _ => True) (R k)) = Rows d i rows R := by
  rw [show (Finset.univ : Finset (Fin 4)) = {0, 1, 2, 3} by decide, BI.bigSep_insert (by decide), BI.bigSep_insert (by decide),
    BI.bigSep_insert (by decide), BI.bigSep_singleton]
  rfl

/-- Buffers of rows, whatever they hold. -/
theorem rows_forget {rows : Fin 4 → Memref sig .scVector .vmem S64x128 .f32} {S : S64x128.Idx → Prop} {R R' : Fin 4 → S64x128.Idx → Elt F .f32} :
    (bigSep Finset.univ fun k => Part (U := U) d i (rows k) S (R k)) ⊢ bigSep Finset.univ fun k => Part (U := U) d i (rows k) (fun _ => False) (R' k) :=
  BI.bigSep_mono fun _ _ => Part_forget d i

section
variable {arg2 : Memref sig .scVector .hbm S589824x128 .f32} {arg7 arg8 : Memref sig .scVector .vmem S1280 .f32} {arg9 : Memref sig .scVector .vmem S1280 .i32}
  {idx : Memref sig .scVector .vmem S4x64 .i32} {wb : Memref sig .scVector .vmem S4x64 .f32}
  {rows : Fin 4 → Memref sig .scVector .vmem S64x128 .f32} {sems : Fin 4 → DmaSems sig S_}
  {ov : Memref sig .scVector .vmem S64x96 .f32} {out : Memref sig .scVector .hbm S40960x96 .f32}
  {PX PY : S1280.Idx → F .f32} {RB : S1280.Idx → BitVec 32}
  (q : PosShare TreeShare) (fs : Buf (Elt F) (arg2.view.loc (thr d i)))

variable (arg2 idx wb rows sems) in
/-- A block's buffers with nothing in flight and nothing known. -/
def Idle : sProp 𝕄 :=
  iprop(Still (U := U) d i arg2 idx rows sems q fs (fun _ => False) (fun _ => 0) False (fun _ _ => Scalar.ofBits .f32 0)
    ∗ Part d i wb (fun _ => False) (fun _ => Scalar.ofBits .f32 0))

variable (arg2 idx wb rows sems PX PY RB) in
/-- A block's buffers with block `b` in flight. -/
def Busy (N : ℕ) (b : Fin 20) : sProp 𝕄 :=
  iprop(Flying (U := U) EC d i arg2 idx rows sems N q fs (idxT PX PY RB b) ∗ Part d i wb (fun _ => True) (wbT PX PY b))

/-- What a block's 64 output rows come to hold. -/
def outB (PX PY : S1280.Idx → F .f32) (RB : S1280.Idx → BitVec 32) (TB : S589824x128.Idx → F .f32) (b : Fin 20) : S64x96.Idx → F .f32 :=
  outT (rowsT TB (idxT PX PY RB b)) (wbT PX PY b)

theorem start_part [EC.LandsIn (upEmb : UEmb _ 𝕄)] {N : ℕ} (hN : Credits rows N) {o : Fin 4 → Fin 1 → Nat}
    {ho : ∀ r a, o r a + S16.size a ≤ S1280.size a} (b : Fin 20) (hb : ∀ r : Fin 4, o r 0 = 64 * b.val + 16 * r.val)
    (hI : ∀ b, Within (idxT PX PY RB b)) :
    iprop(Pos (U := U) d i arg7 arg8 arg9 PX PY RB ∗ Idle d i arg2 idx wb rows sems q fs)
      ⊢ runs d i (start arg2 arg7 arg8 arg9 idx wb rows sems o ho) fun _ =>
        iprop(Pos d i arg7 arg8 arg9 PX PY RB ∗ Busy EC d i arg2 idx wb rows sems PX PY RB q fs N b) := by
  unfold start Idle Busy
  refine .trans ?_ (runs_bind d i _ _ _)
  iintro ⟨HP, HS, HW⟩
  unfold Still
  icases HS with ⟨HT, HI, HR, HS⟩
  iapply (wp_wand_r (Fr := frame) (wpE := wpE (defs₀ (F := F)) Variants.none (thr d i) none) (E := Set.univ))
  isplitl [HP HI HW]
  · iapply (block_part (U := U) d i b hb _ _ _ _)
    isplitl [HP]; · iexact HP
    isplitl [HI]; · iexact HI
    iexact HW
  iintro %_ ⟨HP, HI, HW⟩
  iapply (wp_wand_r (Fr := frame) (wpE := wpE (defs₀ (F := F)) Variants.none (thr d i) none) (E := Set.univ))
  isplitl [HT HI HR HS]
  · iapply (fire_part (U := U) EC d i hN q fs (hI b) False (fun _ _ => Scalar.ofBits .f32 0))
    unfold Still
    isplitl [HT]; · iexact HT
    isplitl [HI]; · iexact HI
    isplitl [HR]; · iexact HR
    iexact HS
  iintro %_ H
  isplitl [HP]; · iexact HP
  isplitl [H]; · iexact H
  iexact HW

theorem finish_part [EC.LandsIn (upEmb : UEmb _ 𝕄)] {N : ℕ} (hN0 : 0 < N) (hN : Credits rows N) {hov : ov.IsWhole} {o : Fin 2 → Nat}
    {ho : ∀ a, o a + S64x96.size a ≤ S40960x96.size a} {sem : DmaSems sig S_}
    (hc : 0 < (out.slice (Rect.unit (s := S40960x96) o S64x96.size ho) (fun _ => rfl)).view.dmaCredit) (b : Fin 20)
    (O : CellTallies nD τ sig (HIx 1)) (W : Waits sig (HIx 1)) (T : S64x96.Idx → F .f32) :
    iprop(Busy (U := U) EC d i arg2 idx wb rows sems PX PY RB q fs N b ∗ Part d i ov (fun _ => False) (fun _ => Scalar.ofBits .f32 0)
        ∗ Part d i (out.slice (Rect.unit (s := S40960x96) o S64x96.size ho) (fun _ => rfl)) (fun _ => False) T
        ∗ semVal (thr d i, SemLoc.dma sem.sem) 0 ∗ Keep d i O W)
      ⊢ runs d i (finish arg2 wb rows sems ov hov out o ho sem) fun _ =>
        iprop(Idle d i arg2 idx wb rows sems q fs ∗ Part d i ov (fun _ => False) (fun _ => Scalar.ofBits .f32 0)
        ∗ Part d i (out.slice (Rect.unit (s := S40960x96) o S64x96.size ho) (fun _ => rfl)) (fun _ => True) (outB PX PY RB (arg2.view.read (Elt F) fs) b)
        ∗ semVal (thr d i, SemLoc.dma sem.sem) 0 ∗ Keep d i O W) := by
  unfold finish Busy Keep
  refine .trans ?_ (runs_bind d i _ _ _)
  iintro ⟨⟨HF, HW⟩, HO, HD, HC, HK⟩
  iapply (wp_wand_r (Fr := frame) (wpE := wpE (defs₀ (F := F)) Variants.none (thr d i) none) (E := Set.univ))
  isplitl [HF HK]
  · iapply (drain_part (U := U) EC d i hN0 hN q fs O W)
    isplitl [HF]; · iexact HF
    iexact HK
  iintro %_ ⟨HS, HK⟩
  iapply (runs_bind (U := U) d i _ _ _)
  unfold Still
  icases HS with ⟨HT, HI, HR, HS⟩
  ihave HR := (Entails.of_eq (Rows_eq (U := U) d i rows _)) $$ HR
  iapply (combine_part (U := U) d i _ _) $$ [HR HW HO]
  · isplitl [HR]; · iexact HR
    isplitl [HW]; · iexact HW
    iexact HO
  iintro ⟨HR, HW, HO⟩
  ihave HO := (Part_open (U := U) d i) $$ HO
  icases HO with ⟨%fo, %hfo, HO⟩
  unfold copyOut
  iapply (wp_wand_r (Fr := frame) (wpE := wpE (defs₀ (F := F)) Variants.none (thr d i) none) (E := Set.univ))
  isplitl [HO HD HC HK]
  · iapply (copy_part (U := U) EC d i O W hc _ _)
    isplitl [HO]; · iexact HO
    isplitl [HD]; · iexact HD
    isplitl [HC]; · iexact HC
    unfold Keep
    iexact HK
  iintro %_ ⟨HO, HD, HC, HK⟩
  unfold Idle Still
  isplitl [HT HI HR HS HW]
  · isplitl [HT HI HR HS]
    · isplitl [HT]; · iexact HT
      isplitl [HI]; · iapply (Part_forget (U := U) d i) $$ HI
      isplitl [HR]
      · ihave HR := (Entails.of_eq (Rows_eq (U := U) d i rows _).symm) $$ HR
        iapply (rows_forget (U := U) d i) $$ HR
      iexact HS
    iapply (Part_forget (U := U) d i) $$ HW
  isplitl [HO]
  · unfold Part
    iexists fo
    isplitr
    · ipureintro; exact fun _ h => h.elim
    iexact HO
  isplitl [HD]
  · iapply (Part_weaken (U := U) d i (m := out.slice (Rect.unit o S64x96.size ho) fun _ => rfl) (S := fun _ => True) (S' := fun _ => True) (T := ov.view.read (Elt F) fo)
      (T' := outB PX PY RB (arg2.view.read (Elt F) fs) b) fun x _ => ⟨trivial, hfo x trivial⟩) $$ HD
  isplitl [HC]; · iexact HC
  unfold Keep
  iexact HK

end

end Cert.KernelIdeal.Stages

end
-- ==== Proof.Tile.lean ====
/-
  A tile's whole program: its positions copied in, the first block started, and ten turns of two blocks each,
  one block's gathers in flight while the other's rows are combined and copied out.
-/
module

public import proofs.«01_k».proof.Proof.Steps
public import proofs.«01_k».proof.Proof.Gen.KernelIdeal

@[expose] public section

noncomputable section

namespace Cert.KernelIdeal.Stages

open Idealize.ShloMosaic Idealize.ShloMosaic.ValueIdx
open Idealize.ShloMosaic.SparseCore (V T)
open Idealize.ShloMosaic.SparseCore.Cfg (HIx)
open Idealize.SL Idealize.SL.RA Idealize.SL.BI Idealize.SL.ExclCount
open scoped Idealize.SL.BI
open Idealize.SL.BI.BIBase Idealize.SL.BI.Laws Idealize.SL.ProofMode Idealize.SL.Sem
open Cert.KernelIdeal

variable {F : FTy → Type} [FloatOps F] [Facts] {U : Type} [URA U]
open Facts₀ Facts

local notation "𝕄" => MT nD τ sig (HIx 1) (Elt F) ℕ U ℕ

/-! ## The body by turns -/

section
variable (i : grid1.Coords) (arg2 : Memref sig .scVector .hbm S589824x128 .f32)
  (arg3 arg4 : Memref sig .scVector .hbm S40960 .f32) (arg5 : Memref sig .scVector .hbm S40960 .i32)
  (arg6 : Memref sig .scVector .hbm S40960x96 .f32)
  (arg7 : Memref sig .scVector .vmem S1280 .f32) (harg7 : arg7.IsWhole) (arg8 : Memref sig .scVector .vmem S1280 .f32) (harg8 : arg8.IsWhole)
  (arg9 : Memref sig .scVector .vmem S1280 .i32) (harg9 : arg9.IsWhole)
  (idx0 idx1 : Memref sig .scVector .vmem S4x64 .i32) (wb0 wb1 : Memref sig .scVector .vmem S4x64 .f32)
  (rows0 rows1 : Fin 4 → Memref sig .scVector .vmem S64x128 .f32)
  (ov : Memref sig .scVector .vmem S64x96 .f32) (hov : ov.IsWhole)
  (sems0 sems1 : Fin 4 → DmaSems sig S_) (c0 c1 c2 c3 c4 : DmaSems sig S_)

/-- The next even block started, if there is one. -/
def more (t : Fin k1_t1_loop.trips) : TP F i PUnit :=
  if h : k1_cond1 t = 1#1 then start arg2 arg7 arg8 arg9 idx0 wb0 rows0 sems0 (fun r => k1_off20 t (BitVec.ofNat 32 (16 * r.val))) (k1_off20_inb t h)
  else pure ⟨⟩

/-- One turn: two blocks. -/
def turn (t : Fin k1_t1_loop.trips) : TP F i PUnit :=
  start arg2 arg7 arg8 arg9 idx1 wb1 rows1 sems1 (fun r => k1_off2 t (BitVec.ofNat 32 (16 * r.val))) (k1_off2_inb t) >>= fun _ =>
    finish arg2 wb0 rows0 sems0 ov hov arg6 (k1_off19 i t) (k1_off19_inb i t) c3 >>= fun _ =>
      more i arg2 arg7 arg8 arg9 idx0 wb0 rows0 sems0 t >>= fun _ =>
        finish arg2 wb1 rows1 sems1 ov hov arg6 (k1_off37 i t) (k1_off37_inb i t) c4

theorem body_eq_turns : (body i arg2 arg3 arg4 arg5 arg6 arg7 harg7 arg8 harg8 arg9 harg9 idx0 idx1 wb0 wb1 rows0 rows1 ov hov sems0 sems1 c0 c1 c2 c3 c4 : TP F i PUnit) =
    copyIn arg3 arg7 harg7 rfl c0 >>= fun _ => copyIn arg4 arg8 harg8 rfl c1 >>= fun _ => copyIn arg5 arg9 harg9 rfl c2 >>= fun _ =>
      start arg2 arg7 arg8 arg9 idx0 wb0 rows0 sems0 (fun r => ![16 * r.val]) inb_first >>= fun _ =>
        Scf.Loop.for k1_t1_loop k1_t1_ok ⟨⟩ (fun t _ => turn i arg2 arg6 arg7 arg8 arg9 idx0 idx1 wb0 wb1 rows0 rows1 ov hov sems0 sems1 c3 c4 t) >>= fun _ => pure ⟨⟩ := by
  simp only [body, turn, more, start, finish, bind_assoc]

end

/-! ## A block's output rows -/

/-- The first of the 64 output rows of block `b` of the tile. -/
def outOff (i : grid1.Coords) (b : Fin 20) : Fin 2 → Nat := ![20480 * (i 0).val + 1280 * (i 1).val + 64 * b.val, 0]

theorem outOff_inb (i : grid1.Coords) (b : Fin 20) : ∀ a, outOff i b a + S64x96.size a ≤ S40960x96.size a := by
  have h0 : (i 0).val < 2 := (i 0).isLt
  have h1 : (i 1).val < 16 := (i 1).isLt
  have hb := b.isLt
  intro a
  match a with
  | ⟨0, _⟩ => show 20480 * (i 0).val + 1280 * (i 1).val + 64 * b.val + 64 ≤ 40960; omega
  | ⟨1, _⟩ => show 0 + 96 ≤ 96; omega

/-- The output rows of block `b`. -/
abbrev outSl (i : grid1.Coords) (out : Memref sig .scVector .hbm S40960x96 .f32) (b : Fin 20) : Memref sig .scVector .hbm S64x96 .f32 :=
  out.slice (Rect.unit (s := S40960x96) (outOff i b) S64x96.size (outOff_inb i b)) (fun _ => rfl)

variable (EC : UEmb Counters (MT nD τ sig (HIx 1) (Elt F) ℕ U ℕ)) (d : Dev nD) (i : grid1.Coords)

/-- The same rows by another text of their place. -/
theorem Part_place {out : Memref sig .scVector .hbm S40960x96 .f32} {o : Fin 2 → Nat} {b : Fin 20} (e : o = outOff i b)
    {ho : ∀ a, o a + S64x96.size a ≤ S40960x96.size a} (S : S64x96.Idx → Prop) (T : S64x96.Idx → Elt F .f32) :
    Part (U := U) d i (out.slice (Rect.unit (s := S40960x96) o S64x96.size ho) (fun _ => rfl)) S T = Part d i (outSl i out b) S T := by
  subst e; rfl

/-- The tile's output rows with the first `n` blocks done. -/
def Done (out : Memref sig .scVector .hbm S40960x96 .f32) (n : ℕ) (O : Fin 20 → S64x96.Idx → Elt F .f32) : sProp 𝕄 :=
  bigSep Finset.univ fun b : Fin 20 => Part d i (outSl i out b) (fun _ => b.val < n) (O b)

/-- Block `n` out of the tile's rows, and back once done. -/
theorem done_next (out : Memref sig .scVector .hbm S40960x96 .f32) (b : Fin 20) {n : ℕ} (hn : b.val = n) (O : Fin 20 → S64x96.Idx → Elt F .f32) :
    Done (U := U) d i out n O ⊢ iprop(Part d i (outSl i out b) (fun _ => False) (O b)
      ∗ (Part d i (outSl i out b) (fun _ => True) (O b) -∗ Done d i out (n + 1) O)) := by
  subst hn
  unfold Done
  rw [SparseCore.bigSep_erase' (Finset.mem_univ b), SparseCore.bigSep_erase' (Finset.mem_univ b)]
  have hm : (bigSep (Finset.univ.erase b) fun b' : Fin 20 => Part (U := U) d i (outSl i out b') (fun _ => b'.val < b.val) (O b'))
      ⊢ bigSep (Finset.univ.erase b) fun b' : Fin 20 => Part (U := U) d i (outSl i out b') (fun _ => b'.val < b.val + 1) (O b') := by
    refine BI.bigSep_mono fun b' hb' => Part_weaken (U := U) d i fun x hx => ⟨?_, rfl⟩
    have h : b'.val ≠ b.val := fun h => (Finset.mem_erase.mp hb').1 (Fin.ext h)
    have : b'.val < b.val + 1 := hx
    show b'.val < b.val
    omega
  iintro ⟨HB, HR⟩
  isplitl [HB]; · iapply (Part_weaken (U := U) d i (S' := fun _ => False) (T' := O b) fun _ h => False.elim h) $$ HB
  iintro HB
  isplitl [HB]
  · iapply (Part_weaken (U := U) d i (S' := fun _ => b.val < b.val + 1) (T' := O b) fun _ _ => ⟨trivial, rfl⟩) $$ HB
  iapply hm $$ HR

/-- What was lent, given back. -/
theorem back (P Q : sProp 𝕄) : iprop((P -∗ Q) ∗ P) ⊢ Q := by
  iintro ⟨HQ, HP⟩
  iapply HQ $$ HP

theorem trips_turns : k1_t1_loop.trips = 10 := by decide

/-- The two blocks of a turn. -/
def evenB (t : Fin k1_t1_loop.trips) : Fin 20 := ⟨2 * t.val, by have h : t.val < 10 := t.isLt; omega⟩
def oddB (t : Fin k1_t1_loop.trips) : Fin 20 := ⟨2 * t.val + 1, by have h : t.val < 10 := t.isLt; omega⟩

section
variable {arg2 : Memref sig .scVector .hbm S589824x128 .f32}
  {arg3 arg4 : Memref sig .scVector .hbm S40960 .f32} {arg5 : Memref sig .scVector .hbm S40960 .i32}
  {arg6 : Memref sig .scVector .hbm S40960x96 .f32}
  {arg7 : Memref sig .scVector .vmem S1280 .f32} {harg7 : arg7.IsWhole} {arg8 : Memref sig .scVector .vmem S1280 .f32} {harg8 : arg8.IsWhole}
  {arg9 : Memref sig .scVector .vmem S1280 .i32} {harg9 : arg9.IsWhole}
  {idx0 idx1 : Memref sig .scVector .vmem S4x64 .i32} {wb0 wb1 : Memref sig .scVector .vmem S4x64 .f32}
  {rows0 rows1 : Fin 4 → Memref sig .scVector .vmem S64x128 .f32}
  {ov : Memref sig .scVector .vmem S64x96 .f32} {hov : ov.IsWhole}
  {sems0 sems1 : Fin 4 → DmaSems sig S_} {c0 c1 c2 c3 c4 : DmaSems sig S_}
  {PX PY : S1280.Idx → F .f32} {RB : S1280.Idx → BitVec 32}
  (q0 q1 : PosShare TreeShare) (fs : Buf (Elt F) (arg2.view.loc (thr d i)))
  (O : CellTallies nD τ sig (HIx 1)) (W : Waits sig (HIx 1))

variable (arg2 idx0 wb0 rows0 sems0 PX PY RB) in
/-- The even block's buffers before turn `n`: its block in flight, or after the last turn nothing. -/
def Even (N n : ℕ) : sProp 𝕄 :=
  if h : n < 10 then Busy (U := U) EC d i arg2 idx0 wb0 rows0 sems0 PX PY RB q0 fs N ⟨2 * n, by omega⟩ else Idle d i arg2 idx0 wb0 rows0 sems0 q0 fs

variable (ov c3 c4) in
/-- The combined rows' buffer, the semaphores of its copies, and what is kept throughout. -/
def Side : sProp 𝕄 :=
  iprop(Part (U := U) d i ov (fun _ => False) (fun _ => Scalar.ofBits .f32 0) ∗ semVal (thr d i, SemLoc.dma c3.sem) 0 ∗ semVal (thr d i, SemLoc.dma c4.sem) 0 ∗ Keep d i O W)

variable (arg2 arg6 arg7 arg8 arg9 idx0 idx1 wb0 wb1 rows0 rows1 ov sems0 sems1 c3 c4 PX PY RB) in
/-- What holds before turn `n`. -/
def Loop (N n : ℕ) : sProp 𝕄 :=
  iprop(Pos (U := U) d i arg7 arg8 arg9 PX PY RB ∗ Even EC d i arg2 idx0 wb0 rows0 sems0 PX PY RB q0 fs N n ∗ Idle d i arg2 idx1 wb1 rows1 sems1 q1 fs
    ∗ Done d i arg6 (2 * n) (outB PX PY RB (arg2.view.read (Elt F) fs)) ∗ Side d i ov c3 c4 O W)

theorem cond_more : ∀ t : Fin k1_t1_loop.trips, k1_cond1 t = 1#1 ↔ t.val < 9 := by decide +kernel

theorem more_part [EC.LandsIn (upEmb : UEmb _ 𝕄)] {N : ℕ} (hN : Credits rows0 N) (hI : ∀ b, Within (idxT PX PY RB b)) (t : Fin k1_t1_loop.trips) :
    iprop(Pos (U := U) d i arg7 arg8 arg9 PX PY RB ∗ Idle d i arg2 idx0 wb0 rows0 sems0 q0 fs)
      ⊢ runs d i (more i arg2 arg7 arg8 arg9 idx0 wb0 rows0 sems0 t) fun _ =>
        iprop(Pos d i arg7 arg8 arg9 PX PY RB ∗ Even EC d i arg2 idx0 wb0 rows0 sems0 PX PY RB q0 fs N (t.val + 1)) := by
  unfold more Even
  by_cases h : k1_cond1 t = 1#1
  · have ht := (cond_more t).mp h
    rw [dif_pos h]
    simp only [show t.val + 1 < 10 by omega, ↓reduceDIte]
    exact start_part (U := U) EC d i q0 fs hN ⟨2 * (t.val + 1), by omega⟩
      (fun r => by rw [Gen.k1_off20_eq]; show 128 * t.val + 16 * r.val + 128 = 64 * (2 * (t.val + 1)) + 16 * r.val; omega) hI
  · have ht : ¬ t.val < 9 := fun h' => h ((cond_more t).mpr h')
    rw [dif_neg h]
    simp only [show ¬ t.val + 1 < 10 by omega, ↓reduceDIte]
    exact runs_pure (U := U) d i _ _

theorem turn_part [EC.LandsIn (upEmb : UEmb _ 𝕄)] {N : ℕ} (hN0 : 0 < N) (hN : Credits rows0 N) (hN' : Credits rows1 N)
    (hc : ∀ (o : Fin 2 → Nat) (ho : ∀ a, o a + S64x96.size a ≤ S40960x96.size a), 0 < (arg6.slice (Rect.unit (s := S40960x96) o S64x96.size ho) (fun _ => rfl)).view.dmaCredit)
    (hI : ∀ b, Within (idxT PX PY RB b)) (t : Fin k1_t1_loop.trips) :
    Loop (U := U) EC d i arg2 arg6 arg7 arg8 arg9 idx0 idx1 wb0 wb1 rows0 rows1 ov sems0 sems1 c3 c4 PX PY RB q0 q1 fs O W N t.val
      ⊢ runs d i (turn i arg2 arg6 arg7 arg8 arg9 idx0 idx1 wb0 wb1 rows0 rows1 ov hov sems0 sems1 c3 c4 t) fun _ =>
        Loop EC d i arg2 arg6 arg7 arg8 arg9 idx0 idx1 wb0 wb1 rows0 rows1 ov sems0 sems1 c3 c4 PX PY RB q0 q1 fs O W N (t.val + 1) := by
  have ht : t.val < 10 := t.isLt.trans_eq trips_turns
  have hM := more_part (U := U) EC d i (arg2 := arg2) (arg7 := arg7) (arg8 := arg8) (arg9 := arg9) (idx0 := idx0) (wb0 := wb0) (rows0 := rows0) (sems0 := sems0) q0 fs hN hI t
  unfold Loop turn
  have e0 : Even (U := U) EC d i arg2 idx0 wb0 rows0 sems0 PX PY RB q0 fs N t.val
      = Busy EC d i arg2 idx0 wb0 rows0 sems0 PX PY RB q0 fs N (evenB t) := dif_pos ht
  have p0 : k1_off19 i t = outOff i (evenB t) := by
    rw [Gen.k1_off19_eq]; unfold outOff evenB; congr 1; show _ + 128 * t.val = _ + 64 * (2 * t.val); omega
  have p1 : k1_off37 i t = outOff i (oddB t) := by
    rw [Gen.k1_off37_eq]; unfold outOff oddB; congr 1; show _ + 128 * t.val + 64 = _ + 64 * (2 * t.val + 1); omega
  rw [e0]
  refine .trans ?_ (runs_bind d i _ _ _)
  iintro ⟨HP, HE, HI, HD, HS⟩
  iapply (wp_wand_r (Fr := frame) (wpE := wpE (defs₀ (F := F)) Variants.none (thr d i) none) (E := Set.univ))
  isplitl [HP HI]
  · iapply (start_part (U := U) EC d i q1 fs hN' (oddB t)
      (fun r => by rw [Gen.k1_off2_eq]; show 128 * t.val + 16 * r.val + 64 = 64 * (2 * t.val + 1) + 16 * r.val; omega) hI)
    isplitl [HP]; · iexact HP
    iexact HI
  iintro %_ ⟨HP, HI⟩
  iapply (runs_bind (U := U) d i _ _ _)
  ihave HD := (done_next (U := U) d i arg6 (evenB t) (n := 2 * t.val) rfl _) $$ HD
  icases HD with ⟨HB, HD⟩
  unfold Side
  icases HS with ⟨HO, H3, H4, HK⟩
  iapply (wp_wand_r (Fr := frame) (wpE := wpE (defs₀ (F := F)) Variants.none (thr d i) none) (E := Set.univ))
  isplitl [HE HO HB H3 HK]
  · iapply (finish_part (U := U) EC d i q0 fs hN0 hN (hc _ _) (evenB t) O W _)
    isplitl [HE]; · iexact HE
    isplitl [HO]; · iexact HO
    isplitl [HB]; · iapply (Entails.of_eq (Part_place (U := U) d i p0 _ _).symm) $$ HB
    isplitl [H3]; · iexact H3
    iexact HK
  iintro %_ ⟨HE, HO, HB, H3, HK⟩
  ihave HB := (Entails.of_eq (Part_place (U := U) d i p0 _ _)) $$ HB
  ihave HD := (back _ _) $$ [HD HB]
  · isplitl [HD]; · iexact HD
    iexact HB
  iapply (runs_bind (U := U) d i _ _ _)
  iapply (wp_wand_r (Fr := frame) (wpE := wpE (defs₀ (F := F)) Variants.none (thr d i) none) (E := Set.univ))
  isplitl [HP HE]
  · iapply hM
    isplitl [HP]; · iexact HP
    iexact HE
  iintro %_ ⟨HP, HE⟩
  ihave HD := (done_next (U := U) d i arg6 (oddB t) (n := 2 * t.val + 1) rfl _) $$ HD
  icases HD with ⟨HB, HD⟩
  iapply (wp_wand_r (Fr := frame) (wpE := wpE (defs₀ (F := F)) Variants.none (thr d i) none) (E := Set.univ))
  isplitl [HI HO HB H4 HK]
  · iapply (finish_part (U := U) EC d i q1 fs hN0 hN' (hc _ _) (oddB t) O W _)
    isplitl [HI]; · iexact HI
    isplitl [HO]; · iexact HO
    isplitl [HB]; · iapply (Entails.of_eq (Part_place (U := U) d i p1 _ _).symm) $$ HB
    isplitl [H4]; · iexact H4
    iexact HK
  iintro %_ ⟨HI, HO, HB, H4, HK⟩
  ihave HB := (Entails.of_eq (Part_place (U := U) d i p1 _ _)) $$ HB
  ihave HD := (back _ _) $$ [HD HB]
  · isplitl [HD]; · iexact HD
    iexact HB
  isplitl [HP]; · iexact HP
  isplitl [HE]; · iexact HE
  isplitl [HI]; · iexact HI
  isplitl [HD]; · iexact HD
  isplitl [HO]; · iexact HO
  isplitl [H3]; · iexact H3
  isplitl [H4]; · iexact H4
  iexact HK

/-- The tile's stretch of a list of positions. -/
abbrev stretch {e : EltTy} (src : Memref sig .scVector .hbm S40960 e) : Memref sig .scVector .hbm S1280 e :=
  src.slice (Rect.unit (s := S40960) (k1_off1 i) S1280.size (k1_off1_inb i)) (fun _ => rfl)

/-- What the tile's stretch of a list holds. -/
abbrev inV {e : EltTy} (src : Memref sig .scVector .hbm S40960 e) (f : Buf (Elt F) ((stretch i src).view.loc (thr d i))) : S1280.Idx → Elt F e :=
  (stretch i src).view.read (Elt F) f

/-- A stretch copied in. -/
theorem copyIn_part [EC.LandsIn (upEmb : UEmb _ 𝕄)] {e : EltTy} {src : Memref sig .scVector .hbm S40960 e} {dst : Memref sig .scVector .vmem S1280 e}
    {hdst : dst.IsWhole} {he : e.bits = 32} {c : DmaSems sig S_} (h0 : 0 < dst.view.dmaCredit) {q : PosShare TreeShare} {f : Buf (Elt F) ((stretch i src).view.loc (thr d i))}
    {T : S1280.Idx → Elt F e} :
    iprop(((stretch i src).view.loc (thr d i) ↦[(stretch i src).view.set]{q} f) ∗ Part (U := U) d i dst (fun _ => False) T ∗ semVal (thr d i, SemLoc.dma c.sem) 0 ∗ Keep d i O W)
      ⊢ runs d i (copyIn src dst hdst he c) fun _ =>
        iprop(((stretch i src).view.loc (thr d i) ↦[(stretch i src).view.set]{q} f) ∗ Part d i dst (fun _ => True) (inV d i src f)
          ∗ semVal (thr d i, SemLoc.dma c.sem) 0 ∗ Keep d i O W) := by
  unfold copyIn
  exact copy_part (U := U) EC d i O W h0 _ _

/-- The tile's run. -/
theorem tile_part [EC.LandsIn (upEmb : UEmb _ 𝕄)] {N : ℕ} (hN0 : 0 < N) (hN : Credits rows0 N) (hN' : Credits rows1 N)
    (hc : ∀ (o : Fin 2 → Nat) (ho : ∀ a, o a + S64x96.size a ≤ S40960x96.size a), 0 < (arg6.slice (Rect.unit (s := S40960x96) o S64x96.size ho) (fun _ => rfl)).view.dmaCredit)
    (h7 : 0 < arg7.view.dmaCredit) (h8 : 0 < arg8.view.dmaCredit) (h9 : 0 < arg9.view.dmaCredit)
    (q3 q4 q5 : PosShare TreeShare) (f3 : Buf (Elt F) ((stretch i arg3).view.loc (thr d i))) (f4 : Buf (Elt F) ((stretch i arg4).view.loc (thr d i)))
    (f5 : Buf (Elt F) ((stretch i arg5).view.loc (thr d i)))
    (hI : ∀ b, Within (idxT (inV d i arg3 f3) (inV d i arg4 f4) (inV d i arg5 f5) b))
    (T7 T8 : S1280.Idx → F .f32) (T9 : S1280.Idx → BitVec 32) :
    iprop((((stretch i arg3).view.loc (thr d i) ↦[(stretch i arg3).view.set]{q3} f3) ∗ ((stretch i arg4).view.loc (thr d i) ↦[(stretch i arg4).view.set]{q4} f4)
        ∗ ((stretch i arg5).view.loc (thr d i) ↦[(stretch i arg5).view.set]{q5} f5))
      ∗ (Part (U := U) d i arg7 (fun _ => False) T7 ∗ Part d i arg8 (fun _ => False) T8 ∗ Part d i arg9 (fun _ => False) T9)
      ∗ (semVal (thr d i, SemLoc.dma c0.sem) 0 ∗ semVal (thr d i, SemLoc.dma c1.sem) 0 ∗ semVal (thr d i, SemLoc.dma c2.sem) 0)
      ∗ Idle d i arg2 idx0 wb0 rows0 sems0 q0 fs ∗ Idle d i arg2 idx1 wb1 rows1 sems1 q1 fs
      ∗ Done d i arg6 0 (outB (inV d i arg3 f3) (inV d i arg4 f4) (inV d i arg5 f5) (arg2.view.read (Elt F) fs))
      ∗ Side d i ov c3 c4 O W)
    ⊢ runs d i (body i arg2 arg3 arg4 arg5 arg6 arg7 harg7 arg8 harg8 arg9 harg9 idx0 idx1 wb0 wb1 rows0 rows1 ov hov sems0 sems1 c0 c1 c2 c3 c4) fun _ =>
      iprop((((stretch i arg3).view.loc (thr d i) ↦[(stretch i arg3).view.set]{q3} f3) ∗ ((stretch i arg4).view.loc (thr d i) ↦[(stretch i arg4).view.set]{q4} f4)
        ∗ ((stretch i arg5).view.loc (thr d i) ↦[(stretch i arg5).view.set]{q5} f5))
      ∗ Pos d i arg7 arg8 arg9 (inV d i arg3 f3) (inV d i arg4 f4) (inV d i arg5 f5)
      ∗ (semVal (thr d i, SemLoc.dma c0.sem) 0 ∗ semVal (thr d i, SemLoc.dma c1.sem) 0 ∗ semVal (thr d i, SemLoc.dma c2.sem) 0)
      ∗ Idle d i arg2 idx0 wb0 rows0 sems0 q0 fs ∗ Idle d i arg2 idx1 wb1 rows1 sems1 q1 fs
      ∗ Done d i arg6 20 (outB (inV d i arg3 f3) (inV d i arg4 f4) (inV d i arg5 f5) (arg2.view.read (Elt F) fs))
      ∗ Side d i ov c3 c4 O W) := by
  have e0 : Even (U := U) EC d i arg2 idx0 wb0 rows0 sems0 (inV d i arg3 f3) (inV d i arg4 f4) (inV d i arg5 f5) q0 fs N 0
      = Busy EC d i arg2 idx0 wb0 rows0 sems0 (inV d i arg3 f3) (inV d i arg4 f4) (inV d i arg5 f5) q0 fs N 0 := dif_pos (by omega)
  have e1 : Even (U := U) EC d i arg2 idx0 wb0 rows0 sems0 (inV d i arg3 f3) (inV d i arg4 f4) (inV d i arg5 f5) q0 fs N k1_t1_loop.trips
      = Idle d i arg2 idx0 wb0 rows0 sems0 q0 fs := dif_neg (by rw [trips_turns]; omega)
  rw [body_eq_turns]
  refine .trans ?_ (runs_bind d i _ _ _)
  unfold Side
  iintro ⟨⟨H3, H4, H5⟩, ⟨H7, H8, H9⟩, ⟨S0, S1, S2⟩, HE, HI, HD, HO, C3, C4, HK⟩
  iapply (wp_wand_r (Fr := frame) (wpE := wpE (defs₀ (F := F)) Variants.none (thr d i) none) (E := Set.univ))
  isplitl [H3 H7 S0 HK]
  · iapply (copyIn_part (U := U) EC d i O W h7)
    isplitl [H3]; · iexact H3
    isplitl [H7]; · iexact H7
    isplitl [S0]; · iexact S0
    iexact HK
  iintro %_ ⟨H3, H7, S0, HK⟩
  iapply (runs_bind (U := U) d i _ _ _)
  iapply (wp_wand_r (Fr := frame) (wpE := wpE (defs₀ (F := F)) Variants.none (thr d i) none) (E := Set.univ))
  isplitl [H4 H8 S1 HK]
  · iapply (copyIn_part (U := U) EC d i O W h8)
    isplitl [H4]; · iexact H4
    isplitl [H8]; · iexact H8
    isplitl [S1]; · iexact S1
    iexact HK
  iintro %_ ⟨H4, H8, S1, HK⟩
  iapply (runs_bind (U := U) d i _ _ _)
  iapply (wp_wand_r (Fr := frame) (wpE := wpE (defs₀ (F := F)) Variants.none (thr d i) none) (E := Set.univ))
  isplitl [H5 H9 S2 HK]
  · iapply (copyIn_part (U := U) EC d i O W h9)
    isplitl [H5]; · iexact H5
    isplitl [H9]; · iexact H9
    isplitl [S2]; · iexact S2
    iexact HK
  iintro %_ ⟨H5, H9, S2, HK⟩
  iapply (runs_bind (U := U) d i _ _ _)
  iapply (wp_wand_r (Fr := frame) (wpE := wpE (defs₀ (F := F)) Variants.none (thr d i) none) (E := Set.univ))
  isplitl [H7 H8 H9 HE]
  · iapply (start_part (U := U) EC d i (arg7 := arg7) (arg8 := arg8) (arg9 := arg9) (PX := inV d i arg3 f3) (PY := inV d i arg4 f4) (RB := inV d i arg5 f5)
      q0 fs hN 0 (fun r => by show 16 * r.val = 64 * 0 + 16 * r.val; omega) hI)
    isplitl [H7 H8 H9]
    · unfold Pos
      isplitl [H7]; · iexact H7
      isplitl [H8]; · iexact H8
      iexact H9
    iexact HE
  iintro %_ ⟨HP, HE⟩
  iapply (runs_bind (U := U) d i _ _ _)
  iapply (Scf.wp_for frame _ _ _ _ _ k1_t1_ok _ _ (fun n _ => Loop (U := U) EC d i arg2 arg6 arg7 arg8 arg9 idx0 idx1 wb0 wb1 rows0 rows1 ov sems0 sems1 c3 c4
    (inV d i arg3 f3) (inV d i arg4 f4) (inV d i arg5 f5) q0 q1 fs O W N n) fun t _ => ?_)
  · exact turn_part (U := U) EC d i q0 q1 fs O W hN0 hN hN' hc hI t
  isplitl [HP HE HI HD HO C3 C4 HK]
  · unfold Loop Side
    isplitl [HP]; · iexact HP
    isplitl [HE]; · iapply (Entails.of_eq e0.symm) $$ HE
    isplitl [HI]; · iexact HI
    isplitl [HD]; · iexact HD
    isplitl [HO]; · iexact HO
    isplitl [C3]; · iexact C3
    isplitl [C4]; · iexact C4
    iexact HK
  iintro %_ H
  iapply (runs_pure (U := U) d i _ _)
  unfold Loop
  icases H with ⟨HP, HE, HI, HD, HS⟩
  isplitl [H3 H4 H5]
  · isplitl [H3]; · iexact H3
    isplitl [H4]; · iexact H4
    iexact H5
  isplitl [HP]; · iexact HP
  isplitl [S0 S1 S2]
  · isplitl [S0]; · iexact S0
    isplitl [S1]; · iexact S1
    iexact S2
  isplitl [HE]; · iapply (Entails.of_eq e1) $$ HE
  isplitl [HI]; · iexact HI
  isplitl [HD]; · iapply (Entails.of_eq (congrArg (fun n => Done (U := U) d i arg6 n _) (by show 2 * k1_t1_loop.trips = 20; rw [trips_turns]))) $$ HD
  unfold Side
  iexact HS

end

end Cert.KernelIdeal.Stages

end
-- ==== Proof.ProgEq.lean ====
/-
  The printed body is the staged one.
-/
module

public import proofs.«01_k».proof.Proof.Prog

@[expose] public section

set_option maxRecDepth 100000
set_option maxHeartbeats 0

noncomputable section

namespace Cert.KernelIdeal.Stages

open Idealize.ShloMosaic Idealize.SL.Sem
open Cert.KernelIdeal

variable {F : FTy → Type} [FloatOps F] [Facts]
open Facts₀ Facts

/-- The staged body with its statements grouped as the printed text groups them. -/
def grouped (i : grid1.Coords) (arg2 : Memref sig .scVector .hbm S589824x128 .f32)
    (arg3 arg4 : Memref sig .scVector .hbm S40960 .f32) (arg5 : Memref sig .scVector .hbm S40960 .i32)
    (arg6 : Memref sig .scVector .hbm S40960x96 .f32)
    (arg7 : Memref sig .scVector .vmem S1280 .f32) (harg7 : arg7.IsWhole) (arg8 : Memref sig .scVector .vmem S1280 .f32) (harg8 : arg8.IsWhole)
    (arg9 : Memref sig .scVector .vmem S1280 .i32) (harg9 : arg9.IsWhole)
    (idx0 idx1 : Memref sig .scVector .vmem S4x64 .i32) (wb0 wb1 : Memref sig .scVector .vmem S4x64 .f32)
    (rows0 rows1 : Fin 4 → Memref sig .scVector .vmem S64x128 .f32)
    (ov : Memref sig .scVector .vmem S64x96 .f32) (hov : ov.IsWhole)
    (sems0 sems1 : Fin 4 → DmaSems sig S_) (c0 c1 c2 c3 c4 : DmaSems sig S_) : TP F i PUnit := do
  copyIn arg3 arg7 harg7 rfl c0
  copyIn arg4 arg8 harg8 rfl c1
  copyIn arg5 arg9 harg9 rfl c2
  block arg7 arg8 arg9 idx0 wb0 (fun r => ![16 * r.val]) inb_first
  fire arg2 idx0 rows0 sems0
  Scf.Loop.for k1_t1_loop k1_t1_ok ⟨⟩ fun t _ => do
    (do
      block arg7 arg8 arg9 idx1 wb1 (fun r => k1_off2 t (BitVec.ofNat 32 (16 * r.val))) (k1_off2_inb t)
      fire arg2 idx1 rows1 sems1
      drain arg2 rows0 sems0
      (do
        Scf.Loop.for k1_t2_loop k1_t2_ok ⟨⟩ fun u _ => trip wb0 rows0 ov u
        copyOut ov hov arg6 (k1_off19 i t) (k1_off19_inb i t) c3
        if h : k1_cond1 t = 1#1 then do
          block arg7 arg8 arg9 idx0 wb0 (fun r => k1_off20 t (BitVec.ofNat 32 (16 * r.val))) (k1_off20_inb t h)
          fire arg2 idx0 rows0 sems0
        else pure ⟨⟩ : TP F i PUnit)
      drain arg2 rows1 sems1
      Scf.Loop.for k1_t2_loop k1_t2_ok ⟨⟩ fun u _ => trip wb1 rows1 ov u
      Prog.lift (.enqueueDma ov (.here (arg6.slice (Rect.unit (s := S40960x96) (k1_off37 i t) S64x96.size (k1_off37_inb i t)) (fun _ => rfl))) (.dma c4.sem)
        hov.wordExact (View.wordExact_bits rfl) ⟨Or.inl rfl, trivial⟩) : TP F i PUnit)
    Prog.lift (.waitDma2 c4.sem ov (arg6.slice (Rect.unit (s := S40960x96) (k1_off37 i t) S64x96.size (k1_off37_inb i t)) (fun _ => rfl))
      hov.wordExact (View.wordExact_bits rfl))
  pure ⟨⟩

theorem grouped_eq (i : grid1.Coords) (arg2 : Memref sig .scVector .hbm S589824x128 .f32)
    (arg3 arg4 : Memref sig .scVector .hbm S40960 .f32) (arg5 : Memref sig .scVector .hbm S40960 .i32)
    (arg6 : Memref sig .scVector .hbm S40960x96 .f32)
    (arg7 : Memref sig .scVector .vmem S1280 .f32) (harg7 : arg7.IsWhole) (arg8 : Memref sig .scVector .vmem S1280 .f32) (harg8 : arg8.IsWhole)
    (arg9 : Memref sig .scVector .vmem S1280 .i32) (harg9 : arg9.IsWhole)
    (idx0 idx1 : Memref sig .scVector .vmem S4x64 .i32) (wb0 wb1 : Memref sig .scVector .vmem S4x64 .f32)
    (rows0 rows1 : Fin 4 → Memref sig .scVector .vmem S64x128 .f32)
    (ov : Memref sig .scVector .vmem S64x96 .f32) (hov : ov.IsWhole)
    (sems0 sems1 : Fin 4 → DmaSems sig S_) (c0 c1 c2 c3 c4 : DmaSems sig S_) :
    (grouped i arg2 arg3 arg4 arg5 arg6 arg7 harg7 arg8 harg8 arg9 harg9 idx0 idx1 wb0 wb1 rows0 rows1 ov hov sems0 sems1 c0 c1 c2 c3 c4 : TP F i PUnit) =
    body i arg2 arg3 arg4 arg5 arg6 arg7 harg7 arg8 harg8 arg9 harg9 idx0 idx1 wb0 wb1 rows0 rows1 ov hov sems0 sems1 c0 c1 c2 c3 c4 := by
  simp only [grouped, body, copyOut, bind_assoc]

theorem cc1_body_eq (i : grid1.Coords) (arg2 : Memref sig .scVector .hbm S589824x128 .f32) (harg2 : arg2.IsWhole)
    (arg3 : Memref sig .scVector .hbm S40960 .f32) (harg3 : arg3.IsWhole) (arg4 : Memref sig .scVector .hbm S40960 .f32) (harg4 : arg4.IsWhole)
    (arg5 : Memref sig .scVector .hbm S40960 .i32) (harg5 : arg5.IsWhole) (arg6 : Memref sig .scVector .hbm S40960x96 .f32) (harg6 : arg6.IsWhole)
    (arg7 : Memref sig .scVector .vmem S1280 .f32) (harg7 : arg7.IsWhole) (arg8 : Memref sig .scVector .vmem S1280 .f32) (harg8 : arg8.IsWhole)
    (arg9 : Memref sig .scVector .vmem S1280 .i32) (harg9 : arg9.IsWhole)
    (arg10 : Memref sig .scVector .vmem S4x64 .i32) (harg10 : arg10.IsWhole) (arg11 : Memref sig .scVector .vmem S4x64 .i32) (harg11 : arg11.IsWhole)
    (arg12 : Memref sig .scVector .vmem S4x64 .f32) (harg12 : arg12.IsWhole) (arg13 : Memref sig .scVector .vmem S4x64 .f32) (harg13 : arg13.IsWhole)
    (arg14 : Memref sig .scVector .vmem S64x128 .f32) (harg14 : arg14.IsWhole) (arg15 : Memref sig .scVector .vmem S64x128 .f32) (harg15 : arg15.IsWhole)
    (arg16 : Memref sig .scVector .vmem S64x128 .f32) (harg16 : arg16.IsWhole) (arg17 : Memref sig .scVector .vmem S64x128 .f32) (harg17 : arg17.IsWhole)
    (arg18 : Memref sig .scVector .vmem S64x128 .f32) (harg18 : arg18.IsWhole) (arg19 : Memref sig .scVector .vmem S64x128 .f32) (harg19 : arg19.IsWhole)
    (arg20 : Memref sig .scVector .vmem S64x128 .f32) (harg20 : arg20.IsWhole) (arg21 : Memref sig .scVector .vmem S64x128 .f32) (harg21 : arg21.IsWhole)
    (arg22 : Memref sig .scVector .vmem S64x96 .f32) (harg22 : arg22.IsWhole)
    (arg23 arg24 arg25 arg26 arg27 arg28 arg29 arg30 c0 c1 c2 c3 c4 : DmaSems sig S_) :
    (cc1_body i arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21
      arg22 harg22 arg23 arg24 arg25 arg26 arg27 arg28 arg29 arg30 c0 c1 c2 c3 c4 : TP F i PUnit) =
    body i arg2 arg3 arg4 arg5 arg6 arg7 harg7 arg8 harg8 arg9 harg9 arg10 arg11 arg12 arg13
      (fun | 0 => arg14 | 1 => arg15 | 2 => arg16 | 3 => arg17) (fun | 0 => arg18 | 1 => arg19 | 2 => arg20 | 3 => arg21)
      arg22 harg22 (fun | 0 => arg23 | 1 => arg24 | 2 => arg25 | 3 => arg26) (fun | 0 => arg27 | 1 => arg28 | 2 => arg29 | 3 => arg30)
      c0 c1 c2 c3 c4 := by
  rw [← grouped_eq]
  rfl

end Cert.KernelIdeal.Stages

end
-- ==== Proof.TileRun.lean ====
/-
  A tile's program at the buffers the launch gives it: the shares of the four arrays it reads, its own rows of
  the output, its scratch buffers and its semaphores.
-/
module

public import proofs.«01_k».proof.Proof.Tile
public import proofs.«01_k».proof.Proof.ProgEq
public import Idealize.ShloMosaic.Lib.SparseCore.Threads

@[expose] public section

noncomputable section

namespace Cert.KernelIdeal.Stages

open Idealize.ShloMosaic Idealize.ShloMosaic.ValueIdx
open Idealize.ShloMosaic.SparseCore (V T)
open Idealize.ShloMosaic.SparseCore.Cfg (HIx ownBufs ownSems0 ownCells ownRefs mem_ownCells mem_ownRefs)
open Idealize.SL Idealize.SL.RA Idealize.SL.BI Idealize.SL.ExclCount
open scoped Idealize.SL.BI
open Idealize.SL.BI.BIBase Idealize.SL.BI.Laws Idealize.SL.ProofMode Idealize.SL.Sem
open Cert.KernelIdeal Cert.KernelIdeal.Gen

variable {F : FTy → Type} [FloatOps F] {U : Type} [URA U]

local notation "𝕄" => MT nD τ sig (HIx 1) (Elt F) ℕ U ℕ

/-! ## The buffers -/

local notation "tabM" => (Memref.whole Cert.KernelIdeal.main_v0_scv : Memref Cert.KernelIdeal.sig Kind.scVector Space.hbm Cert.KernelIdeal.S589824x128 EltTy.f32)
local notation "pxM" => (Memref.whole Cert.KernelIdeal.main_v4_scv : Memref Cert.KernelIdeal.sig Kind.scVector Space.hbm Cert.KernelIdeal.S40960 EltTy.f32)
local notation "pyM" => (Memref.whole Cert.KernelIdeal.main_v8_scv : Memref Cert.KernelIdeal.sig Kind.scVector Space.hbm Cert.KernelIdeal.S40960 EltTy.f32)
local notation "rbM" => (Memref.whole Cert.KernelIdeal.main_v14_scv : Memref Cert.KernelIdeal.sig Kind.scVector Space.hbm Cert.KernelIdeal.S40960 EltTy.i32)
local notation "outM" => (Memref.whole Cert.KernelIdeal.main_v15_scv : Memref Cert.KernelIdeal.sig Kind.scVector Space.hbm Cert.KernelIdeal.S40960x96 EltTy.f32)

/-- The tile's two sets of four buffers of gathered rows, and its eight other scratch buffers. -/
def bufOf : (Fin 4 ⊕ Fin 4) ⊕ Fin 8 → Ref sig .scVector
  | .inl (.inl 0) => cc1_scratch7 | .inl (.inl 1) => cc1_scratch8 | .inl (.inl 2) => cc1_scratch9 | .inl (.inl 3) => cc1_scratch10
  | .inl (.inr 0) => cc1_scratch11 | .inl (.inr 1) => cc1_scratch12 | .inl (.inr 2) => cc1_scratch13 | .inl (.inr 3) => cc1_scratch14
  | .inr 0 => cc1_scratch0 | .inr 1 => cc1_scratch1 | .inr 2 => cc1_scratch2 | .inr 3 => cc1_scratch3
  | .inr 4 => cc1_scratch4 | .inr 5 => cc1_scratch5 | .inr 6 => cc1_scratch6 | .inr 7 => cc1_scratch15

/-- The two sets of four semaphores of the gathers, and the five of the copies. -/
def semOf : (Fin 4 ⊕ Fin 4) ⊕ Fin 5 → DmaSems sig S_
  | .inl (.inl 0) => cc1_scratch16 | .inl (.inl 1) => cc1_scratch17 | .inl (.inl 2) => cc1_scratch18 | .inl (.inl 3) => cc1_scratch19
  | .inl (.inr 0) => cc1_scratch20 | .inl (.inr 1) => cc1_scratch21 | .inl (.inr 2) => cc1_scratch22 | .inl (.inr 3) => cc1_scratch23
  | .inr 0 => cc1_scoped0 | .inr 1 => cc1_scoped1 | .inr 2 => cc1_scoped2 | .inr 3 => cc1_scoped3 | .inr 4 => cc1_scoped4

def rowsA : Fin 4 → Memref sig .scVector .vmem S64x128 .f32 := fun
  | 0 => Memref.whole cc1_scratch7 | 1 => Memref.whole cc1_scratch8 | 2 => Memref.whole cc1_scratch9 | 3 => Memref.whole cc1_scratch10
def rowsB : Fin 4 → Memref sig .scVector .vmem S64x128 .f32 := fun
  | 0 => Memref.whole cc1_scratch11 | 1 => Memref.whole cc1_scratch12 | 2 => Memref.whole cc1_scratch13 | 3 => Memref.whole cc1_scratch14
def semsA : Fin 4 → DmaSems sig S_ := fun | 0 => cc1_scratch16 | 1 => cc1_scratch17 | 2 => cc1_scratch18 | 3 => cc1_scratch19
def semsB : Fin 4 → DmaSems sig S_ := fun | 0 => cc1_scratch20 | 1 => cc1_scratch21 | 2 => cc1_scratch22 | 3 => cc1_scratch23

theorem bufOf_injective : Function.Injective bufOf := by decide +kernel
theorem semOf_injective : Function.Injective fun k => (SemLoc.dma (semOf k).sem : SemLoc sig) := by decide +kernel
theorem semOf_scoped : ∀ k, (SemLoc.dma (semOf k).sem : SemLoc sig).isScoped .scVector = true := by decide +kernel
theorem creditsA : Credits rowsA 4096 := by constructor <;> decide +kernel
theorem creditsB : Credits rowsB 4096 := by constructor <;> decide +kernel

variable (d : Dev nD) (i : grid1.Coords)

theorem bufOf_owner : ∀ k, ((thr d i).2.devRef (bufOf k)).owner = .proc (thr d i).2 := by
  rintro ((k | k) | k) <;> fin_cases k <;> rfl

/-- A family of things held, out of a larger one. -/
theorem bigSep_family {A B : Type} [Fintype A] [DecidableEq B] {S : Finset B} (e : A → B) (he : Function.Injective e) (hS : ∀ a, e a ∈ S)
    (Φ : B → sProp 𝕄) : bigSep S Φ = iprop((bigSep Finset.univ fun a => Φ (e a)) ∗ bigSep (S \ Finset.univ.map ⟨e, he⟩) Φ) := by
  rw [SparseCore.bigSep_sdiff_split' (s := S) (t := Finset.univ.map ⟨e, he⟩) (by
    intro b hb
    obtain ⟨a, -, rfl⟩ := Finset.mem_map.mp hb
    exact hS a), bigSep_map]
  rfl

/-- A scratch buffer held at something. -/
abbrev some1 (r : Ref sig .scVector) : sProp 𝕄 := iprop(∃ f, (thr d i).loc r ↦{fullShare} f)

omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_succ, bigSep_univ_succ, bigSep_univ_succ, bigSep_univ_succ, bigSep_univ_succ,
    bigSep_univ_succ, bigSep_univ_succ, bigSep_univ_of_subsingleton (0 : Fin 1)]
  rfl

omit [FloatOps F] in
theorem bigSep_five (Φ : Fin 5 → sProp 𝕄) : bigSep Finset.univ Φ = iprop(Φ 0 ∗ Φ 1 ∗ Φ 2 ∗ Φ 3 ∗ Φ 4) := by
  rw [bigSep_univ_succ, bigSep_univ_succ, bigSep_univ_succ, bigSep_univ_succ, bigSep_univ_of_subsingleton (0 : Fin 1)]
  rfl

omit [FloatOps F] in
theorem bigSep_four (Φ : Fin 4 → sProp 𝕄) : bigSep Finset.univ Φ = iprop(Φ 0 ∗ Φ 1 ∗ Φ 2 ∗ Φ 3) := by
  rw [bigSep_univ_succ, bigSep_univ_succ, bigSep_univ_succ, bigSep_univ_of_subsingleton (0 : Fin 1)]
  rfl

theorem bufRef_injective : Function.Injective fun k => (thr d i).2.devRef (bufOf k) :=
  fun _ _ h => bufOf_injective (Proc.devRef_injective _ h)

theorem cell_injective : Function.Injective fun k => ((thr d i, SemLoc.dma (semOf k).sem) : GSem nD τ sig) :=
  fun _ _ h => semOf_injective (congrArg Prod.snd h)

/-- The tile's other buffers and semaphores, never touched. -/
def otherBufs : sProp 𝕄 := bigSep (ownRefs (thr d i).2 \ Finset.univ.map ⟨_, bufRef_injective d i⟩) fun b => iprop(∃ f, ((d, b) : Loc nD τ sig) ↦{fullShare} f)
def otherSems : sProp 𝕄 := bigSep (ownCells (thr d i) \ Finset.univ.map ⟨_, cell_injective d i⟩) fun g => semVal g 0

theorem ownBufs_split : (ownBufs (thr d i) : sProp 𝕄)
    = iprop((((bigSep Finset.univ fun k : Fin 4 => some1 (F := F) d i (bufOf (.inl (.inl k)))) ∗ (bigSep Finset.univ fun k : Fin 4 => some1 d i (bufOf (.inl (.inr k)))))
      ∗ (some1 d i cc1_scratch0 ∗ some1 d i cc1_scratch1 ∗ some1 d i cc1_scratch2 ∗ some1 d i cc1_scratch3 ∗ some1 d i cc1_scratch4
        ∗ some1 d i cc1_scratch5 ∗ some1 d i cc1_scratch6 ∗ some1 d i cc1_scratch15)) ∗ otherBufs d i) := by
  unfold SparseCore.Cfg.ownBufs
  refine (bigSep_family (U := U) (F := F) _ (bufRef_injective d i)
    (fun k => SparseCore.Cfg.mem_ownRefs_of_owner (bufOf_owner d i k)) _).trans ?_
  rw [BI.bigSep_univ_sum, BI.bigSep_univ_sum, bigSep_eight]
  rfl

theorem ownSems_split : (ownSems0 (thr d i) : sProp 𝕄)
    = iprop((((bigSep Finset.univ fun k : Fin 4 => semVal (thr d i, SemLoc.dma (semsA k).sem) 0) ∗ (bigSep Finset.univ fun k : Fin 4 => semVal (thr d i, SemLoc.dma (semsB k).sem) 0))
      ∗ (semVal (thr d i, SemLoc.dma cc1_scoped0.sem) 0 ∗ semVal (thr d i, SemLoc.dma cc1_scoped1.sem) 0 ∗ semVal (thr d i, SemLoc.dma cc1_scoped2.sem) 0
        ∗ semVal (thr d i, SemLoc.dma cc1_scoped3.sem) 0 ∗ semVal (thr d i, SemLoc.dma cc1_scoped4.sem) 0)) ∗ otherSems (F := F) d i) := by
  unfold SparseCore.Cfg.ownSems0
  refine (bigSep_family (U := U) (F := F) _ (cell_injective d i) (fun k => mem_ownCells.mpr ⟨rfl, semOf_scoped k⟩) _).trans ?_
  rw [BI.bigSep_univ_sum, BI.bigSep_univ_sum, bigSep_five]
  have hA : ∀ k : Fin 4, semOf (.inl (.inl k)) = semsA k := by intro k; fin_cases k <;> rfl
  have hB : ∀ k : Fin 4, semOf (.inl (.inr k)) = semsB k := by intro k; fin_cases k <;> rfl
  simp only [hA, hB]
  rfl

/-- A whole buffer held at something is one nothing is known of, -/
theorem part_of_some {cs : Space} {s : Shape} {e : EltTy} {m : Memref sig .scVector cs s e} (hm : m.view.set = Finset.univ) (T : s.Idx → Elt F e) :
    iprop(∃ f : Buf (Elt F) (m.view.loc (thr d i)), m.view.loc (thr d i) ↦{fullShare} f) ⊢ Part (U := U) d i m (fun _ => False) T := by
  unfold Part
  iintro ⟨%f, H⟩
  iexists f
  isplitr; · ipureintro; exact fun _ h => h.elim
  rw [hm]
  iexact H

/-- and whatever is known of a whole buffer, it is held at something. -/
theorem some_of_part {cs : Space} {s : Shape} {e : EltTy} {m : Memref sig .scVector cs s e} (hm : m.view.set = Finset.univ) {S : s.Idx → Prop}
    {T : s.Idx → Elt F e} : Part (U := U) d i m S T ⊢ iprop(∃ f : Buf (Elt F) (m.view.loc (thr d i)), m.view.loc (thr d i) ↦{fullShare} f) := by
  unfold Part
  rw [hm]
  iintro ⟨%f, -, H⟩
  iexists f
  iexact H

theorem rowsA_set : ∀ k, (rowsA k).view.set = Finset.univ := by intro k; fin_cases k <;> exact View.set_whole _
theorem rowsB_set : ∀ k, (rowsB k).view.set = Finset.univ := by intro k; fin_cases k <;> exact View.set_whole _

theorem rowsA_some (T : S64x128.Idx → F .f32) : (bigSep Finset.univ fun k : Fin 4 => some1 (F := F) (U := U) d i (bufOf (.inl (.inl k))))
    ⊢ bigSep Finset.univ fun k : Fin 4 => Part d i (rowsA k) (fun _ => False) T :=
  BI.bigSep_mono fun k _ => (Entails.of_eq (by fin_cases k <;> rfl)).trans (part_of_some (U := U) d i (rowsA_set k) T)
theorem rowsB_some (T : S64x128.Idx → F .f32) : (bigSep Finset.univ fun k : Fin 4 => some1 (F := F) (U := U) d i (bufOf (.inl (.inr k))))
    ⊢ bigSep Finset.univ fun k : Fin 4 => Part d i (rowsB k) (fun _ => False) T :=
  BI.bigSep_mono fun k _ => (Entails.of_eq (by fin_cases k <;> rfl)).trans (part_of_some (U := U) d i (rowsB_set k) T)
theorem some_rowsA {S : Prop} {T : S64x128.Idx → F .f32} : (bigSep Finset.univ fun k : Fin 4 => Part (U := U) d i (rowsA k) (fun _ => S) T)
    ⊢ bigSep Finset.univ fun k : Fin 4 => some1 (F := F) d i (bufOf (.inl (.inl k))) :=
  BI.bigSep_mono fun k _ => (some_of_part (U := U) d i (rowsA_set k)).trans (Entails.of_eq (by fin_cases k <;> rfl))
theorem some_rowsB {S : Prop} {T : S64x128.Idx → F .f32} : (bigSep Finset.univ fun k : Fin 4 => Part (U := U) d i (rowsB k) (fun _ => S) T)
    ⊢ bigSep Finset.univ fun k : Fin 4 => some1 (F := F) d i (bufOf (.inl (.inr k))) :=
  BI.bigSep_mono fun k _ => (some_of_part (U := U) d i (rowsB_set k)).trans (Entails.of_eq (by fin_cases k <;> rfl))

/-! ## What a tile is given and what it brings back -/

abbrev tabLoc (d : Dev nD) : Loc nD τ sig := (SparseCore.T d).loc main_v0
abbrev pxLoc (d : Dev nD) : Loc nD τ sig := (SparseCore.T d).loc main_v4
abbrev pyLoc (d : Dev nD) : Loc nD τ sig := (SparseCore.T d).loc main_v8
abbrev rbLoc (d : Dev nD) : Loc nD τ sig := (SparseCore.T d).loc main_v14
abbrev outLoc (d : Dev nD) : Loc nD τ sig := (SparseCore.T d).loc main_v15

variable (TB : S589824x128.Idx → F .f32) (PX PY : S40960.Idx → F .f32) (RB : S40960.Idx → BitVec 32)

/-- The tile's share of the four arrays it reads. -/
def Arrays (q : PosShare TreeShare) : sProp 𝕄 :=
  iprop((tabLoc d ↦{q} (TB : Buf (Elt F) (tabLoc d))) ∗ (pxLoc d ↦{q} (PX : Buf (Elt F) (pxLoc d)))
    ∗ (pyLoc d ↦{q} (PY : Buf (Elt F) (pyLoc d))) ∗ (rbLoc d ↦{q} (RB : Buf (Elt F) (rbLoc d))))

/-- The tile's stretch of an array of 40960. -/
def cutAt {α : Type} (A : S40960.Idx → α) : S1280.Idx → α := fun x => A ((Rect.unit (s := S40960) (k1_off1 i) S1280.size (k1_off1_inb i)).emb x)

/-- What the tile's block `b` comes to hold. -/
def tileOut (b : Fin 20) : S64x96.Idx → F .f32 := outB (cutAt i PX) (cutAt i PY) (cutAt i RB) TB b

/-- Every row number the tile computes is a row of the table. -/
def RowsOK : Prop := ∀ b, Within (idxT (cutAt i PX) (cutAt i PY) (cutAt i RB) b)

/-- The tile's rows of the output, nothing known of them. -/
def Before : sProp 𝕄 := Done d i outM 0 (fun _ _ => Scalar.ofBits .f32 0)
/-- The tile's rows of the output, all computed. -/
def After : sProp 𝕄 := Done d i outM 20 (tileOut i TB PX PY RB)

/-- The tile's program at the launch's buffers. -/
abbrev tileProg (i : grid1.Coords) : TP F i PUnit :=
  cc1_body i tabM (Memref.isWhole_whole _) pxM (Memref.isWhole_whole _) pyM (Memref.isWhole_whole _) rbM (Memref.isWhole_whole _) outM (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    (Memref.whole cc1_scratch6) (Memref.isWhole_whole _) (Memref.whole cc1_scratch7) (Memref.isWhole_whole _) (Memref.whole cc1_scratch8) (Memref.isWhole_whole _)
    (Memref.whole cc1_scratch9) (Memref.isWhole_whole _) (Memref.whole cc1_scratch10) (Memref.isWhole_whole _) (Memref.whole cc1_scratch11) (Memref.isWhole_whole _)
    (Memref.whole cc1_scratch12) (Memref.isWhole_whole _) (Memref.whole cc1_scratch13) (Memref.isWhole_whole _) (Memref.whole cc1_scratch14) (Memref.isWhole_whole _)
    (Memref.whole cc1_scratch15) (Memref.isWhole_whole _) cc1_scratch16 cc1_scratch17 cc1_scratch18 cc1_scratch19 cc1_scratch20 cc1_scratch21 cc1_scratch22 cc1_scratch23
    cc1_scoped0 cc1_scoped1 cc1_scoped2 cc1_scoped3 cc1_scoped4

local notation "m0" => (Memref.whole Cert.KernelIdeal.cc1_scratch0 : Memref Cert.KernelIdeal.sig Kind.scVector Space.vmem Cert.KernelIdeal.S1280 EltTy.f32)
local notation "m1" => (Memref.whole Cert.KernelIdeal.cc1_scratch1 : Memref Cert.KernelIdeal.sig Kind.scVector Space.vmem Cert.KernelIdeal.S1280 EltTy.f32)
local notation "m2" => (Memref.whole Cert.KernelIdeal.cc1_scratch2 : Memref Cert.KernelIdeal.sig Kind.scVector Space.vmem Cert.KernelIdeal.S1280 EltTy.i32)
local notation "m3" => (Memref.whole Cert.KernelIdeal.cc1_scratch3 : Memref Cert.KernelIdeal.sig Kind.scVector Space.vmem Cert.KernelIdeal.S4x64 EltTy.i32)
local notation "m4" => (Memref.whole Cert.KernelIdeal.cc1_scratch4 : Memref Cert.KernelIdeal.sig Kind.scVector Space.vmem Cert.KernelIdeal.S4x64 EltTy.i32)
local notation "m5" => (Memref.whole Cert.KernelIdeal.cc1_scratch5 : Memref Cert.KernelIdeal.sig Kind.scVector Space.vmem Cert.KernelIdeal.S4x64 EltTy.f32)
local notation "m6" => (Memref.whole Cert.KernelIdeal.cc1_scratch6 : Memref Cert.KernelIdeal.sig Kind.scVector Space.vmem Cert.KernelIdeal.S4x64 EltTy.f32)
local notation "m15" => (Memref.whole Cert.KernelIdeal.cc1_scratch15 : Memref Cert.KernelIdeal.sig Kind.scVector Space.vmem Cert.KernelIdeal.S64x96 EltTy.f32)

theorem tileProg_eq : (tileProg i : TP F i PUnit) = body i tabM pxM pyM rbM outM m0 (Memref.isWhole_whole _) m1 (Memref.isWhole_whole _) m2 (Memref.isWhole_whole _)
    m3 m4 m5 m6 rowsA rowsB m15 (Memref.isWhole_whole _) semsA semsB cc1_scoped0 cc1_scoped1 cc1_scoped2 cc1_scoped3 cc1_scoped4 :=
  cc1_body_eq i _ _ _ _ _ _ _ _ _ _ _ _ _ _ _ _ _ _ _ _ _ _ _ _ _ _ _ _ _ _ _ _ _ _ _ _ _ _ _ _ _ _ _ _ _ _ _ _ _ _ _ _ _ _ _

variable (EC : UEmb Counters (MT nD τ sig (HIx 1) (Elt F) ℕ U ℕ))

theorem tile_at [EC.LandsIn (upEmb : UEmb _ 𝕄)] (q : PosShare TreeShare) (O : CellTallies nD τ sig (HIx 1)) (W : Waits sig (HIx 1)) (hI : RowsOK i PX PY RB)
    (q0 q1 : PosShare TreeShare) :
    iprop((((stretch i pxM).view.loc (thr d i) ↦[(stretch i pxM).view.set]{q} (PX : Buf (Elt F) (pxLoc d)))
        ∗ ((stretch i pyM).view.loc (thr d i) ↦[(stretch i pyM).view.set]{q} (PY : Buf (Elt F) (pyLoc d)))
        ∗ ((stretch i rbM).view.loc (thr d i) ↦[(stretch i rbM).view.set]{q} (RB : Buf (Elt F) (rbLoc d))))
      ∗ (Part (U := U) d i m0 (fun _ => False) (fun _ => Scalar.ofBits .f32 0) ∗ Part d i m1 (fun _ => False) (fun _ => Scalar.ofBits .f32 0)
        ∗ Part d i m2 (fun _ => False) (fun _ => (0 : BitVec 32)))
      ∗ (semVal (thr d i, SemLoc.dma cc1_scoped0.sem) 0 ∗ semVal (thr d i, SemLoc.dma cc1_scoped1.sem) 0 ∗ semVal (thr d i, SemLoc.dma cc1_scoped2.sem) 0)
      ∗ Idle d i tabM m3 m5 rowsA semsA q0 (TB : Buf (Elt F) (tabLoc d)) ∗ Idle d i tabM m4 m6 rowsB semsB q1 (TB : Buf (Elt F) (tabLoc d))
      ∗ Done d i outM 0 (tileOut i TB PX PY RB)
      ∗ Side d i m15 cc1_scoped3 cc1_scoped4 O W)
    ⊢ runs d i (tileProg i) fun _ =>
      iprop((((stretch i pxM).view.loc (thr d i) ↦[(stretch i pxM).view.set]{q} (PX : Buf (Elt F) (pxLoc d)))
        ∗ ((stretch i pyM).view.loc (thr d i) ↦[(stretch i pyM).view.set]{q} (PY : Buf (Elt F) (pyLoc d)))
        ∗ ((stretch i rbM).view.loc (thr d i) ↦[(stretch i rbM).view.set]{q} (RB : Buf (Elt F) (rbLoc d))))
      ∗ Pos d i m0 m1 m2 (cutAt i PX) (cutAt i PY) (cutAt i RB)
      ∗ (semVal (thr d i, SemLoc.dma cc1_scoped0.sem) 0 ∗ semVal (thr d i, SemLoc.dma cc1_scoped1.sem) 0 ∗ semVal (thr d i, SemLoc.dma cc1_scoped2.sem) 0)
      ∗ Idle d i tabM m3 m5 rowsA semsA q0 (TB : Buf (Elt F) (tabLoc d)) ∗ Idle d i tabM m4 m6 rowsB semsB q1 (TB : Buf (Elt F) (tabLoc d))
      ∗ Done d i outM 20 (tileOut i TB PX PY RB)
      ∗ Side d i m15 cc1_scoped3 cc1_scoped4 O W) := by
  rw [tileProg_eq]
  exact tile_part (U := U) EC d i (arg2 := tabM) (arg3 := pxM) (arg4 := pyM) (arg5 := rbM) (arg6 := outM) q0 q1 (TB : Buf (Elt F) (tabLoc d)) O W (N := 4096)
    (by omega) creditsA creditsB (fun o ho => View.dmaCredit_pos _ (show 0 < S64x96.numel by decide)) (View.dmaCredit_pos _ (by decide)) (View.dmaCredit_pos _ (by decide))
    (View.dmaCredit_pos _ (by decide)) q q q (PX : Buf (Elt F) (pxLoc d)) (PY : Buf (Elt F) (pyLoc d)) (RB : Buf (Elt F) (rbLoc d)) hI _ _ _

/-- A part of what is held. -/
theorem pointsTo_part {ℓ : Loc nD τ sig} (I : Finset (Idx ℓ)) (q : PosShare TreeShare) (f : Buf (Elt F) ℓ) :
    (ℓ ↦{q} f : sProp 𝕄) ⊢ ℓ ↦[I]{q} f := by
  iintro H
  ihave H := (pointsTo_split_subset (q := q) (f := f) (S := Finset.univ) (Finset.subset_univ I)).1 $$ H
  icases H with ⟨H, -⟩
  iexact H

/-- The tile's run: from its share of the four arrays, its rows of the output and its own buffers and semaphores, to
    its rows computed. -/
theorem tile_run [EC.LandsIn (upEmb : UEmb _ 𝕄)] (q : PosShare TreeShare) (O : CellTallies nD τ sig (HIx 1)) (W : Waits sig (HIx 1)) (hI : RowsOK i PX PY RB) :
    iprop(Transfers.MayWaits (thr d i) (none : HIx 1) O ∗ (Arrays (U := U) d TB PX PY RB q ∗ Before d i)
        ∗ ownBufs (thr d i) ∗ ownSems0 (thr d i) ∗ owes (thr d i) O W)
      ⊢ runs d i (tileProg i) fun _ => iprop(After (U := U) d i TB PX PY RB ∗ ownBufs (thr d i) ∗ ownSems0 (thr d i)
        ∗ ∃ W' : Waits sig (HIx 1), ⌜∀ p ∈ W', p ∈ W ∨ p.2 = none⌝ ∗ owes (thr d i) O W') := by
  rw [ownBufs_split, ownSems_split]
  unfold Arrays
  iintro ⟨HM, ⟨⟨HT, HX, HY, HR⟩, HD⟩, ⟨⟨⟨BA, BB⟩, B0, B1, B2, B3, B4, B5, B6, B15⟩, Bs⟩, ⟨⟨⟨SA, SB⟩, S0, S1, S2, S3, S4⟩, Ss⟩, HO⟩
  ihave HT := (pointsTo_share (PosShare.mem_left_op_right q)).1 $$ HT
  icases HT with ⟨HT0, HT1⟩
  ihave BA := (rowsA_some (U := U) d i (fun _ => Scalar.ofBits .f32 0)) $$ BA
  ihave BB := (rowsB_some (U := U) d i (fun _ => Scalar.ofBits .f32 0)) $$ BB
  ihave B0 := (part_of_some (U := U) d i (m := m0) (View.set_whole _) (fun _ => Scalar.ofBits .f32 0)) $$ B0
  ihave B1 := (part_of_some (U := U) d i (m := m1) (View.set_whole _) (fun _ => Scalar.ofBits .f32 0)) $$ B1
  ihave B2 := (part_of_some (U := U) d i (m := m2) (View.set_whole _) (fun _ => (0 : BitVec 32))) $$ B2
  ihave B3 := (part_of_some (U := U) d i (m := m3) (View.set_whole _) (fun _ => (0 : BitVec 32))) $$ B3
  ihave B4 := (part_of_some (U := U) d i (m := m4) (View.set_whole _) (fun _ => (0 : BitVec 32))) $$ B4
  ihave B5 := (part_of_some (U := U) d i (m := m5) (View.set_whole _) (fun _ => Scalar.ofBits .f32 0)) $$ B5
  ihave B6 := (part_of_some (U := U) d i (m := m6) (View.set_whole _) (fun _ => Scalar.ofBits .f32 0)) $$ B6
  ihave B15 := (part_of_some (U := U) d i (m := m15) (View.set_whole _) (fun _ => Scalar.ofBits .f32 0)) $$ B15
  ihave HT0 := (pointsTo_part (U := U) (tab tabM).view.set q.left (TB : Buf (Elt F) (tabLoc d))) $$ HT0
  ihave HT1 := (pointsTo_part (U := U) (tab tabM).view.set q.right (TB : Buf (Elt F) (tabLoc d))) $$ HT1
  ihave HX := (pointsTo_part (U := U) (stretch i pxM).view.set q (PX : Buf (Elt F) (pxLoc d))) $$ HX
  ihave HY := (pointsTo_part (U := U) (stretch i pyM).view.set q (PY : Buf (Elt F) (pyLoc d))) $$ HY
  ihave HR := (pointsTo_part (U := U) (stretch i rbM).view.set q (RB : Buf (Elt F) (rbLoc d))) $$ HR
  have hD : Before (U := U) (F := F) d i ⊢ Done d i outM 0 (tileOut i TB PX PY RB) := by
    unfold Before Done
    exact BI.bigSep_mono fun b _ => Part_weaken (U := U) d i fun x hx => absurd hx (Nat.not_lt_zero _)
  ihave HD := hD $$ HD
  iapply (wp_wand_r (Fr := frame) (wpE := wpE (defs₀ (F := F)) Variants.none (thr d i) none) (E := Set.univ))
  isplitr [Bs Ss]
  · iapply (tile_at (U := U) d i TB PX PY RB EC q O W hI q.left q.right)
    isplitl [HX HY HR]
    · isplitl [HX]; · iexact HX
      isplitl [HY]; · iexact HY
      iexact HR
    isplitl [B0 B1 B2]
    · isplitl [B0]; · iexact B0
      isplitl [B1]; · iexact B1
      iexact B2
    isplitl [S0 S1 S2]
    · isplitl [S0]; · iexact S0
      isplitl [S1]; · iexact S1
      iexact S2
    isplitl [HT0 B3 B5 BA SA]
    · unfold Idle Still Table
      isplitl [HT0 B3 BA SA]
      · isplitl [HT0]; · iexact HT0
        isplitl [B3]; · iexact B3
        isplitl [BA]; · iexact BA
        iexact SA
      iexact B5
    isplitl [HT1 B4 B6 BB SB]
    · unfold Idle Still Table
      isplitl [HT1 B4 BB SB]
      · isplitl [HT1]; · iexact HT1
        isplitl [B4]; · iexact B4
        isplitl [BB]; · iexact BB
        iexact SB
      iexact B6
    isplitl [HD]; · iexact HD
    unfold Side Keep Owes
    isplitl [B15]; · iexact B15
    isplitl [S3]; · iexact S3
    isplitl [S4]; · iexact S4
    isplitl [HM]; · iexact HM
    iexists W
    isplitr; · ipureintro; exact fun _ h => Or.inl h
    iexact HO
  iintro %_ H
  unfold Idle Still Side Keep Owes Pos
  icases H with ⟨-, ⟨B0, B1, B2⟩, ⟨S0, S1, S2⟩, ⟨⟨-, B3, BA, SA⟩, B5⟩, ⟨⟨-, B4, BB, SB⟩, B6⟩, HD, B15, S3, S4, -, HO⟩
  isplitl [HD]; · unfold After; iexact HD
  isplitl [B0 B1 B2 B3 B4 B5 B6 B15 BA BB Bs]
  · isplitr [Bs]
    · isplitl [BA BB]
      · isplitl [BA]; · iapply (some_rowsA (U := U) d i) $$ BA
        iapply (some_rowsB (U := U) d i) $$ BB
      isplitl [B0]; · iapply (some_of_part (U := U) d i (m := m0) (View.set_whole _)) $$ B0
      isplitl [B1]; · iapply (some_of_part (U := U) d i (m := m1) (View.set_whole _)) $$ B1
      isplitl [B2]; · iapply (some_of_part (U := U) d i (m := m2) (View.set_whole _)) $$ B2
      isplitl [B3]; · iapply (some_of_part (U := U) d i (m := m3) (View.set_whole _)) $$ B3
      isplitl [B4]; · iapply (some_of_part (U := U) d i (m := m4) (View.set_whole _)) $$ B4
      isplitl [B5]; · iapply (some_of_part (U := U) d i (m := m5) (View.set_whole _)) $$ B5
      isplitl [B6]; · iapply (some_of_part (U := U) d i (m := m6) (View.set_whole _)) $$ B6
      iapply (some_of_part (U := U) d i (m := m15) (View.set_whole _)) $$ B15
    iexact Bs
  isplitr [HO]
  · isplitr [Ss]
    · isplitl [SA SB]
      · isplitl [SA]; · iexact SA
        iexact SB
      isplitl [S0]; · iexact S0
      isplitl [S1]; · iexact S1
      isplitl [S2]; · iexact S2
      isplitl [S3]; · iexact S3
      iexact S4
    iexact Ss
  iexact HO

end Cert.KernelIdeal.Stages

end
-- ==== Proof.Share.lean ====
/-
  The arrays of the SparseCore call cut into the tiles' parts: a share of each array a tile reads, and the rows of
  the output, block by block.
-/
module

public import proofs.«01_k».proof.Proof.TileRun
public import Idealize.ShloMosaic.Lib.SparseCore.Stream

@[expose] public section

noncomputable section

namespace Cert.KernelIdeal.Stages

open Idealize.ShloMosaic Idealize.ShloMosaic.ValueIdx
open Idealize.ShloMosaic.SparseCore (V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {U : Type} [URA U]

local notation "𝕄" => MT nD τ sig (HIx 1) (Elt F) ℕ U ℕ
local notation "outM" => (Memref.whole Cert.KernelIdeal.main_v15_scv : Memref Cert.KernelIdeal.sig Kind.scVector Space.hbm Cert.KernelIdeal.S40960x96 EltTy.f32)

/-- The tile of core `c`, subcore `s`. -/
def tileAt (c : Fin 2) (s : Fin 16) : grid1.Coords :=
  fun | 0 => c | 1 => s | ⟨_ + 2, h⟩ => absurd h (Nat.not_lt.2 (Nat.le_add_left _ _))

/-- Tile `(c, s)`'s share of an array that all read. -/
def shareAt (c : Fin 2) (s : Fin 16) : PosShare TreeShare := pieceOf (pieceOf fullShare 2 (by decide) c) 16 (by decide) s

/-- Block `b` of tile `(c, s)`, among the output's elements. -/
def blockSet (t : Fin 2 × Fin 16 × Fin 20) : Finset S40960x96.Idx := (outSl (tileAt t.1 t.2.1) outM t.2.2).view.set

theorem mem_blockSet (t : Fin 2 × Fin 16 × Fin 20) (x : S40960x96.Idx) : x ∈ blockSet t ↔ (x 0).val / 64 = 320 * t.1.val + 20 * t.2.1.val + t.2.2.val := by
  have h : blockSet t = (Rect.unit (s := S40960x96) (outOff (tileAt t.1 t.2.1) t.2.2) S64x96.size (outOff_inb _ _)).set :=
    View.set_slice_whole main_v15_scv _
  rw [h, Rect.mem_set_unit]
  have h1 : (x 1).val < 96 := (x 1).isLt
  constructor
  · intro h
    have h0 := h 0
    change 20480 * t.1.val + 1280 * t.2.1.val + 64 * t.2.2.val ≤ (x 0).val ∧ (x 0).val < 20480 * t.1.val + 1280 * t.2.1.val + 64 * t.2.2.val + 64 at h0
    omega
  · intro h a
    match a with
    | ⟨0, _⟩ =>
      show 20480 * t.1.val + 1280 * t.2.1.val + 64 * t.2.2.val ≤ (x 0).val ∧ (x 0).val < 20480 * t.1.val + 1280 * t.2.1.val + 64 * t.2.2.val + 64
      omega
    | ⟨1, _⟩ => exact ⟨Nat.zero_le _, by show _ < 0 + 96; rw [Nat.zero_add]; exact h1⟩

theorem blockSet_disjoint : ∀ t ∈ (Finset.univ : Finset (Fin 2 × Fin 16 × Fin 20)), ∀ t' ∈ (Finset.univ : Finset (Fin 2 × Fin 16 × Fin 20)), t ≠ t' →
    Disjoint (blockSet t) (blockSet t') := by
  intro t _ t' _ hne
  rw [Finset.disjoint_left]
  intro x hx hx'
  rw [mem_blockSet] at hx hx'
  have := t.2.1.isLt; have := t'.2.1.isLt; have := t.2.2.isLt; have := t'.2.2.isLt
  exact hne (Prod.ext (Fin.ext (by omega)) (Prod.ext (Fin.ext (by omega)) (Fin.ext (by omega))))

/-- The block an element of the output lies in. -/
def blockOf (x : S40960x96.Idx) : Fin 2 × Fin 16 × Fin 20 :=
  have h : (x 0).val < 40960 := (x 0).isLt
  (⟨(x 0).val / 20480, by omega⟩, ⟨(x 0).val % 20480 / 1280, by omega⟩, ⟨(x 0).val % 1280 / 64, by omega⟩)

theorem mem_blockOf (x : S40960x96.Idx) : x ∈ blockSet (blockOf x) := by
  rw [mem_blockSet]
  show (x 0).val / 64 = 320 * ((x 0).val / 20480) + 20 * ((x 0).val % 20480 / 1280) + (x 0).val % 1280 / 64
  omega

theorem blockOf_eq {t : Fin 2 × Fin 16 × Fin 20} {x : S40960x96.Idx} (h : x ∈ blockSet t) : blockOf x = t := by
  by_contra hne
  exact Finset.disjoint_left.mp (blockSet_disjoint _ (Finset.mem_univ _) _ (Finset.mem_univ _) hne) (mem_blockOf x) h

set_option maxRecDepth 8192 in
theorem blockSet_cover : (Finset.univ : Finset (Fin 2 × Fin 16 × Fin 20)).biUnion blockSet = Finset.univ :=
  Finset.eq_univ_of_forall fun x => Finset.mem_biUnion.mpr ⟨blockOf x, Finset.mem_univ _, mem_blockOf x⟩

variable (d : Dev nD)

/-- The output whole is its blocks, by tile. -/
theorem out_blocks (f : Buf (Elt F) (outLoc d)) : (outLoc d ↦{fullShare} f : sProp 𝕄)
    = bigSep Finset.univ fun c : Fin 2 => bigSep Finset.univ fun s : Fin 16 => bigSep Finset.univ fun b : Fin 20 => outLoc d ↦[blockSet (c, s, b)]{fullShare} f := by
  have e : (outLoc d ↦{fullShare} f : sProp 𝕄) = outLoc d ↦[(Finset.univ : Finset (Fin 2 × Fin 16 × Fin 20)).biUnion blockSet]{fullShare} f := by
    rw [blockSet_cover]
  rw [e, pointsTo_biUnion (ℓ := outLoc d) (q := fullShare) (f := f) Finset.univ blockSet blockSet_disjoint, bigSep_univ_prod]
  exact bigSep_congr fun c _ => bigSep_univ_prod _

variable (TB : S589824x128.Idx → F .f32) (PX PY : S40960.Idx → F .f32) (RB : S40960.Idx → BitVec 32)

/-- What the tiles leave in the output. -/
def outAll : S40960x96.Idx → F .f32 := fun x =>
  tileOut (tileAt (blockOf x).1 (blockOf x).2.1) TB PX PY RB (blockOf x).2.2 (ix2 ⟨(x 0).val % 64, Nat.mod_lt _ (by decide)⟩ (x 1))

/-- A block held, nothing known of it, at a tile. -/
theorem before_block (c : Fin 2) (s : Fin 16) (b : Fin 20) (f : Buf (Elt F) (outLoc d)) : (outLoc d ↦[blockSet (c, s, b)]{fullShare} f : sProp 𝕄)
    ⊢ Part d (tileAt c s) (outSl (tileAt c s) outM b) (fun _ => b.val < 0) (fun _ => Scalar.ofBits .f32 0) := by
  unfold Part
  iintro H
  iexists f
  isplitr
  · ipureintro; exact fun _ h => absurd h (Nat.not_lt_zero _)
  iexact H

/-- A block a tile has computed is the output's. -/
theorem after_block (c : Fin 2) (s : Fin 16) (b : Fin 20) :
    Part (U := U) d (tileAt c s) (outSl (tileAt c s) outM b) (fun _ => b.val < 20) (tileOut (tileAt c s) TB PX PY RB b)
      ⊢ outLoc d ↦[blockSet (c, s, b)]{fullShare} (outAll TB PX PY RB : Buf (Elt F) (outLoc d)) := by
  unfold Part
  iintro ⟨%f, %hf, H⟩
  have e : (outLoc d ↦[blockSet (c, s, b)]{fullShare} (outAll TB PX PY RB : Buf (Elt F) (outLoc d)) : sProp 𝕄) = outLoc d ↦[blockSet (c, s, b)]{fullShare} f := by
    refine pointsTo_congr fun x hx => ?_
    obtain ⟨y, -, rfl⟩ := Finset.mem_map.mp hx
    have hb := blockOf_eq hx
    refine Eq.trans ?_ (hf y b.isLt).symm
    have h0 : (y 0).val < 64 := (y 0).isLt
    have e0 : (((outSl (tileAt c s) outM b).view.emb y) 0).val = 20480 * c.val + 1280 * s.val + 64 * b.val + 1 * (y 0).val := rfl
    have e1 : (((outSl (tileAt c s) outM b).view.emb y) 1).val = 0 + 1 * (y 1).val := rfl
    unfold outAll
    rw [hb]
    refine congrArg (tileOut (tileAt c s) TB PX PY RB b) (funext fun a => Fin.ext ?_)
    match a with
    | ⟨0, _⟩ => show (((outSl (tileAt c s) outM b).view.emb y) 0).val % 64 = (y 0).val; omega
    | ⟨1, _⟩ => show (((outSl (tileAt c s) outM b).view.emb y) 1).val = (y 1).val; omega
  rw [e]
  iexact H

/-- The tiles' rows out of the output. -/
theorem out_before (f : Buf (Elt F) (outLoc d)) : (outLoc d ↦{fullShare} f : sProp 𝕄)
    ⊢ bigSep Finset.univ fun c : Fin 2 => bigSep Finset.univ fun s : Fin 16 => Before d (tileAt c s) := by
  rw [out_blocks]
  unfold Before Done
  exact BI.bigSep_mono fun c _ => BI.bigSep_mono fun s _ => BI.bigSep_mono fun b _ => before_block d c s b f

/-- The output out of the tiles' rows. -/
theorem out_after : (bigSep Finset.univ fun c : Fin 2 => bigSep Finset.univ fun s : Fin 16 => After (U := U) d (tileAt c s) TB PX PY RB)
    ⊢ outLoc d ↦{fullShare} (outAll TB PX PY RB : Buf (Elt F) (outLoc d)) := by
  rw [out_blocks]
  unfold After Done
  exact BI.bigSep_mono fun c _ => BI.bigSep_mono fun s _ => BI.bigSep_mono fun b _ => after_block d TB PX PY RB c s b

/-- An array all read, shared out. -/
theorem shared {ℓ : Loc nD τ sig} (f : Buf (Elt F) ℓ) : (ℓ ↦{fullShare} f : sProp 𝕄)
    = bigSep Finset.univ fun c : Fin 2 => bigSep Finset.univ fun s : Fin 16 => ℓ ↦{shareAt c s} f := by
  rw [pointsTo_piecesOf Finset.univ f (o := 2) (by decide) fullShare]
  exact bigSep_congr fun c _ => pointsTo_piecesOf Finset.univ f (o := 16) (by decide) _

/-- What the call takes, by tile. -/
theorem call_split (f : Buf (Elt F) (outLoc d)) :
    iprop(Arrays (U := U) d TB PX PY RB fullShare ∗ outLoc d ↦{fullShare} f)
      ⊢ bigSep Finset.univ fun c : Fin 2 => bigSep Finset.univ fun s : Fin 16 => iprop(Arrays (U := U) d TB PX PY RB (shareAt c s) ∗ Before d (tileAt c s)) := by
  have e : (bigSep Finset.univ fun c : Fin 2 => bigSep Finset.univ fun s : Fin 16 => iprop(Arrays (U := U) d TB PX PY RB (shareAt c s) ∗ Before d (tileAt c s)))
      = iprop((bigSep Finset.univ fun c : Fin 2 => bigSep Finset.univ fun s : Fin 16 => Arrays (U := U) d TB PX PY RB (shareAt c s))
          ∗ bigSep Finset.univ fun c : Fin 2 => bigSep Finset.univ fun s : Fin 16 => Before (F := F) (U := U) d (tileAt c s)) := by
    simp only [bigSep_sep']
  have ea : (bigSep Finset.univ fun c : Fin 2 => bigSep Finset.univ fun s : Fin 16 => Arrays (U := U) d TB PX PY RB (shareAt c s)) = Arrays (U := U) d TB PX PY RB fullShare := by
    unfold Arrays
    simp only [bigSep_sep']
    rw [← shared, ← shared, ← shared, ← shared]
  rw [e, ea]
  exact sep_mono .rfl (out_before d f)
-- ==== Proof.Host.lean ====
/-
  @main outside the two kernels: the operations before the SparseCore call and after it.
-/
module

public import proofs.«01_k».proof.Proof.Gen.KernelIdeal
public import Idealize.ShloMosaic.Lib.StableHlo.Run
public import Idealize.ShloMosaic.Lib.Pipeline.Frame
public import Idealize.ShloMosaic.Lib.Tactic

@[expose] public section

noncomputable section

namespace Cert.KernelIdeal.Stages

open Idealize.ShloMosaic Idealize.ShloMosaic.StableHlo
open Idealize.SL.Sem
open Cert.KernelIdeal Cert.KernelIdeal.Gen

variable {F : FTy → Type} [FloatOps F]

/-- The first coordinates, padded. -/
def opsX : List (HloOp τ sig (Elt F)) :=
  [ unary main_arg1 main_v1 ((extractStridedSlice S4x10000x1 ![0, 0, 0] · slices_S4x10000x2_S4x10000x1_0_0_0) : (⟨S4x10000x2, .f32⟩ : BufTy).Contents (Elt F) → (⟨S4x10000x1, .f32⟩ : BufTy).Contents (Elt F))
  , reshape main_v1 main_v2 (rfl : (.f32 : EltTy) = .f32) shapeCasts_S4x10000x1_S4x10000
  , reshape main_v2 main_v3 (rfl : (.f32 : EltTy) = .f32) shapeCasts_S4x10000_S40000
  , nullary main_c (constantI S_ 32 0#32)
  , TRef.unary (.of main_c : TRef sig ⟨S_, .i32⟩) main_call0.v0 (sitofp .f32)
  , TRef.binary (.of main_v3 : TRef sig ⟨S40000, .f32⟩) main_call0.v0 main_call0.v1 (fun x v => pad S40960 ![0] ![960] ![0] x v pads_S40000_S40960_09600 h_S_) ]

/-- The second coordinates, padded. -/
def opsY : List (HloOp τ sig (Elt F)) :=
  [ unary main_arg1 main_v5 ((extractStridedSlice S4x10000x1 ![0, 0, 1] · slices_S4x10000x2_S4x10000x1_0_0_1) : (⟨S4x10000x2, .f32⟩ : BufTy).Contents (Elt F) → (⟨S4x10000x1, .f32⟩ : BufTy).Contents (Elt F))
  , reshape main_v5 main_v6 (rfl : (.f32 : EltTy) = .f32) shapeCasts_S4x10000x1_S4x10000
  , reshape main_v6 main_v7 (rfl : (.f32 : EltTy) = .f32) shapeCasts_S4x10000_S40000
  , nullary main_c_0 (constantI S_ 32 0#32)
  , TRef.unary (.of main_c_0 : TRef sig ⟨S_, .i32⟩) main_call1.v0 (sitofp .f32)
  , TRef.binary (.of main_v7 : TRef sig ⟨S40000, .f32⟩) main_call1.v0 main_call1.v1 (fun x v => pad S40960 ![0] ![960] ![0] x v pads_S40000_S40960_09600 h_S_) ]

/-- Each point's first row of the table. -/
def opsR : List (HloOp τ sig (Elt F)) :=
  [ nullary main_v9 (iotaInDim S40960 32 0)
  , nullary main_c_1 (constantI S_ 32 39999#32)
  , unary main_c_1 main_v10 (broadcastInDim S40960 ![] bcast_S_S40960 : (⟨S_, .i32⟩ : BufTy).Contents (Elt F) → (⟨S40960, .i32⟩ : BufTy).Contents (Elt F))
  , binary main_v9 main_v10 main_v11 (minsi : (⟨S40960, .i32⟩ : BufTy).Contents (Elt F) → (⟨S40960, .i32⟩ : BufTy).Contents (Elt F) → (⟨S40960, .i32⟩ : BufTy).Contents (Elt F))
  , nullary main_c_2 (constantI S_ 32 10000#32)
  , TRef.unary (.of main_c_2 : TRef sig ⟨S_, .i32⟩) main_call2.v0 id
  , TRef.unary main_call2.v0 main_call2.v1 (broadcastInDim S40960 ![] bcast_S_S40960)
  , TRef.binary (.of main_v11 : TRef sig ⟨S40960, .i32⟩) main_call2.v1 main_call2.v2 Host.divsi
  , TRef.unary (.of main_v11 : TRef sig ⟨S40960, .i32⟩) main_call2.v3 signi
  , TRef.unary main_call2.v0 main_call2.v4 signi
  , TRef.unary main_call2.v4 main_call2.v5 (broadcastInDim S40960 ![] bcast_S_S40960)
  , TRef.binary main_call2.v3 main_call2.v5 main_call2.v6 (cmpi .ne)
  , TRef.unary main_call2.v0 main_call2.v7 (broadcastInDim S40960 ![] bcast_S_S40960)
  , TRef.binary (.of main_v11 : TRef sig ⟨S40960, .i32⟩) main_call2.v7 main_call2.v8 Host.remsi
  , TRef.nullary main_call2.c (constantI S_ 32 0#32)
  , TRef.unary main_call2.c main_call2.v9 (broadcastInDim S40960 ![] bcast_S_S40960)
  , TRef.binary main_call2.v8 main_call2.v9 main_call2.v10 (cmpi .ne)
  , TRef.binary main_call2.v6 main_call2.v10 main_call2.v11 andi
  , TRef.nullary main_call2.c_0 (constantI S_ 32 1#32)
  , TRef.unary main_call2.c_0 main_call2.v12 (broadcastInDim S40960 ![] bcast_S_S40960)
  , TRef.binary main_call2.v2 main_call2.v12 main_call2.v13 subi
  , TRef.ternary main_call2.v11 main_call2.v13 main_call2.v2 main_call2.call0.v0 select
  , nullary main_c_3 (constantI S_ 32 147456#32)
  , unary main_c_3 main_v13 (broadcastInDim S40960 ![] bcast_S_S40960 : (⟨S_, .i32⟩ : BufTy).Contents (Elt F) → (⟨S40960, .i32⟩ : BufTy).Contents (Elt F))
  , binary main_v12 main_v13 main_v14 (muli : (⟨S40960, .i32⟩ : BufTy).Contents (Elt F) → (⟨S40960, .i32⟩ : BufTy).Contents (Elt F) → (⟨S40960, .i32⟩ : BufTy).Contents (Elt F)) ]

/-- The result out of the rows the tiles fill. -/
def opsOut : List (HloOp τ sig (Elt F)) :=
  [ unary main_v15 main_v16 ((extractStridedSlice S40000x96 ![0, 0] · slices_S40960x96_S40000x96_0_0) : (⟨S40960x96, .f32⟩ : BufTy).Contents (Elt F) → (⟨S40000x96, .f32⟩ : BufTy).Contents (Elt F))
  , reshape main_v16 main_v17 (rfl : (.f32 : EltTy) = .f32) shapeCasts_S40000x96_S4x10000x96 ]

/-- The operations between the two kernels. -/
def opsIn : List (HloOp τ sig (Elt F)) := opsX ++ (opsY ++ opsR)

set_option maxRecDepth 8192 in
theorem main_eq (d : Dev nD) : (main (F := F) d) =
    (Prog.lift (.customCall (SparseCore.inner (Pipeline.entry 0)) ()) >>= fun _ => seq opsIn >>= fun _ => sc.run d 0 >>= fun _ => seq opsOut >>= fun _ => pure ⟨⟩) := by
  rfl

/-! ## What the operations between the kernels compute -/

/-- One coordinate of every point, in the order of the points, and zeros after the last. -/
def coords (k : Fin 2) (A : S4x10000x2.Idx → F .f32) : S40960.Idx → F .f32 :=
  pad S40960 ![0] ![960] ![0]
    (shapeCast S40000 (shapeCast S4x10000
      (match k with
        | 0 => extractStridedSlice S4x10000x1 ![0, 0, 0] A slices_S4x10000x2_S4x10000x1_0_0_0
        | 1 => extractStridedSlice S4x10000x1 ![0, 0, 1] A slices_S4x10000x2_S4x10000x1_0_0_1)
      shapeCasts_S4x10000x1_S4x10000) shapeCasts_S4x10000_S40000)
    (sitofp .f32 (constantI S_ 32 0#32)) pads_S40000_S40960_09600 h_S_

/-- The sign of a word. -/
def sgn (x : BitVec 32) : BitVec 32 := if x = 0 then 0 else if x.msb then -1 else 1

/-- The first row of the table of the image that point `n` samples, as @main computes it. -/
def rowBase (n : Nat) : BitVec 32 :=
  let p := IntOp.minsi (BitVec.ofNat 32 n) 39999#32
  let q := IntOp.divsi .host p 10000#32
  IntOp.muli (Scalar.select (IntOp.andi (IntOp.cmpi .ne (sgn p) (sgn 10000#32)) (IntOp.cmpi .ne (IntOp.remsi .host p 10000#32) 0#32))
    (IntOp.subi q 1#32) q) 147456#32

theorem rowBase_eq (n : Nat) (h : n < 40960) : rowBase n = BitVec.ofNat 32 (min n 39999 / 10000 * 147456) := by
  have hp : IntOp.minsi (BitVec.ofNat 32 n) 39999#32 = BitVec.ofNat 32 (min n 39999) := by
    simp only [IntOp.minsi, BitVec.slt, BitVec.toInt_eq_toNat_cond, BitVec.toNat_ofNat]
    rw [Nat.mod_eq_of_lt (by omega : n < 2 ^ 32), if_pos (by omega : 2 * n < 2 ^ 32), Nat.mod_eq_of_lt (by omega : 39999 < 2 ^ 32), if_pos (by omega : 2 * 39999 < 2 ^ 32)]
    rcases Nat.lt_or_ge n 39999 with h' | h'
    · rw [if_pos (decide_eq_true (by omega)), Nat.min_eq_left (by omega)]
    · rw [if_neg (by rw [decide_eq_true_eq]; omega), Nat.min_eq_right h']
  obtain ⟨m, hm, hm'⟩ : ∃ m, min n 39999 = m ∧ m < 40000 := ⟨_, rfl, by omega⟩
  rw [hm] at hp ⊢
  have hb : (BitVec.ofNat 32 m).msb = false := by
    rw [BitVec.msb_eq_decide, BitVec.toNat_ofNat, Nat.mod_eq_of_lt (by omega), decide_eq_false_iff_not]
    omega
  have hc : ¬ IntOp.SDivCorner (BitVec.ofNat 32 m) 10000#32 := fun c => c.elim (fun c => absurd c (by decide)) fun c => absurd c.2 (by decide)
  have hq : IntOp.divsi .host (BitVec.ofNat 32 m) 10000#32 = BitVec.ofNat 32 (m / 10000) := by
    unfold IntOp.divsi
    rw [if_neg hc, BitVec.sdiv_eq, hb, show (10000#32).msb = false by decide]
    refine BitVec.eq_of_toNat_eq ?_
    rw [BitVec.udiv_eq, BitVec.toNat_udiv, BitVec.toNat_ofNat, BitVec.toNat_ofNat, BitVec.toNat_ofNat, Nat.mod_eq_of_lt (by omega : m < 2 ^ 32),
      Nat.mod_eq_of_lt (by omega : 10000 < 2 ^ 32), Nat.mod_eq_of_lt (by omega)]
  have hr : IntOp.remsi .host (BitVec.ofNat 32 m) 10000#32 = BitVec.ofNat 32 (m % 10000) := by
    unfold IntOp.remsi
    rw [if_neg hc, BitVec.srem_eq, hb, show (10000#32).msb = false by decide]
    refine BitVec.eq_of_toNat_eq ?_
    show (BitVec.ofNat 32 m % 10000#32).toNat = _
    rw [BitVec.toNat_umod, BitVec.toNat_ofNat, BitVec.toNat_ofNat, BitVec.toNat_ofNat, Nat.mod_eq_of_lt (by omega : m < 2 ^ 32),
      Nat.mod_eq_of_lt (by omega : 10000 < 2 ^ 32), Nat.mod_eq_of_lt (by omega : m % 10000 < 2 ^ 32)]
  have hs : IntOp.andi (IntOp.cmpi .ne (sgn (BitVec.ofNat 32 m)) (sgn 10000#32)) (IntOp.cmpi .ne (BitVec.ofNat 32 (m % 10000)) 0#32) = 0#1 := by
    rcases Nat.eq_zero_or_pos m with rfl | h0
    · decide
    · have : sgn (BitVec.ofNat 32 m) = sgn 10000#32 := by
        have hne : BitVec.ofNat 32 m ≠ 0 := fun e => by
          have := congrArg BitVec.toNat e
          rw [BitVec.toNat_ofNat, Nat.mod_eq_of_lt (by omega)] at this
          exact absurd this (by simpa using by omega)
        rw [sgn, if_neg hne, hb]
        decide
      rw [this]
      simp [IntOp.cmpi, IntOp.andi]
  unfold rowBase
  simp only [hp, hq, hr, hs]
  show IntOp.muli (BitVec.ofNat 32 (m / 10000)) 147456#32 = _
  refine BitVec.eq_of_toNat_eq ?_
  simp only [IntOp.muli, BitVec.toNat_mul, BitVec.toNat_ofNat]
  omega

theorem opsX_value (W : Valuation τ sig (Elt F)) : after opsX W (Proc.devRef .tc main_v4) = (coords 0 (W (Proc.devRef .tc main_arg1)) : S40960.Idx → F .f32) := by
  unfold opsX
  after_results_simp
  rfl

theorem opsY_value (W : Valuation τ sig (Elt F)) : after opsY W (Proc.devRef .tc main_v8) = (coords 1 (W (Proc.devRef .tc main_arg1)) : S40960.Idx → F .f32) := by
  unfold opsY
  after_results_simp
  rfl

set_option maxRecDepth 16384 in
theorem opsR_value (W : Valuation τ sig (Elt F)) : after opsR W (Proc.devRef .tc main_v14) = (fun x => rowBase (x 0).val : S40960.Idx → BitVec 32) := by
  unfold opsR
  after_results_simp
  simp only [TRef.ofBuf_toBuf]
  rfl

theorem opsOut_value (W : Valuation τ sig (Elt F)) : after opsOut W (Proc.devRef .tc main_v17) =
    (shapeCast S4x10000x96 (extractStridedSlice S40000x96 ![0, 0] (W (Proc.devRef .tc main_v15)) slices_S40960x96_S40000x96_0_0) shapeCasts_S40000x96_S4x10000x96
      : S4x10000x96.Idx → F .f32) := by
  unfold opsOut
  after_results_simp
  rfl

/-- The buffers the stretches between the kernels write. -/
def inRefs : List (Ref sig .tc) :=
  [main_v1, main_v2, main_v3, main_c, main_call0_v0, main_v4, main_v5, main_v6, main_v7, main_c_0, main_call1_v0, main_v8,
   main_v9, main_c_1, main_v10, main_v11, main_c_2, main_call2_v0, main_call2_v1, main_call2_v2, main_call2_v3, main_call2_v4, main_call2_v5,
   main_call2_v6, main_call2_v7, main_call2_v8, main_call2_c, main_call2_v9, main_call2_v10, main_call2_v11, main_call2_c_0, main_call2_v12,
   main_call2_v13, main_v12, main_c_3, main_v13, main_v14]

/-- What the operations between the kernels do not write keeps its contents. -/
theorem writes_within {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

theorem opsX_writes : (opsX (F := F)).Forall fun op => op.writes ⊆ ([main_v1, main_v2, main_v3, main_c, main_call0_v0, main_v4].map (Proc.devRef (τ := τ) .tc)).toFinset := by
  simp only [opsX, List.Forall]
  refine ⟨?_, ?_, ?_, ?_, ?_, ?_⟩ <;> exact writes_within (by decide)
theorem opsY_writes : (opsY (F := F)).Forall fun op => op.writes ⊆ ([main_v5, main_v6, main_v7, main_c_0, main_call1_v0, main_v8].map (Proc.devRef (τ := τ) .tc)).toFinset := by
  simp only [opsY, List.Forall]
  refine ⟨?_, ?_, ?_, ?_, ?_, ?_⟩ <;> exact writes_within (by decide)
theorem opsR_writes : (opsR (F := F)).Forall fun op => op.writes ⊆ ((inRefs.drop 12).map (Proc.devRef (τ := τ) .tc)).toFinset := by
  simp only [opsR, List.Forall]
  and_intros
  all_goals exact writes_within (by decide)
theorem opsOut_writes : (opsOut (F := F)).Forall fun op => op.writes ⊆ ([main_v16, main_v17].map (Proc.devRef (τ := τ) .tc)).toFinset := by
  simp only [opsOut, List.Forall]
  refine ⟨?_, ?_⟩ <;> exact writes_within (by decide)

/-- The buffers' contents after the operations between the kernels. -/
theorem opsIn_x (W : Valuation τ sig (Elt F)) : after opsIn W (Proc.devRef .tc main_v4) = (coords 0 (W (Proc.devRef .tc main_arg1)) : S40960.Idx → F .f32) := by
  rw [opsIn, after_append, after_append, after_of_writes_sub opsR _ opsR_writes (by decide), after_of_writes_sub opsY _ opsY_writes (by decide), opsX_value]
theorem opsIn_y (W : Valuation τ sig (Elt F)) : after opsIn W (Proc.devRef .tc main_v8) = (coords 1 (W (Proc.devRef .tc main_arg1)) : S40960.Idx → F .f32) := by
  rw [opsIn, after_append, after_append, after_of_writes_sub opsR _ opsR_writes (by decide), opsY_value, after_of_writes_sub opsX _ opsX_writes (by decide)]
theorem opsIn_r (W : Valuation τ sig (Elt F)) : after opsIn W (Proc.devRef .tc main_v14) = (fun x => rowBase (x 0).val : S40960.Idx → BitVec 32) := by
  rw [opsIn, after_append, after_append, opsR_value]
theorem opsIn_kept (W : Valuation τ sig (Elt F)) {b : Ref sig .tc} (h : b ∉ inRefs) : after opsIn W (Proc.devRef .tc b) = W (Proc.devRef .tc b) := by
  have hx : b ∉ [main_v1, main_v2, main_v3, main_c, main_call0_v0, main_v4] := fun e => h (List.mem_of_mem_take (i := 6) e)
  have hy : b ∉ [main_v5, main_v6, main_v7, main_c_0, main_call1_v0, main_v8] := fun e => h (List.mem_of_mem_drop (i := 6) (List.mem_of_mem_take (i := 6) e))
  rw [opsIn, after_append, after_append, after_of_writes_sub opsR _ opsR_writes fun e => h (List.mem_of_mem_drop e),
    after_of_writes_sub opsY _ opsY_writes hy, after_of_writes_sub opsX _ opsX_writes hx]

/-! ## What they touch -/

/-- Every operation's buffers are the TensorCore's. -/
theorem opsIn_tc : ∀ op ∈ opsIn (F := F), op.bufs ⊆ tcRefs τ sig := by
  intro op h
  simp only [opsIn, List.mem_append] at h
  rcases h with h | h | h
  · refine (List.forall_iff_forall_mem (p := fun op : HloOp τ sig (Elt F) => op.bufs ⊆ tcRefs τ sig)).mp ?_ op h
    exact ⟨unary_bufs_sub .., reshape_bufs_sub .., reshape_bufs_sub .., nullary_bufs_sub .., unary_bufs_sub .., binary_bufs_sub ..⟩
  · refine (List.forall_iff_forall_mem (p := fun op : HloOp τ sig (Elt F) => op.bufs ⊆ tcRefs τ sig)).mp ?_ op h
    exact ⟨unary_bufs_sub .., reshape_bufs_sub .., reshape_bufs_sub .., nullary_bufs_sub .., unary_bufs_sub .., binary_bufs_sub ..⟩
  · refine (List.forall_iff_forall_mem (p := fun op : HloOp τ sig (Elt F) => op.bufs ⊆ tcRefs τ sig)).mp ?_ op h
    exact ⟨nullary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub ..⟩
theorem opsIn_fresh : ∀ op ∈ opsIn (F := F), op.fresh = ∅ := by
  intro op h
  simp only [opsIn, List.mem_append] at h
  rcases h with h | h | h <;> refine (List.forall_iff_forall_mem (p := fun op : HloOp τ sig (Elt F) => op.fresh = ∅)).mp ?_ op h
  all_goals
    simp only [opsX, opsY, opsR, List.Forall]
    and_intros
    all_goals rfl
-- ==== Proof.Rows.lean ====
/-
  The table rows a tile reads are rows of the table: the coordinates are held to the image, and each point's first row
  is one of four.
-/
module

public import proofs.«01_k».proof.Proof.TileRun
public import proofs.«01_k».proof.Proof.Host

@[expose] public section

noncomputable section

namespace Cert.KernelIdeal.Stages

open Idealize.ShloMosaic Idealize.ShloMosaic.ValueIdx
open Cert.KernelIdeal Cert.KernelIdeal.Gen

variable {F : FTy → Type} [FloatOps F]

/-- A coordinate held to the image. -/
def heldS (v : BitVec 32) : BitVec 32 := IntOp.minsi 383#32 (IntOp.maxsi 0#32 v)

theorem heldS_toNat (v : BitVec 32) : (heldS v).toNat = min 383 v.toInt.toNat := by
  have hv := v.isLt
  unfold heldS IntOp.minsi IntOp.maxsi
  simp only [BitVec.slt, show (383#32 : BitVec 32).toInt = 383 from rfl, show (0#32 : BitVec 32).toInt = 0 from rfl]
  by_cases h : v.toInt < 0
  · rw [if_pos (decide_eq_true h), if_neg (by decide)]
    show 0 = _
    omega
  · rw [if_neg (c := decide (v.toInt < 0) = true) (by rw [decide_eq_true_eq]; exact h)]
    have ht : v.toInt = v.toNat := by
      rw [BitVec.toInt_eq_toNat_cond] at h ⊢
      split <;> rename_i h'
      · rfl
      · rw [if_neg h'] at h; omega
    by_cases h2 : (383 : Int) < v.toInt
    · rw [if_pos (decide_eq_true h2)]
      show 383 = _
      omega
    · rw [if_neg (by rw [decide_eq_true_eq]; exact h2)]
      omega

/-- The pixel below a position. -/
def lowS (p : F .f32) : BitVec 32 := low (fun _ => p) (ix1 (0 : Fin 16))

/-- Neighbour `k`'s coordinates: the row's pixel is the upper one from the third neighbour on, the column's at the odd ones. -/
def nearY (py : F .f32) (k : Fin 4) : BitVec 32 := heldS (if k.val < 2 then lowS py else lowS py + 1#32)
def nearX (px : F .f32) (k : Fin 4) : BitVec 32 := heldS (if k.val % 2 = 0 then lowS px else lowS px + 1#32)

theorem rowS_eq (px py : F .f32) (rb : BitVec 32) (k : Fin 4) : rowS px py rb k = rb + nearY py k * 384#32 + nearX px k := by
  fin_cases k <;> rfl

theorem rowS_toNat (px py : F .f32) (rb : BitVec 32) (k : Fin 4) (h : rb.toNat ≤ 442368) :
    (rowS px py rb k).toNat = rb.toNat + (nearY py k).toNat * 384 + (nearX px k).toNat := by
  have hy : (nearY py k).toNat ≤ 383 := by unfold nearY; rw [heldS_toNat]; omega
  have hx : (nearX px k).toNat ≤ 383 := by unfold nearX; rw [heldS_toNat]; omega
  rw [rowS_eq, BitVec.toNat_add, BitVec.toNat_add, BitVec.toNat_mul, BitVec.toNat_ofNat]
  omega

theorem rowS_lt (px py : F .f32) (rb : BitVec 32) (k : Fin 4) (h : rb.toNat ≤ 442368) : (rowS px py rb k).toNat < 589824 := by
  have hy : (nearY py k).toNat ≤ 383 := by unfold nearY; rw [heldS_toNat]; omega
  have hx : (nearX px k).toNat ≤ 383 := by unfold nearX; rw [heldS_toNat]; omega
  rw [rowS_toNat px py rb k h]
  omega

/-- The first rows, as numbers. -/
theorem rowBase_toNat (n : Nat) (h : n < 40960) : (rowBase n).toNat = min n 39999 / 10000 * 147456 := by
  rw [rowBase_eq n h, BitVec.toNat_ofNat]
  omega

theorem rowBase_le (n : Nat) (h : n < 40960) : (rowBase n).toNat ≤ 442368 := by
  rw [rowBase_toNat n h]
  omega

theorem rows_ok (i : grid1.Coords) (PX PY : S40960.Idx → F .f32) : RowsOK i PX PY fun x => rowBase (x 0).val := by
  intro b x
  refine rowS_lt _ _ _ _ ?_
  exact rowBase_le _ (Fin.isLt _)

end Cert.KernelIdeal.Stages
-- ==== Proof.Launch.lean ====
/-
  The launch: what the handshakes of the SparseCore call carry, each tile's obligation, @main on the TensorCore, and
  the program's run from launch to end.
-/
module

public import proofs.«01_k».proof.Proof.Table
public import proofs.«01_k».proof.Proof.Share
public import proofs.«01_k».proof.Proof.Rows
public import proofs.«01_k».proof.Proof.Host
public import Idealize.ShloMosaic.Lib.SparseCore.Quiescent
public import Idealize.ShloMosaic.Lib.SparseCore.Ops
public import Idealize.ShloMosaic.Lib.Pipeline.Kit
public import Idealize.ShloMosaic.Lib.Pipeline.Regions

@[expose] public section

noncomputable section

namespace Cert.KernelIdeal.Stages

open Idealize.ShloMosaic Idealize.ShloMosaic.TcCoe Idealize.ShloMosaic.StableHlo Idealize.ShloMosaic.Tactic
open Idealize.ShloMosaic.SparseCore (V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The program's parts as the launch takes them -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := Variants.none.lift
abbrev v₀ : 𝒱.V := Sum.inl none
theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The grid of points takes no table ahead of its run. -/
abbrev adm : (p : Fin 1) → (pcfgs (F := F) p).Adm := fun p => (cfgs p).toPCfg_adm

/-! ## The ghost state: the handshakes' rounds, the staging cells' rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR

/-! ## The values -/

variable (m : (ℓ : Loc nD τ sig) → Buf (Elt F) ℓ) (ρ : Dev nD → PrngReg) (d : Dev nD)

/-- The buffers at launch. -/
def atLaunch : Valuation τ sig (Elt F) := fun b => m (d, b)
/-- The table. -/
def tabV : Buf (Elt F) (tabLoc d) := tableOf (U := UU) (fun c b => atLaunch m c (Proc.devRef .tc b)) d
/-- The buffers with the table filled. -/
def withTab : Valuation τ sig (Elt F) := Function.update (atLaunch m d) (Proc.devRef .tc main_v0) (tabV m d)
/-- The buffers before the SparseCore call. -/
def atCall : Valuation τ sig (Elt F) := after opsIn (withTab m d)
/-- The positions' coordinates, padded. -/
def pxV : S40960.Idx → F .f32 := coords 0 (m (d, Proc.devRef .tc main_arg1))
def pyV : S40960.Idx → F .f32 := coords 1 (m (d, Proc.devRef .tc main_arg1))
/-- Each point's first row of the table. -/
def rbV : S40960.Idx → BitVec 32 := fun x => rowBase (x 0).val
/-- What the SparseCore call leaves. -/
def callV : S40960x96.Idx → F .f32 := outAll (tabV m d) (pxV m d) (pyV m d) rbV
/-- The buffers after the SparseCore call. -/
def afterCall : Valuation τ sig (Elt F) := Function.update (atCall m d) (Proc.devRef .tc main_v15) (callV m d)
/-- The result. -/
def resV : S4x10000x96.Idx → F .f32 :=
  shapeCast S4x10000x96 (extractStridedSlice S40000x96 ![0, 0] (callV m d) slices_S40960x96_S40000x96_0_0) shapeCasts_S40000x96_S4x10000x96

theorem withTab_ne {b : Ref sig .tc} (h : b ≠ main_v0) : withTab m d (Proc.devRef .tc b) = m (d, Proc.devRef .tc b) :=
  Function.update_of_ne (fun e => h (Proc.devRef_injective _ e)) _ _
theorem withTab_tab : withTab m d (Proc.devRef .tc main_v0) = tabV m d := Function.update_self _ _ _
theorem atCall_tab : atCall m d (Proc.devRef .tc main_v0) = tabV m d := (opsIn_kept _ (by decide)).trans (withTab_tab m d)
theorem atCall_px : atCall m d (Proc.devRef .tc main_v4) = pxV m d :=
  (opsIn_x _).trans (congrArg (coords 0) (withTab_ne m d (by decide)))
theorem atCall_py : atCall m d (Proc.devRef .tc main_v8) = pyV m d :=
  (opsIn_y _).trans (congrArg (coords 1) (withTab_ne m d (by decide)))
theorem atCall_rb : atCall m d (Proc.devRef .tc main_v14) = rbV := opsIn_r _
theorem atCall_img : atCall m d (Proc.devRef .tc main_arg0) = m (d, Proc.devRef .tc main_arg0) :=
  (opsIn_kept _ (by decide)).trans (withTab_ne m d (by decide))
theorem atCall_pos : atCall m d (Proc.devRef .tc main_arg1) = m (d, Proc.devRef .tc main_arg1) :=
  (opsIn_kept _ (by decide)).trans (withTab_ne m d (by decide))
theorem afterCall_out : afterCall m d (Proc.devRef .tc main_v15) = callV m d := Function.update_self _ _ _
theorem afterCall_ne {b : Ref sig .tc} (h : b ≠ main_v15) : afterCall m d (Proc.devRef .tc b) = atCall m d (Proc.devRef .tc b) :=
  Function.update_of_ne (fun e => h (Proc.devRef_injective _ e)) _ _
theorem result_eq : after opsOut (afterCall m d) (Proc.devRef .tc main_v17) = resV m d := by
  rw [opsOut_value, afterCall_out]; rfl

/-! ## What the handshakes carry -/

/-- A tile's task takes its share of the four arrays and its rows of the output. -/
def goes (c : Fin 2) (s : Fin 16) : sProp 𝕄 := iprop(Arrays (U := UU) d (tabV m d) (pxV m d) (pyV m d) rbV (shareAt c s) ∗ Before d (tileAt c s))
/-- It brings its rows back, computed. -/
def comes (c : Fin 2) (s : Fin 16) : sProp 𝕄 := After (U := UU) d (tileAt c s) (tabV m d) (pxV m d) (pyV m d) rbV

/-- The core and the subcore of a call's task. -/
def coreOf (q : Fin 1) (c : Fin ((K (F := F)).nCore q)) : Fin 2 := ⟨c.val, match q, c with | 0, c => c.isLt⟩
def subOf (q : Fin 1) (i : Fin ((K (F := F)).nSub q)) : Fin 16 := ⟨i.val, match q, i with | 0, i => i.isLt⟩

/-- What all of a core's tasks take, and bring back. -/
def goesAll (c : Fin 2) : sProp 𝕄 := bigSep Finset.univ fun s : Fin 16 => goes m d c s
def comesAll (c : Fin 2) : sProp 𝕄 := bigSep Finset.univ fun s : Fin 16 => comes m d c s

def P : (K (F := F)).Pay (nD := nD) (Val := Elt F) (Name := ℕ) (U := UU) where
  st := fun q d c => goesAll m d (coreOf q c)
  dn := fun q d c => comesAll m d (coreOf q c)
  go := fun q d c i => goes m d (coreOf q c) (subOf q i)
  td := fun q d c i => comes m d (coreOf q c) (subOf q i)
  x := fun _ _ => iprop(emp)

instance part_storable {U : Type} [URA U] (i : grid1.Coords) {S : Shape} {e : EltTy} {sp : Space} (M : Memref sig .scVector sp S e) (R : S.Idx → Prop)
    (X : S.Idx → Elt F e) : BI.Storable (upEmb : UEmb _ (MT nD τ sig (HIx 1) (Elt F) ℕ U ℕ)) (Part (U := U) d i M R X) := by
  unfold Part; infer_instance
instance done_storable (i : grid1.Coords) (n : ℕ) (M : Memref sig .scVector .hbm S40960x96 .f32) (O : Fin 20 → S64x96.Idx → F .f32) :
    BI.Storable (upEmb : UEmb _ 𝕄) (Done (U := UU) d i M n O) := by
  unfold Done; infer_instance
instance goes_storable (c : Fin 2) (s : Fin 16) : BI.Storable (upEmb : UEmb _ 𝕄) (goes m d c s) := by
  unfold goes Arrays Before; infer_instance
instance comes_storable (c : Fin 2) (s : Fin 16) : BI.Storable (upEmb : UEmb _ 𝕄) (comes m d c s) := by
  unfold comes After; infer_instance

instance goesAll_storable (c : Fin 2) : BI.Storable (upEmb : UEmb _ 𝕄) (goesAll m d c) := by unfold goesAll; infer_instance
instance comesAll_storable (c : Fin 2) : BI.Storable (upEmb : UEmb _ 𝕄) (comesAll m d c) := by unfold comesAll; infer_instance

instance P_storable : (P (F := F) m).IsStorable where
  st q d c := goesAll_storable m d (coreOf q c)
  dn q d c := comesAll_storable m d (coreOf q c)
  go q d c i := goes_storable m d (coreOf q c) (subOf q i)
  td q d c i := comes_storable m d (coreOf q c) (subOf q i)

/-! ## The tile's obligation -/

theorem defs₀_vector (c : Fin τ.nSC) (s : Fin τ.nSub) :
    defs₀ (F := F) (.scVector c s) 1 () = SparseCore.onTile hcore1 hsub1 (fun c s => tileProg (tileAt c s)) ⟨⟩ c s := rfl

/-- The waits a task records, as the launch reads them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_body (c : Fin 2) (s : Fin 16) (O : CellTallies nD τ sig (HIx 1)) (W : Waits sig (HIx 1)) (hO : ∀ g, O g none = 0) :
    iprop(levAts (K (F := F)).L (K (F := F)).lev ∗ emp ∗ goes m d c s ∗ scopedBufs (thr d (tileAt c s)) ∗ scopedSems0 (thr d (tileAt c s)) ∗ owes (thr d (tileAt c s)) O W)
      ⊢ runs d (tileAt c s) (tileProg (tileAt c s)) fun _ => iprop(comes m d c s ∗ scopedBufs (thr d (tileAt c s)) ∗ scopedSems0 (thr d (tileAt c s))
          ∗ ∃ W', ⌜∀ p ∈ W', p ∈ W ∨ p.2 = none⌝ ∗ owes (thr d (tileAt c s)) O W') := by
  rw [(K (F := F)).scopedBufs_V facts d _ _, SparseCore.Cfg.scopedSems0_V (Val := Elt F) d _ _]
  iintro ⟨HL, -, Hgo, Hb, Hs, HO⟩
  iapply (tile_run (U := UU) d (tileAt c s) (tabV m d) (pxV m d) (pyV m d) rbV countersEmb (shareAt c s) O W (rows_ok _ _ _))
  isplitl [HL]; · iapply ((K (F := F)).mayWaits_none (thr := thr d (tileAt c s)) hO); iexact HL
  isplitl [Hgo]; · unfold goes; iexact Hgo
  isplitl [Hb]; · iexact Hb
  isplitl [Hs]; · iexact Hs
  iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  change iprop(levAts (K (F := F)).L (K (F := F)).lev ∗ emp ∗ goes m d (coreOf 0 c) (subOf 0 i) ∗ scopedBufs (thr d (tileAt (coreOf 0 c) (subOf 0 i)))
      ∗ scopedSems0 (thr d (tileAt (coreOf 0 c) (subOf 0 i))) ∗ owes (thr d (tileAt (coreOf 0 c) (subOf 0 i))) O W)
    ⊢ wp frame (wpE (defs₀ (F := F)) Variants.none (thr d (tileAt (coreOf 0 c) (subOf 0 i))) none) Set.univ (tileProg (tileAt (coreOf 0 c) (subOf 0 i)))
      fun _ => iprop(comes m d (coreOf 0 c) (subOf 0 i) ∗ scopedBufs (thr d (tileAt (coreOf 0 c) (subOf 0 i))) ∗ scopedSems0 (thr d (tileAt (coreOf 0 c) (subOf 0 i)))
          ∗ ∃ W', ⌜∀ p ∈ W', p ∈ W ∨ p.2 = none ∨ p.2 = some 0⌝ ∗ owes (thr d (tileAt (coreOf 0 c) (subOf 0 i))) O W')
  exact (tile_body m d (coreOf 0 c) (subOf 0 i) O W hO).trans (wp_mono frame _ _ fun _ => obl_post)

theorem bigSep_tasks (Φ : Fin 16 → sProp 𝕄) : (bigSep Finset.univ fun i : Fin ((K (F := F)).nSub 0) => Φ (subOf 0 i)) = bigSep Finset.univ Φ :=
  bigSep_congr fun _ _ => congrArg Φ (Fin.ext rfl)
theorem bigSep_cores (Φ : Fin 2 → sProp 𝕄) : (bigSep Finset.univ fun c : Fin ((K (F := F)).nCore 0) => Φ (coreOf 0 c)) = bigSep Finset.univ Φ :=
  bigSep_congr fun _ _ => congrArg Φ (Fin.ext rfl)

theorem vecSplit : (K (F := F)).VecSplit' (P m) 0 := by
  intro d c
  show goesAll m d (coreOf 0 c) ⊢ |={Set.univ}=> iprop(
      (bigSep Finset.univ fun i : Fin ((K (F := F)).nSub 0) => goes m d (coreOf 0 c) (subOf 0 i))
      ∗ ((bigSep Finset.univ fun i : Fin ((K (F := F)).nSub 0) => comes m d (coreOf 0 c) (subOf 0 i)) -∗ comesAll m d (coreOf 0 c)))
  rw [bigSep_tasks, bigSep_tasks]
  unfold goesAll comesAll
  iintro H; imodintro
  isplitl [H]; · iexact H
  iintro H; iexact H

/-! ## The ghost state at launch -/

/-- The program's only grid of points, as its run takes it. -/
abbrev pinned : Fin 1 → Pipeline.Cfg sig Λ₀ := Pipeline.pin (pcfgs (F := F)) adm
theorem pinned_inj : Function.Injective (Pipeline.cellOf (nD := nD) (τ := τ) (pinned (F := F))) := cellOf_inj

def u₀ : UU :=
  (initOf (K (F := F)).hsCells (K (F := F)).hsToks, (initOf (Pipeline.cells (pinned (F := F)) pinned_inj) (Pipeline.launchToks (pinned (F := F)) pinned_inj), 1))

/-- The staging cells' ghost state on a core. -/
abbrev staged : sProp 𝕄 := iprop(Pipeline.cellsGhost (pinned (F := F)) (EP (F := F)) 0 d ∗ Pipeline.toksInit (pinned (F := F)) (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => staged (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pinned (F := F)) pinned_inj) (Pipeline.launchToks (pinned (F := F)) pinned_inj), 1) : UR sig nD τ × Counters)) $$ Hu
  icases H with ⟨HH, HR⟩
  ihave H := (own_pair_emb (embR : Emb (UR sig nD τ × Counters) 𝕄) (initOf (Pipeline.cells (pinned (F := F)) pinned_inj) (Pipeline.launchToks (pinned (F := F)) pinned_inj)) (1 : Counters)) $$ HR
  icases H with ⟨HP, -⟩
  imod (Pipeline.fund_ghost (pinned (F := F)) (EP (F := F)) pinned_inj) $$ HP with ⟨Hg, Ht⟩
  imodintro
  isplitl [HH]; · iexact HH
  isplitl [Hg Ht]
  · rw [show (bigSep Finset.univ fun d : Dev nD => staged (F := F) d)
        = iprop((bigSep Finset.univ fun d : Dev nD => bigSep Finset.univ fun p : Fin 1 => Pipeline.cellsGhost (pinned (F := F)) (EP (F := F)) p d)
          ∗ bigSep Finset.univ fun d : Dev nD => bigSep Finset.univ fun p : Fin 1 => Pipeline.toksInit (pinned (F := F)) (EP (F := F)) p d) from by
      rw [← bigSep_sep']
      exact bigSep_congr fun d _ => by rw [bigSep_univ_of_subsingleton (0 : Fin 1), bigSep_univ_of_subsingleton (0 : Fin 1)]]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The grid of points, from the launch's buffers to the table's. -/
def tableRegion := region (F := F) (U := UU) (fun c b => atLaunch m c (Proc.devRef .tc b)) adm (fun c b => withTab m c (Proc.devRef .tc b))
    (fun c => withTab_tab m c) (fun c b hb => withTab_ne m c hb)

theorem tableRegion_pre : (tableRegion m).pre d = iprop(unscopedBufs d (fun b => atLaunch m d (Proc.devRef .tc b)) ∗ owesTc (F := F) (U := UU) d) := rfl
theorem tableRegion_post : (tableRegion m).post d = iprop(unscopedBufs d (fun b => withTab m d (Proc.devRef .tc b)) ∗ owesTc (F := F) (U := UU) d) := rfl

theorem table_enter (Q : PUnit.{1} → sProp 𝕄) :
    iprop((iprop(boundary (d.tc : Thread nD τ) ∗ (tableRegion m).post d)
          -∗ wp frame (wpE (Pipeline.defs (pcfgs (F := F)) defs₀) (Variants.none.lift) (d.tc : Thread nD τ) none) Set.univ (Prog.ret PUnit.unit.{1}) Q)
        ∗ boundary (d.tc : Thread nD τ) ∗ (tableRegion m).pre d ∗ levAts (K (F := F)).L (K (F := F)).lev ∗ staged d)
      ⊢ wp frame (wpE (Pipeline.defs (pcfgs (F := F)) defs₀) (Variants.none.lift) (d.tc : Thread nD τ) none) Set.univ
        (.op (.customCall (Pipeline.entry 0) ()) fun _ => Prog.ret PUnit.unit.{1}) Q := by
  have h := Pipeline.RegionSeg.wp (pcfgs (F := F)) adm (dats (U := UU) (fun c b => atLaunch m c (Proc.devRef .tc b)) adm) (none : HIx 1) pinned_inj (EP (F := F)) defs₀ Variants.none
      (K (F := F)).L (K (F := F)).lev (tableRegion m) d none (fun u hu => nomatch hu) (fun _ => Prog.ret PUnit.unit.{1}) Q
  exact h

theorem into_upd (A B R : sProp 𝕄) : iprop((A -∗ B) ∗ R) ⊢ iprop((A -∗ |={Set.univ}=> B) ∗ R) := by
  iintro ⟨Hk, Hr⟩
  isplitl [Hk]
  · iintro H
    imodintro
    iapply Hk; iexact H
  iexact Hr

/-- The call of the grid of points is the grid's own, lifted. -/
theorem lifted : (Prog.lift (.customCall (SparseCore.inner (Pipeline.entry 0)) ()) : Prog (TpuEff nD τ sig (Elt F) (SparseCore.Sig (ΛP (F := F)) 1) .tc) _)
    = SparseCore.liftProg (.op (.customCall (Pipeline.entry 0) ()) fun _ => Prog.ret PUnit.unit.{1}) := rfl

/-- The grid of points, entered from the launch's buffers. -/
theorem table_call (Q : PUnit.{1} → sProp 𝕄) :
    iprop((iprop(boundary (T d : Thread nD τ) ∗ unscopedBufs d (fun b => withTab m d (Proc.devRef .tc b)) ∗ owesTc (F := F) (U := UU) d) -∗ Q PUnit.unit)
        ∗ boundary (T d : Thread nD τ) ∗ (unscopedBufs d (fun b => atLaunch m d (Proc.devRef .tc b)) ∗ owesTc (F := F) (U := UU) d)
        ∗ levAts (K (F := F)).L (K (F := F)).lev ∗ staged d)
      ⊢ wp frame (wpE ((K (F := F)).defs (D (F := F))) 𝒱 (T d) none) Set.univ
          (Prog.lift (.customCall (SparseCore.inner (Pipeline.entry 0)) ())) Q := by
  have h := (table_enter m d Q).trans ((K (F := F)).wp_liftProg (Pipeline.defs (pcfgs (F := F)) defs₀) (Variants.none.lift) (d.tc : Thread nD τ) Set.univ none _ Q)
  rw [tableRegion_pre, tableRegion_post, wp_ret] at h
  rw [lifted]
  exact (into_upd _ _ _).trans h

/-- The buffers the rest of @main needs once the SparseCore call's operands are computed. -/
abbrev lent : Finset (DevRef τ sig) :=
  {Proc.devRef .tc main_v0, Proc.devRef .tc main_v4, Proc.devRef .tc main_v8, Proc.devRef .tc main_v14, Proc.devRef .tc main_v15,
    Proc.devRef .tc main_v16, Proc.devRef .tc main_v17, Proc.devRef .tc main_arg0, Proc.devRef .tc main_arg1}
theorem lent_sub : lent ⊆ Pipeline.ucRefs τ sig := by decide
/-- The buffers the operations after the call touch. -/
abbrev kept : Finset (DevRef τ sig) := {Proc.devRef .tc main_v15, Proc.devRef .tc main_v16, Proc.devRef .tc main_v17}

/-- A buffer of the device, whole, at its contents. -/
abbrev atRef (b : Ref sig .tc) (f : Buf (Elt F) ((d, Proc.devRef .tc b) : Loc nD τ sig)) : sProp 𝕄 := ((d, Proc.devRef .tc b) : Loc nD τ sig) ↦{fullShare} f

theorem held_lent (W : Valuation τ sig (Elt F)) : (StableHlo.held (d.tc : Thread nD τ) lent W : sProp 𝕄)
    = iprop(atRef d main_v0 (W (Proc.devRef .tc main_v0)) ∗ atRef d main_v4 (W (Proc.devRef .tc main_v4)) ∗ atRef d main_v8 (W (Proc.devRef .tc main_v8))
      ∗ atRef d main_v14 (W (Proc.devRef .tc main_v14)) ∗ atRef d main_v15 (W (Proc.devRef .tc main_v15)) ∗ atRef d main_v16 (W (Proc.devRef .tc main_v16))
      ∗ atRef d main_v17 (W (Proc.devRef .tc main_v17)) ∗ atRef d main_arg0 (W (Proc.devRef .tc main_arg0)) ∗ atRef d main_arg1 (W (Proc.devRef .tc main_arg1))) := by
  unfold StableHlo.held lent
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem held_kept (W : Valuation τ sig (Elt F)) : (StableHlo.held (d.tc : Thread nD τ) kept W : sProp 𝕄)
    = iprop(atRef d main_v15 (W (Proc.devRef .tc main_v15)) ∗ atRef d main_v16 (W (Proc.devRef .tc main_v16)) ∗ atRef d main_v17 (W (Proc.devRef .tc main_v17))) := by
  unfold StableHlo.held kept
  rw [SparseCore.bigSep_insert' (by decide), SparseCore.bigSep_insert' (by decide), bigSep_singleton]

theorem opsOut_kept : ∀ op ∈ opsOut (F := F), op.bufs ⊆ kept := by
  intro op h
  simp only [opsOut, List.mem_cons, List.not_mem_nil, or_false] at h
  rcases h with rfl | rfl
  · show ({Proc.devRef .tc main_v15, Proc.devRef .tc main_v16} : Finset (DevRef τ sig)) ⊆ kept; decide
  · show ({Proc.devRef .tc main_v16, Proc.devRef .tc main_v17} : Finset (DevRef τ sig)) ⊆ kept; decide
theorem opsOut_fresh : ∀ op ∈ opsOut (F := F), op.fresh = ∅ := by
  intro op h
  simp only [opsOut, List.mem_cons, List.not_mem_nil, or_false] at h
  rcases h with rfl | rfl <;> rfl

/-- What the run leaves: the arguments as they were, and the result. -/
abbrev FIN (d : Dev nD) : sProp 𝕄 :=
  iprop(atRef d main_arg0 (m (d, Proc.devRef .tc main_arg0)) ∗ atRef d main_arg1 (m (d, Proc.devRef .tc main_arg1)) ∗ atRef d main_v17 (resV m d))

theorem st_eq : (bigSep Finset.univ fun c : Fin ((K (F := F)).nCore 0) => (P m).st 0 d c) = bigSep Finset.univ fun c : Fin 2 => goesAll m d c := bigSep_cores (goesAll m d)
theorem dn_eq : (bigSep Finset.univ fun c : Fin ((K (F := F)).nCore 0) => (P m).dn 0 d c) = bigSep Finset.univ fun c : Fin 2 => comesAll m d c := bigSep_cores (comesAll m d)

theorem gather_five (A B C E G : sProp 𝕄) : iprop(A ∗ B ∗ C ∗ E ∗ G) ⊢ iprop((A ∗ B ∗ C ∗ E) ∗ G) := by
  iintro ⟨HA, HB, HC, HE, HG⟩
  isplitr [HG]
  · isplitl [HA]; · iexact HA
    isplitl [HB]; · iexact HB
    isplitl [HC]; · iexact HC
    iexact HE
  iexact HG

/-- The SparseCore call's operands, out of the buffers before it. -/
theorem st_intro : iprop(atRef d main_v0 (atCall m d (Proc.devRef .tc main_v0)) ∗ atRef d main_v4 (atCall m d (Proc.devRef .tc main_v4))
      ∗ atRef d main_v8 (atCall m d (Proc.devRef .tc main_v8)) ∗ atRef d main_v14 (atCall m d (Proc.devRef .tc main_v14))
      ∗ atRef d main_v15 (atCall m d (Proc.devRef .tc main_v15)))
    ⊢ bigSep Finset.univ fun c : Fin ((K (F := F)).nCore 0) => (P m).st 0 d c := by
  rw [st_eq, atCall_tab, atCall_px, atCall_py, atCall_rb]
  unfold goesAll goes
  exact (gather_five _ _ _ _ _).trans (call_split (U := UU) d (tabV m d) (pxV m d) (pyV m d) rbV (atCall m d (Proc.devRef .tc main_v15)))

/-- The output out of what the SparseCore call brings back. -/
theorem dn_elim : (bigSep Finset.univ fun c : Fin ((K (F := F)).nCore 0) => (P m).dn 0 d c) ⊢ atRef d main_v15 (callV m d) := by
  rw [dn_eq]
  unfold comesAll comes
  exact out_after (U := UU) d (tabV m d) (pxV m d) (pyV m d) rbV

/-- The buffers the operations after the call touch, at the contents after it. -/
theorem kept_intro : iprop(atRef d main_v15 (callV m d) ∗ atRef d main_v16 (atCall m d (Proc.devRef .tc main_v16)) ∗ atRef d main_v17 (atCall m d (Proc.devRef .tc main_v17)))
    ⊢ (StableHlo.held (d.tc : Thread nD τ) kept (afterCall m d) : sProp 𝕄) := by
  rw [held_kept, afterCall_out, afterCall_ne m d (b := main_v16) (by decide), afterCall_ne m d (b := main_v17) (by decide)]

set_option backward.isDefEq.respectTransparency.types false in
/-- @main from the filled table on. -/
theorem rest_run (κ : GSem nD τ sig → ℕ) :
    iprop((K (F := F)).ctx EH (P m) κ ∗ (K (F := F)).tcSt EH d 0 ∗ boundary (T d : Thread nD τ) ∗ unscopedBufs d (fun b => withTab m d (Proc.devRef .tc b))
        ∗ (K (F := F)).tcSems0 d)
      ⊢ wp frame (wpE ((K (F := F)).defs (D (F := F))) 𝒱 (T d) none) Set.univ
          (seq opsIn >>= fun _ => sc.run d 0 >>= fun _ => seq opsOut >>= fun _ => pure PUnit.unit.{1})
          fun _ => iprop((K (F := F)).tcSt EH d 1 ∗ FIN m d ∗ boundary (T d : Thread nD τ) ∗ (K (F := F)).tcSems0 d) := by
  rw [Pipeline.unscopedBufs_held]
  iintro ⟨#Hctx, Hst, Hb, Hub, Hts⟩
  iapply (StableHlo.wp_seq (defs := (K (F := F)).defs (D (F := F))) 𝒱 none Set.univ d (Pipeline.ucRefs τ sig) _ opsIn
    (fun op h => Pipeline.sub_ucRefs op (opsIn_tc op h)) opsIn_fresh (withTab m d)) $$ [Hb Hub]
  · isplitl [Hb]; · iexact Hb
    iexact Hub
  rw [show after opsIn (withTab m d) = atCall m d from rfl, StableHlo.held_sub_split _ lent_sub, held_lent]
  iintro ⟨Hb, ⟨H0, H4, H8, H14, H15, H16, H17, Ha0, Ha1⟩, -⟩
  rw [wp_bind]
  iapply ((K (F := F)).wp_run (D (F := F)) 𝒱 (EH := EH) (P := P m) κ d 0) $$ [Hst H0 H4 H8 H14 H15 Hb H16 H17 Ha0 Ha1 Hts]
  isplitr; · iexact Hctx
  isplitl [Hst]; · iexact Hst
  isplitl [H0 H4 H8 H14 H15]
  · iapply (st_intro m d)
    isplitl [H0]; · iexact H0
    isplitl [H4]; · iexact H4
    isplitl [H8]; · iexact H8
    isplitl [H14]; · iexact H14
    iexact H15
  iintro ⟨Hst, Hdn⟩
  ihave H15 := (dn_elim m d) $$ Hdn
  iapply (StableHlo.wp_seq (defs := (K (F := F)).defs (D (F := F))) 𝒱 none Set.univ d kept _ opsOut opsOut_kept opsOut_fresh (afterCall m d)) $$ [Hb H15 H16 H17]
  · isplitl [Hb]; · iexact Hb
    iapply (kept_intro m d)
    isplitl [H15]; · iexact H15
    isplitl [H16]; · iexact H16
    iexact H17
  rw [held_kept, result_eq, wp_pure, atCall_img, atCall_pos]
  iintro ⟨Hb, -, -, H17⟩
  imodintro
  isplitl [Hst]; · iexact Hst
  isplitl [Ha0 Ha1 H17]
  · isplitl [Ha0]; · iexact Ha0
    isplitl [Ha1]; · iexact Ha1
    iexact H17
  isplitl [Hb]; · iexact Hb
  iexact Hts

set_option maxRecDepth 16384 in
/-- @main on a device's TensorCore. -/
theorem hmain (κ : GSem nD τ sig → ℕ) (d : Dev nD) :
    iprop((K (F := F)).ctx EH (P m) κ ∗ (K (F := F)).tcSt EH d 0 ∗ (K (F := F)).tcRes m ρ d ∗ staged d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  iintro ⟨#Hctx, Hst, ⟨Hb, Hub, Hts, -⟩, Hg⟩
  ihave #HL := ((K (F := F)).ctx_levAts (EH := EH) (P := P m) κ) $$ Hctx
  unfold SparseCore.Cfg.tcSt
  icases Hst with ⟨HO, Hst⟩
  iapply (table_call m d _)
  isplitr [Hb Hub HO Hg]
  · iintro ⟨Hb, Hub, HO⟩
    iapply (rest_run m d κ)
    isplitr; · iexact Hctx
    isplitl [Hst HO]
    · unfold SparseCore.Cfg.tcSt
      isplitl [HO]; · iexact HO
      iexact Hst
    isplitl [Hb]; · iexact Hb
    isplitl [Hub]; · iexact Hub
    iexact Hts
  isplitl [Hb]; · iexact Hb
  isplitl [Hub HO]
  · isplitl [Hub]; · iexact Hub
    iexact HO
  isplitr; · iexact HL
  iexact Hg

/-! ## The run -/

/-- What every run ends with on a device: the arguments as at launch, and the result. -/
def endsWith (s' : Phys nD τ sig (Elt F)) : Prop :=
  s'.mem.mem (d, Proc.devRef .tc main_arg0) = m (d, Proc.devRef .tc main_arg0) ∧ s'.mem.mem (d, Proc.devRef .tc main_arg1) = m (d, Proc.devRef .tc main_arg1)
    ∧ s'.mem.mem (d, Proc.devRef .tc main_v17) = resV m d

set_option maxRecDepth 16384 in
theorem hfin (s' : Phys nD τ sig (Elt F)) : iprop(FIN m d ∗ SI s') ⊢ (⌜endsWith m d s'⌝ : sProp 𝕄) := by
  iintro ⟨⟨Ha, Hb, Hr⟩, HSI⟩
  ihave H := (persistent_entails_right (SI_pointsTo_agree (st := s') (ℓ := (d, Proc.devRef .tc main_arg0)) (I := Finset.univ) (q := fullShare)
    (f := m (d, Proc.devRef .tc main_arg0)))) $$ [HSI Ha]
  · isplitl [HSI] <;> iassumption
  icases H with ⟨%h1, HSI, -⟩
  ihave H := (persistent_entails_right (SI_pointsTo_agree (st := s') (ℓ := (d, Proc.devRef .tc main_arg1)) (I := Finset.univ) (q := fullShare)
    (f := m (d, Proc.devRef .tc main_arg1)))) $$ [HSI Hb]
  · isplitl [HSI] <;> iassumption
  icases H with ⟨%h2, HSI, -⟩
  ihave H := (SI_pointsTo_agree (st := s') (ℓ := (d, Proc.devRef .tc main_v17)) (I := Finset.univ) (q := fullShare) (f := resV m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What the run is shown to end with. -/
def Ends : PUnit × MemSt nD τ sig (Elt F) → Prop := fun r =>
  (∀ d : Dev nD, r.2.mem (d, Proc.devRef .tc main_arg0) = m (d, Proc.devRef .tc main_arg0) ∧ r.2.mem (d, Proc.devRef .tc main_arg1) = m (d, Proc.devRef .tc main_arg1)
    ∧ r.2.mem (d, Proc.devRef .tc main_v17) = resV m d) ∧ r.2.sem = fun _ => 0

/-- Every run ends with the result computed, the arguments as at launch and every semaphore at zero. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => staged d) (FIN m) (u₀ (F := F)) (sep_elim_left.trans (hu₀ m)) (hmain m ρ) (endsWith m) (hfin m) (Ends m) (fun _ h hz => ⟨h, hz⟩)

end Cert.KernelIdeal.Stages
-- ==== Proof.Frames.lean ====
/-
  The frames: each program runs to the end, its arguments as at launch, every semaphore at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Init

@[expose] public section

noncomputable section

namespace Cert.Proof

open Idealize.ShloMosaic Idealize.SL.Sem
open Cert.KernelIdeal.Stages (run_main)

/-- The two prints of the kernel give every label the same program. -/
theorem bodies_eq : Cert.Kernel.defs₀ (F := Bits) = Cert.KernelIdeal.defs₀ (F := Bits) := by
  funext p l a
  match p, l, a with
  | .tc, 0, (t, s) => rfl
  | .tc, 1, _ => rfl
  | .scVector c s, 0, _ => rfl
  | .scVector c s, 1, _ => rfl
  | .scScalar c, 0, _ => rfl
  | .scScalar c, 1, _ => rfl

theorem defs_eq : Cert.Kernel.defs (F := Bits) = Cert.KernelIdeal.defs (F := Bits) :=
  congrArg (fun ds => Cert.KernelIdeal.sc.defs (Pipeline.defs Cert.KernelIdeal.pcfgs ds)) bodies_eq

/-- The kernel as printed. -/
theorem kernel_frame : Cert.quiescent_Kernel (hKernel := Cert.Kernel.Gen.facts) := fun m ρ _ => by
  have h := run_main (F := Bits) m ρ
  rw [← defs_eq] at h
  exact (θ_run (Cert.Kernel.defs (F := Bits)) _ _).mono (fun _ h => ⟨fun c => ⟨(h.1 c).1, (h.1 c).2.1⟩, h.2⟩) h

/-- The kernel read at the extended reals. -/
theorem ideal_frame : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1⟩, h.2⟩) (run_main (F := Ideal) m ρ)

/-- The reference read at the extended reals. -/
theorem reference_frame : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m ρ)

end Cert.Proof

end
-- ==== Proof.TableValue.lean ====
/-
  The table the first call leaves: row 147456·b + 384·y + x holds the 96 channels of the pixel at (y, x) of image b,
  and zeros in the lanes past the channels.
-/
module

public import proofs.«01_k».proof.Proof.Table
public import Idealize.ShloMosaic.Lib.Pipeline.ValueKit
public import Idealize.ShloMosaic.Lib.ValueIdxCore

@[expose] public section

noncomputable section

namespace Cert.KernelIdeal.Stages

open Idealize.ShloMosaic hiding ix2 ix3 ix4
open Idealize.ShloMosaic.TcCoe Idealize.ShloMosaic.ValueIdx
open Idealize.SL Idealize.SL.RA
open Cert.KernelIdeal Cert.KernelIdeal.Gen

variable {F : FTy → Type} [FloatOps F] {U : Type} [URA U]

/-- The images as rows, one per pixel. -/
def pixTable (A : S4x96x384x384.Idx → F .f32) (x : S589824x128.Idx) : F .f32 :=
  if h : (x 1).val < 96 then
    A (ix4 (n0 := 4) (n1 := 96) (n2 := 384) (n3 := 384) ⟨(x 0).val / 147456, by have := idx2_lt0 x; omega⟩ ⟨(x 1).val, h⟩
      ⟨(x 0).val % 147456 / 384, by omega⟩ ⟨(x 0).val % 384, by omega⟩)
  else Scalar.sitofp .f32 0#32

/-- A block's pixels as rows, at a row and a lane. -/
theorem k0_pay1_apply (v : Vec F S1x96x16x384 .f32) (y : S6144x128.Idx) :
    k0_pay1 v y = if h : (y 1).val < 96 then
        v (ix4 (n0 := 1) (n1 := 96) (n2 := 16) (n3 := 384) 0 ⟨(y 1).val, h⟩ ⟨(y 0).val / 384, by have := idx2_lt0 y; omega⟩ ⟨(y 0).val % 384, by omega⟩)
      else Scalar.sitofp .f32 0#32 := by
  unfold k0_pay1
  dsimp only
  have h0 : (y 0).val < 6144 := idx2_lt0 y
  have h1 : (y 1).val < 128 := idx2_lt1 y
  split
  · rename_i h
    rw [concatenate_pair_apply_left (t := S6144x128) (s₁ := S6144x96) (s₂ := S6144x32) 1 _ _ _ y rfl
      (ix2 (n0 := 6144) (n1 := 96) ⟨(y 0).val, h0⟩ ⟨(y 1).val, h⟩) (fun b => by match b with | ⟨0, _⟩ => rfl | ⟨1, _⟩ => rfl)]
    rw [transpose_apply (t := S6144x96) [1, 0] _ _ _ (ix2 (n0 := 96) (n1 := 6144) ⟨(y 1).val, h⟩ ⟨(y 0).val, h0⟩)
      (fun b => by match b with | ⟨0, _⟩ => rfl | ⟨1, _⟩ => rfl)]
    rw [shapeCast_apply (t := S96x6144) (s := S96x16x384) _ _ _ (ix3 (n0 := 96) (n1 := 16) (n2 := 384) ⟨(y 1).val, h⟩ ⟨(y 0).val / 384, by omega⟩ ⟨(y 0).val % 384, by omega⟩)
      (by rw [Shape.rowMajor_val_two, Shape.rowMajor_val_three]
          show ((y 1).val * 16 + (y 0).val / 384) * 384 + (y 0).val % 384 = (y 1).val * 6144 + (y 0).val; omega)]
    rw [shapeCast_apply (t := S96x16x384) (s := S1x96x16x384) _ _ _ (ix4 (n0 := 1) (n1 := 96) (n2 := 16) (n3 := 384) 0 ⟨(y 1).val, h⟩ ⟨(y 0).val / 384, by omega⟩ ⟨(y 0).val % 384, by omega⟩)
      (by rw [Shape.rowMajor_val_four, Shape.rowMajor_val_three]; dsimp; omega)]
  · rename_i h
    rw [concatenate_pair_apply_right (t := S6144x128) (s₁ := S6144x96) (s₂ := S6144x32) 1 _ _ _ y rfl rfl
      (ix2 (n0 := 6144) (n1 := 32) ⟨(y 0).val, h0⟩ ⟨(y 1).val - 96, by omega⟩)
      (fun b hb => by match b, hb with | ⟨0, _⟩, _ => rfl | ⟨1, _⟩, hb => exact absurd rfl hb)
      (by dsimp; omega)]
    rfl

variable (V : (c : Dev nD) → (b : Ref sig .tc) → Buf (Elt F) ((c : Thread nD τ).loc b))

/-- Where every point's two blocks lie. -/
theorem index0 : ∀ t : Fin cfg0.N, win0_0.index t = ![t.val / 24, 0, t.val % 24, 0] ∧ win0_1.index t = ![t.val, 0] :=
  (by decide +kernel : ∀ t : Fin grid0.N, _)

/-- The first call leaves the images as rows. -/
theorem tableOf_eq (c : Dev nD) : tableOf (U := U) V c = pixTable (V c main_arg0) := by
  unfold tableOf
  refine (dat (U := U) V c).arrAt_eq_of_covers 1 _ (by decide +kernel) fun t hf y => ?_
  have hN : t.val < 96 := t.isLt
  have i0 := (index0 t).1
  have i1 := (index0 t).2
  have y0 : (y 0).val < 6144 := (y 0).isLt
  have e0 : ((((cfg0.win 1).blk t).view.emb y : S589824x128.Idx) 0).val = t.val * 6144 + (y 0).val := by
    blk_simp [i1]
  have e1 : ((((cfg0.win 1).blk t).view.emb y : S589824x128.Idx) 1).val = (y 1).val := by
    blk_simp [i1]
  show k0_pay1 (stg V c t) (y : S6144x128.Idx) = pixTable (V c main_arg0) (((cfg0.win 1).blk t).view.emb y : S589824x128.Idx)
  rw [k0_pay1_apply]
  unfold pixTable
  by_cases h : (y 1).val < 96
  · rw [dif_pos h, dif_pos (by rw [e1]; exact h)]
    show V c main_arg0 (((cfg0.win 0).blk t).view.emb _) = V c main_arg0 _
    refine congrArg (V c main_arg0) (funext fun a => Fin.ext ?_)
    match a with
    | ⟨0, _⟩ => show _ = ((((cfg0.win 1).blk t).view.emb y : S589824x128.Idx) 0).val / 147456; rw [e0]; blk_simp [i0]; simp; omega
    | ⟨1, _⟩ => show _ = ((((cfg0.win 1).blk t).view.emb y : S589824x128.Idx) 1).val ; rw [e1]; blk_simp [i0]
    | ⟨2, _⟩ => show _ = ((((cfg0.win 1).blk t).view.emb y : S589824x128.Idx) 0).val % 147456 / 384; rw [e0]; blk_simp [i0]; simp; omega
    | ⟨3, _⟩ => show _ = ((((cfg0.win 1).blk t).view.emb y : S589824x128.Idx) 0).val % 384; rw [e0]; blk_simp [i0]; simp; omega
  · rw [dif_neg h, dif_neg (by rw [e1]; exact h)]

end Cert.KernelIdeal.Stages

end
-- ==== Proof.KernelValue.lean ====
/-
  The kernel's result at an image, a point and a channel: four pixels of the image weighted and added.
-/
module

public import proofs.«01_k».proof.Proof.Launch
public import proofs.«01_k».proof.Proof.TableValue
public import Idealize.ShloMosaic.Lib.KernelVsHost

@[expose] public section

noncomputable section

namespace Cert.KernelIdeal.Stages

open Idealize.ShloMosaic hiding ix1 ix2 ix3 ix4
open Idealize.ShloMosaic.TcCoe Idealize.ShloMosaic.ValueIdx
open Cert.KernelIdeal Cert.KernelIdeal.Gen

variable {F : FTy → Type} [FloatOps F]

/-! ## What the tiles are given -/

/-- Point `n` of image `b`, among all the points. -/
def ptOf (b : Fin 4) (n : Fin 10000) : Fin 40960 := ⟨b.val * 10000 + n.val, by omega⟩

theorem coords_apply (k : Fin 2) (A : S4x10000x2.Idx → F .f32) (b : Fin 4) (n : Fin 10000) :
    coords k A (ix1 (n := 40960) (ptOf b n)) = A (ix3 (n0 := 4) (n1 := 10000) (n2 := 2) b n k) := by
  unfold coords
  rw [pad_apply_of_inside (s := S40000) (t := S40960) _ _ _ _ _ _ _ _ (ix1 (n := 40000) ⟨b.val * 10000 + n.val, by omega⟩)
    (fun a => by match a with | ⟨0, _⟩ => show b.val * 10000 + n.val = 0 + (b.val * 10000 + n.val) * (0 + 1); omega)]
  rw [shapeCast_apply (t := S40000) (s := S4x10000) _ _ _ (ix2 (n0 := 4) (n1 := 10000) b n)
    (by rw [Shape.rowMajor_val_two, Shape.rowMajor_val_one]; rfl)]
  rw [shapeCast_apply (t := S4x10000) (s := S4x10000x1) _ _ _ (ix3 (n0 := 4) (n1 := 10000) (n2 := 1) b n 0)
    (by rw [Shape.rowMajor_val_two, Shape.rowMajor_val_three]
        show (b.val * 10000 + n.val) * 1 + 0 = b.val * 10000 + n.val; omega)]
  match k with
  | 0 =>
    exact extractStridedSlice_apply (t := S4x10000x1) _ _ _ _ _
      (fun a => by match a with | ⟨0, _⟩ => exact (Nat.zero_add _).symm | ⟨1, _⟩ => exact (Nat.zero_add _).symm | ⟨2, _⟩ => rfl)
  | 1 =>
    exact extractStridedSlice_apply (t := S4x10000x1) _ _ _ _ _
      (fun a => by match a with | ⟨0, _⟩ => exact (Nat.zero_add _).symm | ⟨1, _⟩ => exact (Nat.zero_add _).symm | ⟨2, _⟩ => rfl)

theorem cutAt_point {α : Type} (A : S40960.Idx → α) (x : S40960x96.Idx) :
    cutAt (tileAt (blockOf x).1 (blockOf x).2.1) A (pt (blockOf x).2.2 ⟨(x 0).val % 64, Nat.mod_lt _ (by decide)⟩)
      = A (ix1 (n := 40960) ⟨(x 0).val, idx2_lt0 x⟩) := by
  have h : (x 0).val < 40960 := idx2_lt0 x
  unfold cutAt
  refine congrArg A (funext fun a => Fin.ext ?_)
  match a with
  | ⟨0, _⟩ =>
    rw [Rect.emb_apply]
    show k1_off1 (tileAt (blockOf x).1 (blockOf x).2.1) 0 + 1 * (64 * ((x 0).val % 1280 / 64) + (x 0).val % 64) = (x 0).val
    rw [Gen.k1_off1_eq]
    show (20480 * ((x 0).val / 20480) + 1280 * ((x 0).val % 20480 / 1280)) + 1 * (64 * ((x 0).val % 1280 / 64) + (x 0).val % 64) = (x 0).val
    omega

/-- The row number of neighbour `k` of a point, at an element of the tiles' output. -/
theorem outAll_apply (TB : S589824x128.Idx → F .f32) (PX PY : S40960.Idx → F .f32) (RB : S40960.Idx → BitVec 32) (x : S40960x96.Idx) :
    outAll TB PX PY RB x = comb (fun k => TB (ix2 (n0 := 589824) (n1 := 128)
        ⟨(rowS (PX (ix1 (n := 40960) ⟨(x 0).val, idx2_lt0 x⟩)) (PY (ix1 (n := 40960) ⟨(x 0).val, idx2_lt0 x⟩)) (RB (ix1 (n := 40960) ⟨(x 0).val, idx2_lt0 x⟩)) k).toNat % 589824,
          Nat.mod_lt _ (by decide)⟩ (col (x 1))))
      fun k => wtS (PX (ix1 (n := 40960) ⟨(x 0).val, idx2_lt0 x⟩)) (PY (ix1 (n := 40960) ⟨(x 0).val, idx2_lt0 x⟩)) k := by
  rw [← cutAt_point PX x, ← cutAt_point PY x, ← cutAt_point RB x]
  rfl

/-! ## The result -/

variable (m : (ℓ : Loc nD τ sig) → Buf (Elt F) ℓ) (d : Dev nD)

/-- The images. -/
abbrev imgV : S4x96x384x384.Idx → F .f32 := m (d, Proc.devRef .tc main_arg0)
/-- The positions. -/
abbrev posV : S4x10000x2.Idx → F .f32 := m (d, Proc.devRef .tc main_arg1)

theorem near_lt (v : BitVec 32) : (heldS v).toNat < 384 := by rw [heldS_toNat]; omega
theorem nearY_lt (py : F .f32) (k : Fin 4) : (nearY py k).toNat < 384 := near_lt _
theorem nearX_lt (px : F .f32) (k : Fin 4) : (nearX px k).toNat < 384 := near_lt _

/-- The result at image `b`, point `n`, channel `ch`: the four pixels about the point, weighted and added. -/
theorem resV_apply (b : Fin 4) (n : Fin 10000) (ch : Fin 96) :
    resV m d (ix3 (n0 := 4) (n1 := 10000) (n2 := 96) b n ch)
      = comb (fun k => imgV m d (ix4 (n0 := 4) (n1 := 96) (n2 := 384) (n3 := 384) b ch
            ⟨(nearY (posV m d (ix3 (n0 := 4) (n1 := 10000) (n2 := 2) b n 1)) k).toNat, nearY_lt _ k⟩
            ⟨(nearX (posV m d (ix3 (n0 := 4) (n1 := 10000) (n2 := 2) b n 0)) k).toNat, nearX_lt _ k⟩))
          fun k => wtS (posV m d (ix3 (n0 := 4) (n1 := 10000) (n2 := 2) b n 0)) (posV m d (ix3 (n0 := 4) (n1 := 10000) (n2 := 2) b n 1)) k := by
  unfold resV
  rw [shapeCast_apply (t := S4x10000x96) (s := S40000x96) _ _ _ (ix2 (n0 := 40000) (n1 := 96) ⟨b.val * 10000 + n.val, by omega⟩ ch)
    (by rw [Shape.rowMajor_val_two, Shape.rowMajor_val_three]; rfl)]
  rw [extractStridedSlice_apply (t := S40000x96) (s := S40960x96) _ _ _ _ (ix2 (n0 := 40960) (n1 := 96) (ptOf b n) ch)
    (fun a => by match a with | ⟨0, _⟩ => exact (Nat.zero_add _).symm | ⟨1, _⟩ => exact (Nat.zero_add _).symm)]
  unfold callV
  rw [outAll_apply]
  have hx : pxV m d (ix1 (n := 40960) (ptOf b n)) = posV m d (ix3 (n0 := 4) (n1 := 10000) (n2 := 2) b n 0) := coords_apply 0 _ b n
  have hy : pyV m d (ix1 (n := 40960) (ptOf b n)) = posV m d (ix3 (n0 := 4) (n1 := 10000) (n2 := 2) b n 1) := coords_apply 1 _ b n
  have hr : rbV (ix1 (n := 40960) (ptOf b n)) = rowBase (b.val * 10000 + n.val) := rfl
  show comb (fun k => tabV m d (ix2 (n0 := 589824) (n1 := 128)
        ⟨(rowS (pxV m d (ix1 (n := 40960) (ptOf b n))) (pyV m d (ix1 (n := 40960) (ptOf b n))) (rbV (ix1 (n := 40960) (ptOf b n))) k).toNat % 589824,
          Nat.mod_lt _ (by decide)⟩ (col ch)))
      (fun k => wtS (pxV m d (ix1 (n := 40960) (ptOf b n))) (pyV m d (ix1 (n := 40960) (ptOf b n))) k) = _
  rw [hx, hy, hr]
  refine congrArg (fun a => comb a _) (funext fun k => ?_)
  have hb : (rowBase (b.val * 10000 + n.val)).toNat = b.val * 147456 := by
    rw [rowBase_toNat _ (by omega)]; omega
  have hk := rowS_toNat (posV m d (ix3 (n0 := 4) (n1 := 10000) (n2 := 2) b n 0)) (posV m d (ix3 (n0 := 4) (n1 := 10000) (n2 := 2) b n 1))
    (rowBase (b.val * 10000 + n.val)) k (by omega)
  have ly := nearY_lt (posV m d (ix3 (n0 := 4) (n1 := 10000) (n2 := 2) b n 1)) k
  have lx := nearX_lt (posV m d (ix3 (n0 := 4) (n1 := 10000) (n2 := 2) b n 0)) k
  rw [show tabV m d = pixTable (imgV m d) from tableOf_eq _ d]
  unfold pixTable
  refine (dif_pos (show ch.val < 96 from ch.isLt)).trans ?_
  refine congrArg (imgV m d) (funext fun a => Fin.ext ?_)
  generalize hR : (rowS (posV m d (ix3 (n0 := 4) (n1 := 10000) (n2 := 2) b n 0)) (posV m d (ix3 (n0 := 4) (n1 := 10000) (n2 := 2) b n 1)) (rowBase (b.val * 10000 + n.val)) k).toNat = R at hk ⊢
  match a with
  | ⟨0, _⟩ => show R % 589824 / 147456 = b.val; omega
  | ⟨1, _⟩ => rfl
  | ⟨2, _⟩ => show R % 589824 % 147456 / 384 = (nearY (posV m d (ix3 (n0 := 4) (n1 := 10000) (n2 := 2) b n 1)) k).toNat; omega
  | ⟨3, _⟩ => show R % 589824 % 384 = (nearX (posV m d (ix3 (n0 := 4) (n1 := 10000) (n2 := 2) b n 0)) k).toNat; omega

end Cert.KernelIdeal.Stages

end
-- ==== Proof.Math.lean ====
/-
  The arithmetic of one coordinate over the extended reals: for a coordinate of the image the kernel's truncation is the
  reference's floor, and the kernel's clipped differences are the reference's masks.
-/
module

public import proofs.«01_k».proof.Proof.Rows
public import Idealize.ShloMosaic.Lib.IdealHost
public import Idealize.ShloMosaic.PureOps.Ideal.Laws

@[expose] public section

noncomputable section

namespace Cert.KernelIdeal.Stages

open Idealize.ShloMosaic Idealize.ShloMosaic.ValueIdx
open Cert.KernelIdeal Cert.KernelIdeal.Gen

/-! ## The constants -/

theorem bits2 : Ideal.ofBits .f32 0x40000000#32 = ((2 : ℝ) : EReal) := by
  simp [Ideal.ofBits, Ideal.ieee, -EReal.coe_mul]; norm_num
theorem bits383 : Ideal.ofBits .f32 0x43BF8000#32 = ((383 : ℝ) : EReal) := by
  simp [Ideal.ofBits, Ideal.ieee, -EReal.coe_mul]; norm_num
theorem bits384 : Ideal.ofBits .f32 0x43C00000#32 = ((384 : ℝ) : EReal) := by
  simp [Ideal.ofBits, Ideal.ieee, -EReal.coe_mul]; norm_num
theorem bits1 : Ideal.ofBits .f32 0x3F800000#32 = ((1 : ℝ) : EReal) := by
  simp [Ideal.ofBits, Ideal.ieee, -EReal.coe_mul]; norm_num
theorem bits0 : Ideal.ofBits .f32 0x00000000#32 = ((0 : ℝ) : EReal) := by
  simp [Ideal.ofBits, Ideal.ieee, -EReal.coe_mul]

/-! ## The pixel coordinate -/

/-- A coordinate in pixels. -/
def pixS (p : Ideal .f32) : Ideal .f32 :=
  Ideal.div (((Ideal.ofBits .f32 0x40000000#32 * Ideal.div p (Ideal.ofBits .f32 0x43BF8000#32) - Ideal.ofBits .f32 0x3F800000#32
    + Ideal.ofBits .f32 0x3F800000#32) * Ideal.ofBits .f32 0x43C00000#32 - Ideal.ofBits .f32 0x3F800000#32 : EReal)) (Ideal.ofBits .f32 0x40000000#32)

theorem pix_apply (p : Ideal .f32) (i : S16.Idx) : pix (F := Ideal) (fun _ => p) i = pixS p := rfl

theorem pixS_coe (r : ℝ) : pixS (r : EReal) = ((((2 * (r * (1 / 383)) - 1 + 1) * 384 - 1) * (1 / 2) : ℝ) : EReal) := by
  unfold pixS
  rw [bits2, bits383, bits384, bits1, Ideal.div_coe (by norm_num), Ideal.div_coe (by norm_num)]
  norm_cast

/-- A coordinate of the image lies in pixels between -1/2 and 383 + 1/2. -/
theorem pixS_range {p : EReal} (h0 : 0 ≤ p) (h1 : p ≤ ((383 : ℝ) : EReal)) :
    ∃ u : ℝ, pixS p = (u : EReal) ∧ -1 ≤ ⌊u⌋ ∧ ⌊u⌋ ≤ 383 := by
  induction p with
  | bot => exact absurd h0 (by simp)
  | top => exact absurd h1 (by simp)
  | coe r =>
    have h0' : 0 ≤ r := by exact_mod_cast h0
    have h1' : r ≤ 383 := by exact_mod_cast h1
    refine ⟨_, pixS_coe r, ?_, ?_⟩
    · rw [Int.le_floor]; push_cast; linarith
    · rw [← Int.lt_add_one_iff, Int.floor_lt]; push_cast; linarith

/-! ## Its integer part, in the kernel -/

theorem toInt_ofInt_of_lt (z : ℤ) (h : -2147483648 ≤ z) (h' : z < 2147483648) : (BitVec.ofInt 32 z).toInt = z := by
  rw [BitVec.toInt_ofInt]
  exact Int.bmod_eq_of_le (by simpa using h) (by simpa using h')

variable {p : Ideal .f32} {u : ℝ} (hp : pixS p = (u : EReal)) (hlo : -1 ≤ ⌊u⌋) (hhi : ⌊u⌋ ≤ 383)
include hp hlo hhi

theorem lowS_eq : lowS (F := Ideal) p = BitVec.ofInt 32 ⌊u⌋ := by
  have e : lowS (F := Ideal) p = BitVec.ofInt 32 (Ideal.toIntClamped (-(2 ^ 31 : Nat)) ((2 ^ 31 : Nat) - 1) (pixS p + Ideal.ofBits .f32 0x3F800000#32)) - 1#32 := rfl
  have h : -1 ≤ u := by have := Int.floor_le u; have : (-1 : ℝ) ≤ (⌊u⌋ : ℝ) := by exact_mod_cast hlo
                        linarith
  rw [e, hp, bits1, ← EReal.coe_add, Ideal.toIntClamped_coe, if_pos (by linarith), Int.floor_add_one,
    min_eq_right (by push_cast; omega), max_eq_right (by push_cast; omega)]
  rw [show (1#32 : BitVec 32) = BitVec.ofInt 32 1 from rfl, BitVec.ofInt_add, BitVec.add_sub_cancel]

theorem lowS_toInt : (lowS (F := Ideal) p).toInt = ⌊u⌋ := by
  rw [lowS_eq hp hlo hhi, toInt_ofInt_of_lt] <;> omega

theorem lowS_add_toInt : (lowS (F := Ideal) p + 1#32).toInt = ⌊u⌋ + 1 := by
  rw [lowS_eq hp hlo hhi, show (1#32 : BitVec 32) = BitVec.ofInt 32 1 from rfl, ← BitVec.ofInt_add, toInt_ofInt_of_lt] <;> omega

theorem lowF_eq (i : S16.Idx) : lowF (F := Ideal) (fun _ => p) i = ((⌊u⌋ : ℝ) : EReal) := by
  have e : lowF (F := Ideal) (fun _ => p) i = (((lowS (F := Ideal) p).toInt : ℝ) : EReal) := rfl
  rw [e, lowS_toInt hp hlo hhi]

/-- Whether an integer is a coordinate of the image, as a number. -/
def inImage (a : ℤ) : ℝ := if 0 ≤ a ∧ a ≤ 383 then 1 else 0

theorem hiW_eq (i : S16.Idx) : hiW (F := Ideal) (fun _ => p) i = ((u - ⌊u⌋ : ℝ) : EReal) := by
  have e : hiW (F := Ideal) (fun _ => p) i = pixS p - lowF (F := Ideal) (fun _ => p) i := rfl
  rw [e, lowF_eq hp hlo hhi, hp, EReal.coe_sub]

theorem loW_eq (i : S16.Idx) : loW (F := Ideal) (fun _ => p) i = ((1 - (u - ⌊u⌋) : ℝ) : EReal) := by
  have e : loW (F := Ideal) (fun _ => p) i = Ideal.ofBits .f32 0x3F800000#32 - hiW (F := Ideal) (fun _ => p) i := rfl
  rw [e, hiW_eq hp hlo hhi, bits1, ← EReal.coe_sub]

omit hp hlo hhi in
theorem coe_min (a b : ℝ) : min (a : EReal) (b : EReal) = ((min a b : ℝ) : EReal) := (EReal.coe_strictMono.monotone.map_min).symm
omit hp hlo hhi in
theorem coe_max (a b : ℝ) : max (a : EReal) (b : EReal) = ((max a b : ℝ) : EReal) := (EReal.coe_strictMono.monotone.map_max).symm

theorem loV_eq (i : S16.Idx) : loV (F := Ideal) (fun _ => p) i = (inImage ⌊u⌋ : EReal) := by
  have e : loV (F := Ideal) (fun _ => p) i = min (Ideal.ofBits .f32 0x3F800000#32)
    (max (Ideal.ofBits .f32 0x00000000#32) (lowF (F := Ideal) (fun _ => p) i + Ideal.ofBits .f32 0x3F800000#32)) := rfl
  rw [e, lowF_eq hp hlo hhi, bits1, bits0, ← EReal.coe_add, coe_max, coe_min]
  congr 1
  unfold inImage
  split
  · rename_i h
    have : (0 : ℝ) ≤ (⌊u⌋ : ℝ) := by exact_mod_cast h.1
    rw [max_eq_right (by linarith), min_eq_left (by linarith)]
  · have h : ⌊u⌋ = -1 := by omega
    rw [h]; norm_num

theorem hiV_eq (i : S16.Idx) : hiV (F := Ideal) (fun _ => p) i = (inImage (⌊u⌋ + 1) : EReal) := by
  have e : hiV (F := Ideal) (fun _ => p) i = min (Ideal.ofBits .f32 0x3F800000#32)
    (max (Ideal.ofBits .f32 0x00000000#32) (Ideal.ofBits .f32 0x43C00000#32 - (lowF (F := Ideal) (fun _ => p) i + Ideal.ofBits .f32 0x3F800000#32))) := rfl
  rw [e, lowF_eq hp hlo hhi, bits1, bits0, bits384, ← EReal.coe_add, ← EReal.coe_sub, coe_max, coe_min]
  congr 1
  unfold inImage
  split
  · rename_i h
    have : (⌊u⌋ : ℝ) + 1 ≤ 383 := by exact_mod_cast h.2
    rw [max_eq_right (by linarith), min_eq_left (by linarith)]
  · have h : ⌊u⌋ = 383 := by omega
    rw [h]; norm_num

omit hp hlo hhi

/-! ## The reference's integers and masks -/

/-- The reference's clip of a whole number to the image, as an integer, negative ones counted from the end. -/
def clipS (f : Ideal .f32) : BitVec 32 :=
  let y := FloatOps.fptosi (F := Ideal) 32 (FloatOps.minimumf (FloatOps.sitofp (F := Ideal) .f32 383#32) (FloatOps.maximumf (FloatOps.sitofp (F := Ideal) .f32 0#32) f))
  Scalar.select (IntOp.cmpi .slt y 0#32) (IntOp.addi y 384#32) y

theorem clipS_toNat (a : ℤ) : (clipS ((a : ℝ) : EReal)).toInt.toNat = min 383 a.toNat := by
  have e : FloatOps.fptosi (F := Ideal) 32 (FloatOps.minimumf (FloatOps.sitofp (F := Ideal) .f32 383#32) (FloatOps.maximumf (FloatOps.sitofp (F := Ideal) .f32 0#32) (((a : ℝ) : EReal) : Ideal .f32)))
      = BitVec.ofInt 32 (min 383 (max 0 a)) := by
    show BitVec.ofInt 32 (Ideal.toIntClamped (-(2 ^ 31 : Nat)) ((2 ^ 31 : Nat) - 1) (min ((((383#32 : BitVec 32).toInt : ℝ)) : EReal) (max ((((0#32 : BitVec 32).toInt : ℝ)) : EReal) ((a : ℝ) : EReal)))) = _
    rw [show (383#32 : BitVec 32).toInt = 383 from rfl, show (0#32 : BitVec 32).toInt = 0 from rfl, coe_max, coe_min, ← Int.cast_max, ← Int.cast_min]
    rw [Ideal.toIntClamped_coe, Int.floor_intCast, Int.ceil_intCast, ite_self, min_eq_right (by push_cast; omega), max_eq_right (by push_cast; omega)]
  unfold clipS
  dsimp only
  rw [e]
  have t := toInt_ofInt_of_lt (min 383 (max 0 a)) (by omega) (by omega)
  have s : IntOp.cmpi .slt (BitVec.ofInt 32 (min 383 (max 0 a))) 0#32 = 0#1 := by
    unfold IntOp.cmpi
    simp only [BitVec.slt, t, show (0#32 : BitVec 32).toInt = 0 from rfl]
    rw [decide_eq_false (by omega)]; rfl
  rw [s, select_zero, t]
  omega

/-- The reference's mask: both whole numbers are coordinates of the image. -/
def maskS (fx fy : Ideal .f32) : Ideal .f32 :=
  FloatOps.uitofp .f32 (IntOp.andi (IntOp.andi (IntOp.andi (FloatOps.cmpf .oge fx (FloatOps.ofBits .f32 0x00000000#32)) (FloatOps.cmpf .ole fx (FloatOps.ofBits .f32 0x43BF8000#32)))
    (FloatOps.cmpf .oge fy (FloatOps.ofBits .f32 0x00000000#32))) (FloatOps.cmpf .ole fy (FloatOps.ofBits .f32 0x43BF8000#32)))

theorem maskS_eq (a b : ℤ) : maskS ((a : ℝ) : EReal) ((b : ℝ) : EReal) = (inImage a : EReal) * (inImage b : EReal) := by
  have e : maskS ((a : ℝ) : EReal) ((b : ℝ) : EReal) = (((IntOp.andi (IntOp.andi (IntOp.andi
      (BitVec.ofBool (decide (Ideal.ofBits .f32 0x00000000#32 ≤ ((a : ℝ) : EReal)))) (BitVec.ofBool (decide (((a : ℝ) : EReal) ≤ Ideal.ofBits .f32 0x43BF8000#32))))
      (BitVec.ofBool (decide (Ideal.ofBits .f32 0x00000000#32 ≤ ((b : ℝ) : EReal))))) (BitVec.ofBool (decide (((b : ℝ) : EReal) ≤ Ideal.ofBits .f32 0x43BF8000#32)))).toNat : ℝ) : EReal) := rfl
  have r0 (z : ℤ) : (((0 : ℝ) : EReal) ≤ ((z : ℝ) : EReal)) ↔ 0 ≤ z := by rw [EReal.coe_le_coe_iff]; exact_mod_cast Iff.rfl
  have r1 (z : ℤ) : (((z : ℝ) : EReal) ≤ ((383 : ℝ) : EReal)) ↔ z ≤ 383 := by rw [EReal.coe_le_coe_iff]; exact_mod_cast Iff.rfl
  rw [e, bits0, bits383, ← EReal.coe_mul]
  simp only [r0, r1]
  congr 1
  unfold inImage
  by_cases h1 : 0 ≤ a <;> by_cases h2 : a ≤ 383 <;> by_cases h3 : 0 ≤ b <;> by_cases h4 : b ≤ 383 <;> simp [h1, h2, h3, h4, IntOp.andi]

/-- The reference's floor. -/
def floorS (p : Ideal .f32) : Ideal .f32 := Ideal.liftRound Int.floor p

theorem floorS_coe (r : ℝ) : floorS (r : EReal) = ((⌊r⌋ : ℝ) : EReal) := by
  unfold floorS; rw [Ideal.liftRound_coe]

end Cert.KernelIdeal.Stages

end
-- ==== Proof.RefValue.lean ====
/-
  The reference's result at an image, a point and a channel: four terms, each a pixel read at two clipped whole numbers,
  masked and weighted.
-/
module

public import proofs.«01_k».proof.Proof.Gen.ReferenceIdeal.Run
public import proofs.«01_k».proof.Proof.Math
public import Idealize.ShloMosaic.Lib.Pipeline.Value

@[expose] public section

noncomputable section

namespace Cert.ReferenceIdeal.Sample

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.Value
open Cert.KernelIdeal.Stages (pixS clipS maskS floorS)

/-! ## The gather of pixels -/

/-- The pixels read at given pairs of integers, each held to the image. -/
theorem gather_apply {α : Type} (x : S4x96x384x384.Idx → α) (idx : IVec S4x10000x2 32) (b : Fin 4) (ch : Fin 96) (n : Fin 10000) :
    Host.gather gather_S4x96x384x384_S4x10000x2_S4x96x10000_1_23_0_0_23_2_19611 x idx (ix3 (n0 := 4) (n1 := 96) (n2 := 10000) b ch n)
      = x (ix4 (n0 := 4) (n1 := 96) (n2 := 384) (n3 := 384) b ch
          ⟨min (idx (ix3 (n0 := 4) (n1 := 10000) (n2 := 2) b n 0)).toInt.toNat 383, by omega⟩
          ⟨min (idx (ix3 (n0 := 4) (n1 := 10000) (n2 := 2) b n 1)).toInt.toNat 383, by omega⟩) := by
  unfold Host.gather
  refine congrArg x (funext fun a => Fin.ext ?_)
  show GatherDims.start _ _ idx a + GatherDims.batchCoord _ _ a + GatherDims.offCoord _ _ a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (by decide)]
    rfl
  · rw [GatherDims.batchCoord_eq_zero _ _ _ (fun h => by revert h; decide)]
    unfold GatherDims.start GatherDims.offCoord
    rw [dif_neg (fun h => by revert h; decide), dif_pos (by decide)]
    simp only [Nat.zero_add, Nat.add_zero]
    rfl
  · rw [GatherDims.batchCoord_eq_zero _ _ _ (fun h => by revert h; decide),
      GatherDims.offCoord_eq_zero _ _ _ (fun h => ((GatherDims.mem_sKept _ _).mp h).1 (by decide))]
    unfold GatherDims.start
    rw [dif_pos (by decide)]
    simp only [Nat.add_zero]
    refine congrArg (fun z => min (BitVec.toInt (idx z)).toNat 383) (funext fun c => Fin.ext ?_)
    match c with
    | ⟨0, _⟩ => rfl
    | ⟨1, _⟩ => rfl
    | ⟨2, _⟩ => rfl
  · rw [GatherDims.batchCoord_eq_zero _ _ _ (fun h => by revert h; decide),
      GatherDims.offCoord_eq_zero _ _ _ (fun h => ((GatherDims.mem_sKept _ _).mp h).1 (by decide))]
    unfold GatherDims.start
    rw [dif_pos (by decide)]
    simp only [Nat.add_zero]
    refine congrArg (fun z => min (BitVec.toInt (idx z)).toNat 383) (funext fun c => Fin.ext ?_)
    match c with
    | ⟨0, _⟩ => rfl
    | ⟨1, _⟩ => rfl
    | ⟨2, _⟩ => rfl

/-! ## One of the four terms -/

/-- A whole number per point, held to the image. -/
def held (f : FVec Ideal S4x10000 .f32) : IVec S4x10000 32 :=
  fptosi 32 (minimumf (broadcastInDim S4x10000 ![] bcast_S_S4x10000 (sitofp .f32 (constantI S_ 32 383#32)))
    (maximumf (broadcastInDim S4x10000 ![] bcast_S_S4x10000 (sitofp .f32 (constantI S_ 32 0#32))) f))

/-- An integer per point, negative ones counted from the end. -/
def wrapped (Y : IVec S4x10000 32) : IVec S4x10000 32 :=
  select (cmpi .slt Y (broadcastInDim S4x10000 ![] bcast_S_S4x10000 (constantI S_ 32 0#32)))
    (addi Y (broadcastInDim S4x10000 ![] bcast_S_S4x10000 (constantI S_ 32 384#32))) Y

/-- The pairs of integers the pixels are read at. -/
def pairs (Y X : IVec S4x10000 32) : IVec S4x10000x2 32 :=
  concatenate S4x10000x2 2 [⟨S4x10000x1, (broadcastInDim S4x10000x1 ![0, 1] bcast_S4x10000_S4x10000x1_0_1 (wrapped Y))⟩,
    ⟨S4x10000x1, (broadcastInDim S4x10000x1 ![0, 1] bcast_S4x10000_S4x10000x1_0_1 (wrapped X))⟩] concatenates_S4x10000x1_S4x10000x1_S4x10000x2_d2

/-- The mask of the points whose pixel is in the image. -/
def mask (fx fy : FVec Ideal S4x10000 .f32) : FVec Ideal S4x10000 .f32 :=
  uitofp .f32 (andi (andi (andi (cmpf .oge fx (broadcastInDim S4x10000 ![] bcast_S_S4x10000 (constant S_ .f32 0x00000000#32)))
      (cmpf .ole fx (broadcastInDim S4x10000 ![] bcast_S_S4x10000 (constant S_ .f32 0x43BF8000#32))))
    (cmpf .oge fy (broadcastInDim S4x10000 ![] bcast_S_S4x10000 (constant S_ .f32 0x00000000#32))))
    (cmpf .ole fy (broadcastInDim S4x10000 ![] bcast_S_S4x10000 (constant S_ .f32 0x43BF8000#32))))

/-- A number per point, for every channel. -/
def spread (M : FVec Ideal S4x10000 .f32) : FVec Ideal S4x96x10000 .f32 :=
  broadcastInDim S4x96x10000 ![0, 1, 2] bcast_S4x1x10000_S4x96x10000_0_1_2 (broadcastInDim S4x1x10000 ![0, 2] bcast_S4x10000_S4x1x10000_0_2 M)

/-- One of the four terms. -/
def term (A : FVec Ideal S4x96x384x384 .f32) (fx fy W : FVec Ideal S4x10000 .f32) : FVec Ideal S4x96x10000 .f32 :=
  mulf (mulf (Host.gather gather_S4x96x384x384_S4x10000x2_S4x96x10000_1_23_0_0_23_2_19611 A (pairs (held fy) (held fx))) (spread (mask fx fy))) (spread W)

/-- The same at a point: the pixel at two clipped whole numbers, masked and weighted. -/
def termS (A : FVec Ideal S4x96x384x384 .f32) (b : Fin 4) (ch : Fin 96) (fx fy w : EReal) : EReal :=
  A (ix4 (n0 := 4) (n1 := 96) (n2 := 384) (n3 := 384) b ch ⟨min (clipS fy).toInt.toNat 383, by omega⟩ ⟨min (clipS fx).toInt.toNat 383, by omega⟩)
    * maskS fx fy * w

theorem wrapped_held (f : FVec Ideal S4x10000 .f32) (i : S4x10000.Idx) : wrapped (held f) i = clipS (f i) := rfl

theorem mask_apply (fx fy : FVec Ideal S4x10000 .f32) (i : S4x10000.Idx) : mask fx fy i = maskS (fx i) (fy i) := rfl

theorem spread_apply (M : FVec Ideal S4x10000 .f32) (b : Fin 4) (ch : Fin 96) (n : Fin 10000) :
    spread M (ix3 (n0 := 4) (n1 := 96) (n2 := 10000) b ch n) = M (ix2 (n0 := 4) (n1 := 10000) b n) := by
  unfold spread
  rw [broadcastInDim_apply (t := S4x96x10000) _ _ _ _ (ix3 (n0 := 4) (n1 := 1) (n2 := 10000) b 0 n)
    (fun a => by match a with | ⟨0, _⟩ => rfl | ⟨1, _⟩ => rfl | ⟨2, _⟩ => rfl)]
  exact broadcastInDim_apply (t := S4x1x10000) (s := S4x10000) _ _ _ _ _
    (fun a => by match a with | ⟨0, _⟩ => rfl | ⟨1, _⟩ => rfl)

theorem pairs_y (Y X : IVec S4x10000 32) (b : Fin 4) (n : Fin 10000) :
    pairs Y X (ix3 (n0 := 4) (n1 := 10000) (n2 := 2) b n 0) = wrapped Y (ix2 (n0 := 4) (n1 := 10000) b n) := by
  unfold pairs
  rw [concatenate_pair_apply_left (t := S4x10000x2) (s₁ := S4x10000x1) (s₂ := S4x10000x1) 2 _ _ _ _ rfl (ix3 (n0 := 4) (n1 := 10000) (n2 := 1) b n 0)
    (fun a => by match a with | ⟨0, _⟩ => rfl | ⟨1, _⟩ => rfl | ⟨2, _⟩ => rfl)]
  exact broadcastInDim_apply (t := S4x10000x1) (s := S4x10000) _ _ _ _ _
    (fun a => by match a with | ⟨0, _⟩ => rfl | ⟨1, _⟩ => rfl)

theorem pairs_x (Y X : IVec S4x10000 32) (b : Fin 4) (n : Fin 10000) :
    pairs Y X (ix3 (n0 := 4) (n1 := 10000) (n2 := 2) b n 1) = wrapped X (ix2 (n0 := 4) (n1 := 10000) b n) := by
  unfold pairs
  rw [concatenate_pair_apply_right (t := S4x10000x2) (s₁ := S4x10000x1) (s₂ := S4x10000x1) 2 _ _ _ _ rfl rfl (ix3 (n0 := 4) (n1 := 10000) (n2 := 1) b n 0)
    (fun a ha => by match a, ha with | ⟨0, _⟩, _ => rfl | ⟨1, _⟩, _ => rfl | ⟨2, _⟩, ha => exact absurd rfl ha) rfl]
  exact broadcastInDim_apply (t := S4x10000x1) (s := S4x10000) _ _ _ _ _
    (fun a => by match a with | ⟨0, _⟩ => rfl | ⟨1, _⟩ => rfl)

theorem term_apply (A : FVec Ideal S4x96x384x384 .f32) (fx fy W : FVec Ideal S4x10000 .f32) (b : Fin 4) (ch : Fin 96) (n : Fin 10000) :
    term A fx fy W (ix3 (n0 := 4) (n1 := 96) (n2 := 10000) b ch n)
      = termS A b ch (fx (ix2 (n0 := 4) (n1 := 10000) b n)) (fy (ix2 (n0 := 4) (n1 := 10000) b n)) (W (ix2 (n0 := 4) (n1 := 10000) b n)) := by
  unfold term termS
  show Host.gather _ A _ _ * spread _ _ * spread _ _ = _
  rw [gather_apply, spread_apply, spread_apply, mask_apply]
  simp only [pairs_y, pairs_x, wrapped_held]

/-! ## The four terms -/

variable (V : Valuation τ sig (Elt Ideal))

/-- The images. -/
abbrev img : FVec Ideal S4x96x384x384 .f32 := V (Proc.devRef .tc main_arg0)
/-- The positions. -/
abbrev pos : FVec Ideal S4x10000x2 .f32 := V (Proc.devRef .tc main_arg1)

/-- The reference's result. -/
def total : FVec Ideal S4x10000x96 .f32 :=
  transpose S4x10000x96 [0, 2, 1]
    (addf (addf (addf (term (img V) (res_main_v27 V) (res_main_v28 V) (mulf (res_main_v35 V) (res_main_v38 V)))
      (term (img V) (res_main_v30 V) (res_main_v28 V) (mulf (res_main_v33 V) (res_main_v38 V))))
      (term (img V) (res_main_v27 V) (res_main_v32 V) (mulf (res_main_v35 V) (res_main_v36 V))))
      (term (img V) (res_main_v30 V) (res_main_v32 V) (mulf (res_main_v33 V) (res_main_v36 V))))
    transposes_S4x96x10000_S4x10000x96_0_2_1

theorem v6_apply (i : S4x10000x2.Idx) : res_main_v6 V i
    = Ideal.ofBits .f32 0x40000000#32 * Ideal.div (pos V i) (Ideal.ofBits .f32 0x43BF8000#32) - Ideal.ofBits .f32 0x3F800000#32 := rfl

theorem v18_apply (b : Fin 4) (n : Fin 10000) : res_main_v18 V (ix2 (n0 := 4) (n1 := 10000) b n)
    = pixS (pos V (ix3 (n0 := 4) (n1 := 10000) (n2 := 2) b n 0)) := by
  have e : shapeCast S4x10000 (extractStridedSlice S4x10000x1 ![0, 0, 0] (res_main_v6 V) slices_S4x10000x2_S4x10000x1_0_0_0) shapeCasts_S4x10000x1_S4x10000
      (ix2 (n0 := 4) (n1 := 10000) b n) = res_main_v6 V (ix3 (n0 := 4) (n1 := 10000) (n2 := 2) b n 0) := by
    rw [shapeCast_apply (t := S4x10000) (s := S4x10000x1) _ _ _ (ix3 (n0 := 4) (n1 := 10000) (n2 := 1) b n 0)
      (by rw [Shape.rowMajor_val_two, Shape.rowMajor_val_three]
          show (b.val * 10000 + n.val) * 1 + 0 = b.val * 10000 + n.val; omega)]
    exact extractStridedSlice_apply (t := S4x10000x1) _ _ _ _ _
      (fun a => by match a with | ⟨0, _⟩ => exact (Nat.zero_add _).symm | ⟨1, _⟩ => exact (Nat.zero_add _).symm | ⟨2, _⟩ => rfl)
  show Ideal.div ((((shapeCast S4x10000 (extractStridedSlice S4x10000x1 ![0, 0, 0] (res_main_v6 V) slices_S4x10000x2_S4x10000x1_0_0_0) shapeCasts_S4x10000x1_S4x10000
      (ix2 (n0 := 4) (n1 := 10000) b n) : EReal) + Ideal.ofBits .f32 0x3F800000#32) * Ideal.ofBits .f32 0x43C00000#32 - Ideal.ofBits .f32 0x3F800000#32 : EReal))
    (Ideal.ofBits .f32 0x40000000#32) = _
  rw [e, v6_apply]
  rfl

theorem v26_apply (b : Fin 4) (n : Fin 10000) : res_main_v26 V (ix2 (n0 := 4) (n1 := 10000) b n)
    = pixS (pos V (ix3 (n0 := 4) (n1 := 10000) (n2 := 2) b n 1)) := by
  have e : shapeCast S4x10000 (extractStridedSlice S4x10000x1 ![0, 0, 1] (res_main_v6 V) slices_S4x10000x2_S4x10000x1_0_0_1) shapeCasts_S4x10000x1_S4x10000
      (ix2 (n0 := 4) (n1 := 10000) b n) = res_main_v6 V (ix3 (n0 := 4) (n1 := 10000) (n2 := 2) b n 1) := by
    rw [shapeCast_apply (t := S4x10000) (s := S4x10000x1) _ _ _ (ix3 (n0 := 4) (n1 := 10000) (n2 := 1) b n 0)
      (by rw [Shape.rowMajor_val_two, Shape.rowMajor_val_three]
          show (b.val * 10000 + n.val) * 1 + 0 = b.val * 10000 + n.val; omega)]
    exact extractStridedSlice_apply (t := S4x10000x1) _ _ _ _ _
      (fun a => by match a with | ⟨0, _⟩ => exact (Nat.zero_add _).symm | ⟨1, _⟩ => exact (Nat.zero_add _).symm | ⟨2, _⟩ => rfl)
  show Ideal.div ((((shapeCast S4x10000 (extractStridedSlice S4x10000x1 ![0, 0, 1] (res_main_v6 V) slices_S4x10000x2_S4x10000x1_0_0_1) shapeCasts_S4x10000x1_S4x10000
      (ix2 (n0 := 4) (n1 := 10000) b n) : EReal) + Ideal.ofBits .f32 0x3F800000#32) * Ideal.ofBits .f32 0x43C00000#32 - Ideal.ofBits .f32 0x3F800000#32 : EReal))
    (Ideal.ofBits .f32 0x40000000#32) = _
  rw [e, v6_apply]
  rfl

/-- The reference's result at image `b`, point `n`, channel `ch`. -/
theorem total_apply (b : Fin 4) (n : Fin 10000) (ch : Fin 96) (X Y : EReal)
    (hX : pixS (pos V (ix3 (n0 := 4) (n1 := 10000) (n2 := 2) b n 0)) = X) (hY : pixS (pos V (ix3 (n0 := 4) (n1 := 10000) (n2 := 2) b n 1)) = Y) :
    total V (ix3 (n0 := 4) (n1 := 10000) (n2 := 96) b n ch)
      = termS (img V) b ch (floorS X) (floorS Y) ((Ideal.ofBits .f32 0x3F800000#32 - (X - floorS X)) * (Ideal.ofBits .f32 0x3F800000#32 - (Y - floorS Y)))
        + termS (img V) b ch (floorS X + Ideal.ofBits .f32 0x3F800000#32) (floorS Y) ((X - floorS X) * (Ideal.ofBits .f32 0x3F800000#32 - (Y - floorS Y)))
        + termS (img V) b ch (floorS X) (floorS Y + Ideal.ofBits .f32 0x3F800000#32) ((Ideal.ofBits .f32 0x3F800000#32 - (X - floorS X)) * (Y - floorS Y))
        + termS (img V) b ch (floorS X + Ideal.ofBits .f32 0x3F800000#32) (floorS Y + Ideal.ofBits .f32 0x3F800000#32) ((X - floorS X) * (Y - floorS Y)) := by
  unfold total
  rw [transpose_apply (t := S4x10000x96) [0, 2, 1] _ _ _ (ix3 (n0 := 4) (n1 := 96) (n2 := 10000) b ch n)
    (fun a => by match a with | ⟨0, _⟩ => rfl | ⟨1, _⟩ => rfl | ⟨2, _⟩ => rfl)]
  show term _ _ _ _ _ + term _ _ _ _ _ + term _ _ _ _ _ + term _ _ _ _ _ = _
  rw [term_apply, term_apply, term_apply, term_apply]
  have e18 := (v18_apply V b n).trans hX
  have e26 := (v26_apply V b n).trans hY
  subst hX hY
  have e27 : res_main_v27 V (ix2 (n0 := 4) (n1 := 10000) b n) = floorS (res_main_v18 V (ix2 (n0 := 4) (n1 := 10000) b n)) := rfl
  have e28 : res_main_v28 V (ix2 (n0 := 4) (n1 := 10000) b n) = floorS (res_main_v26 V (ix2 (n0 := 4) (n1 := 10000) b n)) := rfl
  have e30 : res_main_v30 V (ix2 (n0 := 4) (n1 := 10000) b n) = floorS (res_main_v18 V (ix2 (n0 := 4) (n1 := 10000) b n)) + Ideal.ofBits .f32 0x3F800000#32 := rfl
  have e32 : res_main_v32 V (ix2 (n0 := 4) (n1 := 10000) b n) = floorS (res_main_v26 V (ix2 (n0 := 4) (n1 := 10000) b n)) + Ideal.ofBits .f32 0x3F800000#32 := rfl
  have e33 : res_main_v33 V (ix2 (n0 := 4) (n1 := 10000) b n) = @HSub.hSub EReal EReal EReal _ (res_main_v18 V (ix2 (n0 := 4) (n1 := 10000) b n)) (floorS (res_main_v18 V (ix2 (n0 := 4) (n1 := 10000) b n))) := rfl
  have e36 : res_main_v36 V (ix2 (n0 := 4) (n1 := 10000) b n) = @HSub.hSub EReal EReal EReal _ (res_main_v26 V (ix2 (n0 := 4) (n1 := 10000) b n)) (floorS (res_main_v26 V (ix2 (n0 := 4) (n1 := 10000) b n))) := rfl
  have e35 : res_main_v35 V (ix2 (n0 := 4) (n1 := 10000) b n) = @HSub.hSub EReal EReal EReal _ (Ideal.ofBits .f32 0x3F800000#32) (res_main_v33 V (ix2 (n0 := 4) (n1 := 10000) b n)) := rfl
  have e38 : res_main_v38 V (ix2 (n0 := 4) (n1 := 10000) b n) = @HSub.hSub EReal EReal EReal _ (Ideal.ofBits .f32 0x3F800000#32) (res_main_v36 V (ix2 (n0 := 4) (n1 := 10000) b n)) := rfl
  have em (P Q : FVec Ideal S4x10000 .f32) (i : S4x10000.Idx) : mulf P Q i = @HMul.hMul EReal EReal EReal _ (P i) (Q i) := rfl
  simp only [em, e27, e28, e30, e32, e35, e38, e33, e36, e18, e26]

/-- The reference runs to it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v190) = total (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.ReferenceIdeal.Sample

end
-- ==== Proof.Algebraic.lean ====
/-
  The two programs compute the same numbers over the extended reals, for points in the image.
-/
module

public import proofs.«01_k».proof.Defs
public import proofs.«01_k».proof.Proof.KernelValue
public import proofs.«01_k».proof.Proof.RefValue
public import proofs.«01_k».proof.Proof.Gen.Pre_in_image
public import Idealize.ShloMosaic.Lib.ReduceAll
public import Idealize.ShloMosaic.Lib.Affine

@[expose] public section

noncomputable section

namespace Cert.KernelIdeal.Stages

open Idealize.ShloMosaic hiding ix1 ix2 ix3 ix4
open Idealize.ShloMosaic.TcCoe Idealize.ShloMosaic.ValueIdx
open Cert.KernelIdeal Cert.KernelIdeal.Gen
open Cert.ReferenceIdeal.Sample (termS)

/-- A term of the reference at two whole numbers. -/
theorem termS_eq (A : S4x96x384x384.Idx → EReal) (b : Fin 4) (ch : Fin 96) (p q : ℤ) (w : EReal) :
    termS A b ch ((p : ℝ) : EReal) ((q : ℝ) : EReal) w
      = A (ix4 (n0 := 4) (n1 := 96) (n2 := 384) (n3 := 384) b ch ⟨min 383 q.toNat, by omega⟩ ⟨min 383 p.toNat, by omega⟩)
        * (w * ((inImage p : EReal) * (inImage q : EReal))) := by
  unfold termS
  rw [maskS_eq, mul_assoc, mul_comm w]
  refine congrArg (fun z => A z * _) (funext fun a => Fin.ext ?_)
  match a with
  | ⟨0, _⟩ => rfl
  | ⟨1, _⟩ => rfl
  | ⟨2, _⟩ => show min (clipS ((q : ℝ) : EReal)).toInt.toNat 383 = min 383 q.toNat; rw [clipS_toNat]; omega
  | ⟨3, _⟩ => show min (clipS ((p : ℝ) : EReal)).toInt.toNat 383 = min 383 p.toNat; rw [clipS_toNat]; omega

theorem coe_floor_add (u : ℝ) : ((⌊u⌋ : ℝ) : EReal) + ((1 : ℝ) : EReal) = (((⌊u⌋ + 1 : ℤ) : ℝ) : EReal) := by
  rw [← EReal.coe_add]; push_cast; rfl

/-- The four weighted pixels of the kernel are the four terms of the reference. -/
theorem comb_eq (A : S4x96x384x384.Idx → EReal) (b : Fin 4) (ch : Fin 96) {px py : Ideal .f32} {u v : ℝ}
    (hx : pixS px = (u : EReal)) (hx0 : -1 ≤ ⌊u⌋) (hx1 : ⌊u⌋ ≤ 383) (hy : pixS py = (v : EReal)) (hy0 : -1 ≤ ⌊v⌋) (hy1 : ⌊v⌋ ≤ 383) :
    comb (F := Ideal) (fun k => A (ix4 (n0 := 4) (n1 := 96) (n2 := 384) (n3 := 384) b ch
        ⟨(nearY py k).toNat, nearY_lt _ k⟩ ⟨(nearX px k).toNat, nearX_lt _ k⟩)) (fun k => wtS px py k)
      = termS A b ch (floorS (u : EReal)) (floorS (v : EReal)) ((Ideal.ofBits .f32 0x3F800000#32 - ((u : EReal) - floorS (u : EReal))) * (Ideal.ofBits .f32 0x3F800000#32 - ((v : EReal) - floorS (v : EReal))))
        + termS A b ch (floorS (u : EReal) + Ideal.ofBits .f32 0x3F800000#32) (floorS (v : EReal)) (((u : EReal) - floorS (u : EReal)) * (Ideal.ofBits .f32 0x3F800000#32 - ((v : EReal) - floorS (v : EReal))))
        + termS A b ch (floorS (u : EReal)) (floorS (v : EReal) + Ideal.ofBits .f32 0x3F800000#32) ((Ideal.ofBits .f32 0x3F800000#32 - ((u : EReal) - floorS (u : EReal))) * ((v : EReal) - floorS (v : EReal)))
        + termS A b ch (floorS (u : EReal) + Ideal.ofBits .f32 0x3F800000#32) (floorS (v : EReal) + Ideal.ofBits .f32 0x3F800000#32) (((u : EReal) - floorS (u : EReal)) * ((v : EReal) - floorS (v : EReal))) := by
  have x0 : (heldS (lowS (F := Ideal) px)).toNat = min 383 ⌊u⌋.toNat := by rw [heldS_toNat, lowS_toInt hx hx0 hx1]
  have x1 : (heldS (lowS (F := Ideal) px + 1#32)).toNat = min 383 (⌊u⌋ + 1).toNat := by rw [heldS_toNat, lowS_add_toInt hx hx0 hx1]
  have y0 : (heldS (lowS (F := Ideal) py)).toNat = min 383 ⌊v⌋.toNat := by rw [heldS_toNat, lowS_toInt hy hy0 hy1]
  have y1 : (heldS (lowS (F := Ideal) py + 1#32)).toNat = min 383 (⌊v⌋ + 1).toNat := by rw [heldS_toNat, lowS_add_toInt hy hy0 hy1]
  rw [floorS_coe, floorS_coe, bits1, coe_floor_add, coe_floor_add, termS_eq, termS_eq, termS_eq, termS_eq]
  have e {r s : Fin 384} {r' s' : ℕ} {hr' : r' < 384} {hs' : s' < 384} {w w' : EReal} (hr : r.val = r') (hs : s.val = s') (hw : w = w') :
      A (ix4 (n0 := 4) (n1 := 96) (n2 := 384) (n3 := 384) b ch r s) * w = A (ix4 (n0 := 4) (n1 := 96) (n2 := 384) (n3 := 384) b ch ⟨r', hr'⟩ ⟨s', hs'⟩) * w' := by
    subst hr hs hw; rfl
  have lx := loW_eq hx hx0 hx1 (ix1 (0 : Fin 16))
  have hx' := hiW_eq hx hx0 hx1 (ix1 (0 : Fin 16))
  have ly := loW_eq hy hy0 hy1 (ix1 (0 : Fin 16))
  have hy' := hiW_eq hy hy0 hy1 (ix1 (0 : Fin 16))
  have vx := loV_eq hx hx0 hx1 (ix1 (0 : Fin 16))
  have vx' := hiV_eq hx hx0 hx1 (ix1 (0 : Fin 16))
  have vy := loV_eq hy hy0 hy1 (ix1 (0 : Fin 16))
  have vy' := hiV_eq hy hy0 hy1 (ix1 (0 : Fin 16))
  rw [EReal.coe_sub] at hx' hy'
  rw [EReal.coe_sub, EReal.coe_sub] at lx ly
  refine congrArg₂ (fun p q : EReal => p + q) (congrArg₂ (fun p q : EReal => p + q) (congrArg₂ (fun p q : EReal => p + q) (e y0 x0 ?_) (e y0 x1 ?_)) (e y1 x0 ?_)) (e y1 x1 ?_)
  · exact congrArg₂ (fun p q : EReal => p * q) (congrArg₂ (fun p q : EReal => p * q) lx ly) (congrArg₂ (fun p q : EReal => p * q) vx vy)
  · exact congrArg₂ (fun p q : EReal => p * q) (congrArg₂ (fun p q : EReal => p * q) hx' ly) (congrArg₂ (fun p q : EReal => p * q) vx' vy)
  · exact congrArg₂ (fun p q : EReal => p * q) (congrArg₂ (fun p q : EReal => p * q) lx hy') (congrArg₂ (fun p q : EReal => p * q) vx vy')
  · exact congrArg₂ (fun p q : EReal => p * q) (congrArg₂ (fun p q : EReal => p * q) hx' hy') (congrArg₂ (fun p q : EReal => p * q) vx' vy')

end Cert.KernelIdeal.Stages

namespace Cert.Proof

open Idealize.ShloMosaic hiding ix1 ix2 ix3 ix4
open Idealize.ShloMosaic.TcCoe Idealize.ShloMosaic.ValueIdx Idealize.SL.Sem
open Cert.KernelIdeal.Stages

/-- The precondition at an index: the coordinate is in the image. -/
theorem in_image_apply (A : FVec Ideal Cert.Pre_in_image.S4x96x384x384 .f32) (P : FVec Ideal Cert.Pre_in_image.S4x10000x2 .f32)
    (h : @Cert.Pre_in_image.fn Cert.Pre_in_image.Gen.facts Ideal _ A P = fun _ => 1#1) (i : Cert.Pre_in_image.S4x10000x2.Idx) :
    (0 : EReal) ≤ P i ∧ P i ≤ ((383 : ℝ) : EReal) := by
  haveI : Subsingleton Cert.Pre_in_image.S_.Idx := ⟨fun a b => funext fun k => k.elim0⟩
  have h' := Host.reduce_andi_all _ _ _ _ ValueIdx.ix0 (congrFun h ValueIdx.ix0) i
  obtain ⟨h0, h1⟩ := IntOp.andi_eq_one.1 h'
  have e0 : BitVec.ofBool (decide (Ideal.ofBits .f32 0x00000000#32 ≤ P i)) = 1#1 := h0
  have e1 : BitVec.ofBool (decide (P i ≤ Ideal.ofBits .f32 0x43BF8000#32)) = 1#1 := h1
  have ob (c : Bool) (hc : BitVec.ofBool c = 1#1) : c = true := by revert hc; cases c <;> decide
  rw [bits0] at e0
  rw [bits383] at e1
  exact ⟨of_decide_eq_true (ob _ e0), of_decide_eq_true (ob _ e1)⟩

/-- The two results are the same numbers. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpos : ∀ i, (0 : EReal) ≤ posV m c i ∧ posV m c i ≤ ((383 : ℝ) : EReal))
    (h0 : Cert.ReferenceIdeal.Sample.img (StableHlo.launchContents m' c) = imgV m c)
    (h1 : Cert.ReferenceIdeal.Sample.pos (StableHlo.launchContents m' c) = posV m c) :
    Cert.ReferenceIdeal.Sample.total (StableHlo.launchContents m' c) = resV m c := by
  funext x
  rw [ValueIdx.eq_ix3 x]
  obtain ⟨u, hx, hx0, hx1⟩ := pixS_range (hpos (ix3 (n0 := 4) (n1 := 10000) (n2 := 2) (x 0) (x 1) 0)).1 (hpos _).2
  obtain ⟨v, hy, hy0, hy1⟩ := pixS_range (hpos (ix3 (n0 := 4) (n1 := 10000) (n2 := 2) (x 0) (x 1) 1)).1 (hpos _).2
  refine (Cert.ReferenceIdeal.Sample.total_apply _ (x 0) (x 1) (x 2) u v (by rw [h1]; exact hx) (by rw [h1]; exact hy)).trans ?_
  rw [h0]
  refine Eq.trans ?_ (resV_apply m c (x 0) (x 1) (x 2)).symm
  exact (comb_eq (imgV m c) (x 0) (x 2) hx hx0 hx1 hy hy0 hy1).symm

/-- The kernel and the reference end with the same result, for points in the image. -/
theorem algebraic : Cert.algebraic_KernelIdeal_ReferenceIdeal_pre_in_image (hKernelIdeal := Cert.KernelIdeal.Gen.facts)
    (hReferenceIdeal := Cert.ReferenceIdeal.Gen.facts) (hPre_in_image := Cert.Pre_in_image.Gen.facts) := fun m g m' g' hpre hargs => by
  refine ⟨fun c => resV m c, ?_, ?_⟩
  · exact (θ_run (Cert.KernelIdeal.defs (F := Ideal)) _ _).mono (fun _ h c => ⟨(h.1 c).2.2, (h.1 c).1, (h.1 c).2.1⟩) (run_main (F := Ideal) m g)
  · refine (θ_run (Cert.ReferenceIdeal.defs (F := Ideal)) _ _).mono (fun _ h c => ⟨(h c).1.trans ?_, (h c).2⟩) (Cert.ReferenceIdeal.Sample.run m' g')
    exact same_result m m' c (in_image_apply _ _ (hpre c)) (hargs c).1 (hargs c).2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_image
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_in_image.Gen.facts, kernel_frame, ideal_frame, fun m g _ => ideal_frame m g trivial, reference_frame,
    fun m g _ => reference_frame m g trivial, trivial, algebraic⟩

end Cert.Proof

end
